-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_sorted_batch [hPre_sorted_batch : Cert.Pre_sorted_batch.Facts] (m : (ℓ : Loc Cert.PoolIdeal.nD Cert.PoolIdeal.τ Cert.PoolIdeal.sig) → Buf (Elt Ideal) ℓ) : Prop :=
  ∀ c : Dev Cert.PoolIdeal.nD,
    (Cert.Pre_sorted_batch.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_sorted_batch [hPre_sorted_batch : Cert.Pre_sorted_batch.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_sorted_batch.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4)) (m ((c.tc : Thread Cert.PoolReferenceIdeal.nD Cert.PoolReferenceIdeal.τ).loc Cert.PoolReferenceIdeal.main_arg5)) (m ((c.tc : Thread Cert.PoolReferenceIdeal.nD Cert.PoolReferenceIdeal.τ).loc Cert.PoolReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolIdeal_pre_sorted_batch [hPoolIdeal : Cert.PoolIdeal.Facts] [hPre_sorted_batch : Cert.Pre_sorted_batch.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_sorted_batch m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6))
      ∧ r.2.sem = fun _ => 0)

def quiescent_PoolReferenceIdeal_pre_sorted_batch [hPoolReferenceIdeal : Cert.PoolReferenceIdeal.Facts] [hPre_sorted_batch : Cert.Pre_sorted_batch.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_sorted_batch m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6))
      ∧ r.2.sem = fun _ => 0)

def preserves_Kernel_KernelIdeal : Prop :=
  True

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg4)) (v2 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Pool_PoolIdeal : Prop :=
  True

def algebraic_PoolIdeal_PoolReferenceIdeal_pre_sorted_batch [hPoolIdeal : Cert.PoolIdeal.Facts] [hPoolReferenceIdeal : Cert.PoolReferenceIdeal.Facts] [hPre_sorted_batch : Cert.Pre_sorted_batch.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal_sorted_batch m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)
      ∧ m' ((c.tc : Thread Cert.PoolReferenceIdeal.nD Cert.PoolReferenceIdeal.τ).loc Cert.PoolReferenceIdeal.main_arg4) = m ((c.tc : Thread Cert.PoolIdeal.nD Cert.PoolIdeal.τ).loc Cert.PoolIdeal.main_arg4)
      ∧ m' ((c.tc : Thread Cert.PoolReferenceIdeal.nD Cert.PoolReferenceIdeal.τ).loc Cert.PoolReferenceIdeal.main_arg5) = m ((c.tc : Thread Cert.PoolIdeal.nD Cert.PoolIdeal.τ).loc Cert.PoolIdeal.main_arg5)
      ∧ m' ((c.tc : Thread Cert.PoolReferenceIdeal.nD Cert.PoolReferenceIdeal.τ).loc Cert.PoolReferenceIdeal.main_arg6) = m ((c.tc : Thread Cert.PoolIdeal.nD Cert.PoolIdeal.τ).loc Cert.PoolIdeal.main_arg6)) →
    ∃ (v0 : (c : Dev Cert.PoolIdeal.nD) → Buf (Elt Ideal) ((c.tc : Thread Cert.PoolIdeal.nD Cert.PoolIdeal.τ).loc Cert.PoolIdeal.main_v5)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v5) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v20) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4)
          ∧ r.2.mem ((c.tc : Thread Cert.PoolReferenceIdeal.nD Cert.PoolReferenceIdeal.τ).loc Cert.PoolReferenceIdeal.main_arg5) = m' ((c.tc : Thread Cert.PoolReferenceIdeal.nD Cert.PoolReferenceIdeal.τ).loc Cert.PoolReferenceIdeal.main_arg5)
          ∧ r.2.mem ((c.tc : Thread Cert.PoolReferenceIdeal.nD Cert.PoolReferenceIdeal.τ).loc Cert.PoolReferenceIdeal.main_arg6) = m' ((c.tc : Thread Cert.PoolReferenceIdeal.nD Cert.PoolReferenceIdeal.τ).loc Cert.PoolReferenceIdeal.main_arg6))

def Claim : Prop :=
  ∃ (hKernel : Cert.Kernel.Facts) (hKernelIdeal : Cert.KernelIdeal.Facts) (hReferenceIdeal : Cert.ReferenceIdeal.Facts) (hPool : Cert.Pool.Facts) (hPoolIdeal : Cert.PoolIdeal.Facts) (hPoolReferenceIdeal : Cert.PoolReferenceIdeal.Facts) (hPre_in_range : Cert.Pre_in_range.Facts) (hPre_sorted_ids : Cert.Pre_sorted_ids.Facts) (hPre_sorted_batch : Cert.Pre_sorted_batch.Facts),
    quiescent_Kernel (hKernel := hKernel) (hPre_in_range := hPre_in_range)
    ∧ quiescent_KernelIdeal (hKernelIdeal := hKernelIdeal) (hPre_in_range := hPre_in_range)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ quiescent_Pool (hPool := hPool)
    ∧ quiescent_PoolIdeal (hPoolIdeal := hPoolIdeal)
    ∧ quiescent_PoolIdeal_pre_sorted_batch (hPoolIdeal := hPoolIdeal) (hPre_sorted_batch := hPre_sorted_batch)
    ∧ quiescent_PoolReferenceIdeal (hPoolReferenceIdeal := hPoolReferenceIdeal)
    ∧ quiescent_PoolReferenceIdeal_pre_sorted_batch (hPoolReferenceIdeal := hPoolReferenceIdeal) (hPre_sorted_batch := hPre_sorted_batch)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
    ∧ preserves_Pool_PoolIdeal
    ∧ algebraic_PoolIdeal_PoolReferenceIdeal_pre_sorted_batch (hPoolIdeal := hPoolIdeal) (hPoolReferenceIdeal := hPoolReferenceIdeal) (hPre_sorted_batch := hPre_sorted_batch)
-- ==== Pre_in_range.lean ====
abbrev S16384x64 : Shape := ⟨2, ![16384, 64]⟩
abbrev S16384x3 : Shape := ⟨2, ![16384, 3]⟩
abbrev S16384 : Shape := ⟨1, ![16384]⟩
abbrev S65536x64 : Shape := ⟨2, ![65536, 64]⟩
abbrev S65536x3 : Shape := ⟨2, ![65536, 3]⟩
abbrev S65536 : Shape := ⟨1, ![65536]⟩
abbrev S67x64 : Shape := ⟨2, ![67, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : FVec F S16384x64 .f32) (main_arg1 : FVec F S16384x3 .f32) (main_arg2 : IVec S16384 32) (main_arg3 : FVec F S65536x64 .f32) (main_arg4 : FVec F S65536x3 .f32) (main_arg5 : IVec S65536 32) (main_arg6 : FVec F S67x64 .f32) (main_arg7 : FVec F S64 .f32) (main_arg8 : FVec F S64x128 .f32) (main_arg9 : FVec F S128 .f32) : IVec S_ 1 :=
  let main_c : IVec S_ 32 := constantI S_ 32 0#32
  let main_v0 : IVec S65536 32 := broadcastInDim S65536 ![] bcast_S_S65536 main_c
  let main_v1 : IVec S65536 1 := cmpi .sge main_arg5 main_v0
  let main_c_0 : IVec S_ 32 := constantI S_ 32 16#32
  let main_v2 : IVec S65536 32 := broadcastInDim S65536 ![] bcast_S_S65536 main_c_0
  let main_v3 : IVec S65536 1 := cmpi .slt main_arg5 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Pre_sorted_batch.lean ====
abbrev S16384x64 : Shape := ⟨2, ![16384, 64]⟩
abbrev S16384x3 : Shape := ⟨2, ![16384, 3]⟩
abbrev S16384 : Shape := ⟨1, ![16384]⟩
abbrev S67x64 : Shape := ⟨2, ![67, 64]⟩
abbrev S64 : Shape := ⟨1, ![64]⟩
abbrev S64x128 : Shape := ⟨2, ![64, 128]⟩
abbrev S128 : Shape := ⟨1, ![128]⟩
abbrev S_ : Shape := ⟨0, ![]⟩
abbrev S16383 : Shape := ⟨1, ![16383]⟩

class Facts : Prop where
  bcast_S_S16384 : S_.BroadcastsInDim S16384 (![] : Fin 0 → Fin S16384.rank)
  reducesTo_S16384_S_d0 : S16384.ReducesTo [0] S_
  h_S_ : 0 < S_.numel
  slices_S16384_S16383_0 : S16384.Slices ![0] S16383
  slices_S16384_S16383_1 : S16384.Slices ![1] S16383
  reducesTo_S16383_S_d0 : S16383.ReducesTo [0] S_

variable [Facts]

def fn {F : FTy → Type} [FloatOps F] (main_arg0 : FVec F S16384x64 .f32) (main_arg1 : FVec F S16384x3 .f32) (main_arg2 : IVec S16384 32) (main_arg3 : FVec F S67x64 .f32) (main_arg4 : FVec F S64 .f32) (main_arg5 : FVec F S64x128 .f32) (main_arg6 : FVec F S128 .f32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 16#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : IVec S16383 32 := (extractStridedSlice S16383 ![0] · slices_S16384_S16383_0) main_arg2
  let main_v7 : IVec S16383 32 := (extractStridedSlice S16383 ![1] · slices_S16384_S16383_1) main_arg2
  let main_v8 : IVec S16383 1 := cmpi .sle main_v6 main_v7
  let main_c_2 : IVec S_ 1 := constantI S_ 1 1#1
  let main_v9 : IVec S_ 1 := (fun x v => Host.reduce IntOp.andi x v reducesTo_S16383_S_d0 h_S_) main_v8 main_c_2
  let main_v10 : IVec S_ 1 := andi main_v5 main_v9
  main_v10
-- ==== Pre_sorted_ids.lean ====
abbrev S16384x64 : Shape := ⟨2, ![16384, 64]⟩
abbrev S16384x3 : Shape := ⟨2, ![16384, 3]⟩
abbrev S16384 : Shape := ⟨1, ![16384]⟩
abbrev S65536x64 : Shape := ⟨2, ![65536, 64]⟩
abbrev S65536x3 : Shape := ⟨2, ![65536, 3]⟩
abbrev S65536 : Shape := ⟨1, ![65536]⟩
abbrev S67x64 : Shape := ⟨2, ![67, 64]⟩
abbrev S64 : Shape := ⟨1, ![64]⟩
abbrev S64x128 : Shape := ⟨2, ![64, 128]⟩
abbrev S128 : Shape := ⟨1, ![128]⟩
abbrev S_ : Shape := ⟨0, ![]⟩
abbrev S16383 : Shape := ⟨1, ![16383]⟩

class Facts : Prop where
  bcast_S_S65536 : S_.BroadcastsInDim S65536 (![] : Fin 0 → Fin S65536.rank)
  reducesTo_S65536_S_d0 : S65536.ReducesTo [0] S_
  h_S_ : 0 < S_.numel
  bcast_S_S16384 : S_.BroadcastsInDim S16384 (![] : Fin 0 → Fin S16384.rank)
  reducesTo_S16384_S_d0 : S16384.ReducesTo [0] S_
  slices_S16384_S16383_0 : S16384.Slices ![0] S16383
  slices_S16384_S16383_1 : S16384.Slices ![1] S16383
  reducesTo_S16383_S_d0 : S16383.ReducesTo [0] S_
  bcast_S_S65536x3 : S_.BroadcastsInDim S65536x3 (![] : Fin 0 → Fin S65536x3.rank)
  reducesTo_S65536x3_S_d0_1 : S65536x3.ReducesTo [0, 1] S_

variable [Facts]

def fn_part1 {F : FTy → Type} [FloatOps F] (main_arg4 : FVec F S65536x3 .f32) (main_v12 : IVec S_ 1) (main_v16 : IVec S_ 1) : IVec S_ 1 :=
  let main_v17 : IVec S_ 1 := andi main_v12 main_v16
  let main_v18 : FVec F S65536x3 .f32 := Host.absf main_arg4
  let main_cst : FVec F S_ .f32 := constant S_ .f32 0x7F800000#32
  let main_v19 : FVec F S65536x3 .f32 := broadcastInDim S65536x3 ![] bcast_S_S65536x3 main_cst
  let main_v20 : IVec S65536x3 1 := cmpf .olt main_v18 main_v19
  let main_c_6 : IVec S_ 1 := constantI S_ 1 1#1
  let main_v21 : IVec S_ 1 := (fun x v => Host.reduce IntOp.andi x v reducesTo_S65536x3_S_d0_1 h_S_) main_v20 main_c_6
  let main_v22 : IVec S_ 1 := andi main_v17 main_v21
  main_v22

def fn {F : FTy → Type} [FloatOps F] (main_arg0 : FVec F S16384x64 .f32) (main_arg1 : FVec F S16384x3 .f32) (main_arg2 : IVec S16384 32) (main_arg3 : FVec F S65536x64 .f32) (main_arg4 : FVec F S65536x3 .f32) (main_arg5 : IVec S65536 32) (main_arg6 : FVec F S67x64 .f32) (main_arg7 : FVec F S64 .f32) (main_arg8 : FVec F S64x128 .f32) (main_arg9 : FVec F S128 .f32) : IVec S_ 1 :=
  let main_c : IVec S_ 32 := constantI S_ 32 0#32
  let main_v0 : IVec S65536 32 := broadcastInDim S65536 ![] bcast_S_S65536 main_c
  let main_v1 : IVec S65536 1 := cmpi .sge main_arg5 main_v0
  let main_c_0 : IVec S_ 32 := constantI S_ 32 16#32
  let main_v2 : IVec S65536 32 := broadcastInDim S65536 ![] bcast_S_S65536 main_c_0
  let main_v3 : IVec S65536 1 := cmpi .slt main_arg5 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg2 main_v6
  let main_c_3 : IVec S_ 32 := constantI S_ 32 16#32
  let main_v8 : IVec S16384 32 := broadcastInDim S16384 ![] bcast_S_S16384 main_c_3
  let main_v9 : IVec S16384 1 := cmpi .slt main_arg2 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_v13 : IVec S16383 32 := (extractStridedSlice S16383 ![0] · slices_S16384_S16383_0) main_arg2
  let main_v14 : IVec S16383 32 := (extractStridedSlice S16383 ![1] · slices_S16384_S16383_1) main_arg2
  let main_v15 : IVec S16383 1 := cmpi .sle main_v13 main_v14
  let main_c_5 : IVec S_ 1 := constantI S_ 1 1#1
  let main_v16 : IVec S_ 1 := (fun x v => Host.reduce IntOp.andi x v reducesTo_S16383_S_d0 h_S_) main_v15 main_c_5
  fn_part1 (F := F) main_arg4 main_v12 main_v16
-- ==== Kernel.lean ====
abbrev S16384x64 : Shape := ⟨2, ![16384, 64]⟩
abbrev S16384x3 : Shape := ⟨2, ![16384, 3]⟩
abbrev S16384 : Shape := ⟨1, ![16384]⟩
abbrev S65536x64 : Shape := ⟨2, ![65536, 64]⟩
abbrev S65536x3 : Shape := ⟨2, ![65536, 3]⟩
abbrev S65536 : Shape := ⟨1, ![65536]⟩
abbrev S67x64 : Shape := ⟨2, ![67, 64]⟩
abbrev S64 : Shape := ⟨1, ![64]⟩
abbrev S64x128 : Shape := ⟨2, ![64, 128]⟩
abbrev S128 : Shape := ⟨1, ![128]⟩
abbrev S64x64 : Shape := ⟨2, ![64, 64]⟩
abbrev S3x64 : Shape := ⟨2, ![3, 64]⟩
abbrev S128x128 : Shape := ⟨2, ![128, 128]⟩
abbrev S1x64 : Shape := ⟨2, ![1, 64]⟩
abbrev S1x128 : Shape := ⟨2, ![1, 128]⟩
abbrev S16x128 : Shape := ⟨2, ![16, 128]⟩
abbrev S4096x64 : Shape := ⟨2, ![4096, 64]⟩
abbrev S4096x3 : Shape := ⟨2, ![4096, 3]⟩
abbrev S2x16 : Shape := ⟨2, ![2, 16]⟩
abbrev S4096x128 : Shape := ⟨2, ![4096, 128]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩
abbrev S1x16 : Shape := ⟨2, ![1, 16]⟩
abbrev S64x8x8x128 : Shape := ⟨4, ![64, 8, 8, 128]⟩
abbrev S64x8x128 : Shape := ⟨3, ![64, 8, 128]⟩
abbrev S512x128 : Shape := ⟨2, ![512, 128]⟩
abbrev S512x16 : Shape := ⟨2, ![512, 16]⟩
abbrev S64x1 : Shape := ⟨2, ![64, 1]⟩
abbrev S512x1 : Shape := ⟨2, ![512, 1]⟩
abbrev S65536x192 : Shape := ⟨2, ![65536, 192]⟩
abbrev S3x128x128 : Shape := ⟨3, ![3, 128, 128]⟩
abbrev S3x128x64 : Shape := ⟨3, ![3, 128, 64]⟩
abbrev S3 : Shape := ⟨1, ![3]⟩
abbrev S_ : Shape := ⟨0, ![]⟩
abbrev S1x128x64 : Shape := ⟨3, ![1, 128, 64]⟩
abbrev S128x64 : Shape := ⟨2, ![128, 64]⟩

abbrev nBuf : Table → Nat
  | .hbm => 18
  | .local .tc .vmem => 13
  | .local .tc .smem => 1
  | .shared => 1
  | .local .scVector .vmem => 3
  | _ => 0

abbrev bufTy : (tb : Table) → Fin (nBuf tb) → BufTy
  | .hbm, ⟨0, _⟩ => ⟨S16384x64, .f32⟩
  | .hbm, ⟨1, _⟩ => ⟨S16384x3, .f32⟩
  | .hbm, ⟨2, _⟩ => ⟨S16384, .i32⟩
  | .hbm, ⟨3, _⟩ => ⟨S65536x64, .f32⟩
  | .hbm, ⟨4, _⟩ => ⟨S65536x3, .f32⟩
  | .hbm, ⟨5, _⟩ => ⟨S65536, .i32⟩
  | .hbm, ⟨6, _⟩ => ⟨S67x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S64x64, .f32⟩
  | .hbm, ⟨11, _⟩ => ⟨S3x64, .f32⟩
  | .hbm, ⟨12, _⟩ => ⟨S128x128, .i32⟩
  | .hbm, ⟨13, _⟩ => ⟨S1x64, .f32⟩
  | .hbm, ⟨14, _⟩ => ⟨S1x128, .f32⟩
  | .hbm, ⟨15, _⟩ => ⟨S16x128, .f32⟩
  | .hbm, ⟨16, _⟩ => ⟨S512x128, .i32⟩
  | .hbm, ⟨17, _⟩ => ⟨S65536x192, .f32⟩
  | .local .tc .vmem, ⟨0, _⟩ => ⟨S4096x64, .f32⟩
  | .local .tc .vmem, ⟨1, _⟩ => ⟨S4096x64, .f32⟩
  | .local .tc .vmem, ⟨2, _⟩ => ⟨S4096x3, .f32⟩
  | .local .tc .vmem, ⟨3, _⟩ => ⟨S4096x3, .f32⟩
  | .local .tc .vmem, ⟨4, _⟩ => ⟨S128x128, .i32⟩
  | .local .tc .vmem, ⟨5, _⟩ => ⟨S64x64, .f32⟩
  | .local .tc .vmem, ⟨6, _⟩ => ⟨S3x64, .f32⟩
  | .local .tc .vmem, ⟨7, _⟩ => ⟨S1x64, .f32⟩
  | .local .tc .vmem, ⟨8, _⟩ => ⟨S64x128, .f32⟩
  | .local .tc .vmem, ⟨9, _⟩ => ⟨S1x128, .f32⟩
  | .local .tc .vmem, ⟨10, _⟩ => ⟨S16x128, .f32⟩
  | .local .tc .vmem, ⟨11, _⟩ => ⟨S2x16, .i32⟩
  | .local .tc .vmem, ⟨12, _⟩ => ⟨S4096x128, .f32⟩
  | .local .tc .smem, ⟨0, _⟩ => ⟨S2x16, .i32⟩
  | .shared, ⟨0, _⟩ => ⟨S16x128, .f32⟩
  | .local .scVector .vmem, ⟨0, _⟩ => ⟨S16x128, .i32⟩
  | .local .scVector .vmem, ⟨1, _⟩ => ⟨S3x128x128, .f32⟩
  | .local .scVector .vmem, ⟨2, _⟩ => ⟨S3x128x64, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 5 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v5_scv : Ref sig .scVector := ⟨.hbm, 15, rfl⟩
abbrev main_v6_scv : Ref sig .scVector := ⟨.hbm, 16, rfl⟩
abbrev main_arg3_scv : Ref sig .scVector := ⟨.hbm, 3, rfl⟩
abbrev main_v7_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch2 : Ref sig .tc := ⟨.vmem, 12, rfl⟩
abbrev cc0_scratch1 : Ref sig .tc := ⟨.smem, 0, rfl⟩
abbrev cc1_scratch3 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![4], ![false]⟩

def k0_off1 (i : grid0.Coords) (v75 : BitVec 32) : Fin 2 → Nat :=
  let c4096_i32_35 : BitVec 32 := 4096#32
  let c0_i32_34 : BitVec 32 := 0#32
  let arg0 : BitVec 32 := BitVec.ofNat 32 (i 0).val
  let c4096_i32 : BitVec 32 := 4096#32
  let v33 : BitVec 32 := Scalar.muli arg0 c4096_i32
  let v76 : BitVec 32 := Scalar.subi v75 v33
  let v77 : BitVec 32 := Scalar.maxsi c0_i32_34 v76
  let v78 : BitVec 32 := Scalar.minsi c4096_i32_35 v77
  let c4032_i32 : BitVec 32 := 4032#32
  let v83 : BitVec 32 := Scalar.minsi v78 c4032_i32
  let v87 : Index := Scalar.indexCast v83
  let c0_42 : Index := 0#32
  ![v87.toNat, 0]

def k0_chk1 (i : grid0.Coords) (v75 : BitVec 32) : Prop :=
  (∀ a, (k0_off1 i v75) a + S64x128.size a ≤ S4096x128.size a)
theorem k0_off1_inb : ∀ (i : grid0.Coords) (v75 : BitVec 32) (k0_hw1 : k0_chk1 i v75), ∀ a, (k0_off1 i v75) a + S64x128.size a ≤ S4096x128.size a := fun i v75 k0_hw1 => k0_hw1

def k0_off2 (i : grid0.Coords) (v79 : BitVec 32) : Fin 2 → Nat :=
  let c4032_i32_41 : BitVec 32 := 4032#32
  let c0_i32_40 : BitVec 32 := 0#32
  let c4096_i32_39 : BitVec 32 := 4096#32
  let c0_i32_38 : BitVec 32 := 0#32
  let arg0 : BitVec 32 := BitVec.ofNat 32 (i 0).val
  let c4096_i32 : BitVec 32 := 4096#32
  let v33 : BitVec 32 := Scalar.muli arg0 c4096_i32
  let v80 : BitVec 32 := Scalar.subi v79 v33
  let v81 : BitVec 32 := Scalar.maxsi c0_i32_38 v80
  let v82 : BitVec 32 := Scalar.minsi c4096_i32_39 v81
  let c64_i32 : BitVec 32 := 64#32
  let v84 : BitVec 32 := Scalar.subi v82 c64_i32
  let v85 : BitVec 32 := Scalar.maxsi c0_i32_40 v84
  let v86 : BitVec 32 := Scalar.minsi c4032_i32_41 v85
  let v104 : Index := Scalar.indexCast v86
  let c0_45 : Index := 0#32
  ![v104.toNat, 0]

def k0_chk2 (i : grid0.Coords) (v79 : BitVec 32) : Prop :=
  (∀ a, (k0_off2 i v79) a + S64x128.size a ≤ S4096x128.size a)
theorem k0_off2_inb : ∀ (i : grid0.Coords) (v79 : BitVec 32) (k0_hw2 : k0_chk2 i v79), ∀ a, (k0_off2 i v79) a + S64x128.size a ≤ S4096x128.size a := fun i v79 k0_hw2 => k0_hw2

def k0_off3 (i : grid0.Coords) (v130 : BitVec 32) : Fin 2 → Nat :=
  let c4096_i32_53 : BitVec 32 := 4096#32
  let c0_i32_52 : BitVec 32 := 0#32
  let arg0 : BitVec 32 := BitVec.ofNat 32 (i 0).val
  let c4096_i32 : BitVec 32 := 4096#32
  let v33 : BitVec 32 := Scalar.muli arg0 c4096_i32
  let v131 : BitVec 32 := Scalar.subi v130 v33
  let v132 : BitVec 32 := Scalar.maxsi c0_i32_52 v131
  let v133 : BitVec 32 := Scalar.minsi c4096_i32_53 v132
  let c4032_i32_58 : BitVec 32 := 4032#32
  let v138 : BitVec 32 := Scalar.minsi v133 c4032_i32_58
  let v142 : Index := Scalar.indexCast v138
  let c0_62 : Index := 0#32
  ![v142.toNat, 0]

def k0_chk3 (i : grid0.Coords) (v130 : BitVec 32) : Prop :=
  (∀ a, (k0_off3 i v130) a + S64x128.size a ≤ S4096x128.size a)
theorem k0_off3_inb : ∀ (i : grid0.Coords) (v130 : BitVec 32) (k0_hw3 : k0_chk3 i v130), ∀ a, (k0_off3 i v130) a + S64x128.size a ≤ S4096x128.size a := fun i v130 k0_hw3 => k0_hw3

def k0_off4 (i : grid0.Coords) (v134 : BitVec 32) : Fin 2 → Nat :=
  let c4032_i32_61 : BitVec 32 := 4032#32
  let c0_i32_60 : BitVec 32 := 0#32
  let c4096_i32_57 : BitVec 32 := 4096#32
  let c0_i32_56 : BitVec 32 := 0#32
  let arg0 : BitVec 32 := BitVec.ofNat 32 (i 0).val
  let c4096_i32 : BitVec 32 := 4096#32
  let v33 : BitVec 32 := Scalar.muli arg0 c4096_i32
  let v135 : BitVec 32 := Scalar.subi v134 v33
  let v136 : BitVec 32 := Scalar.maxsi c0_i32_56 v135
  let v137 : BitVec 32 := Scalar.minsi c4096_i32_57 v136
  let c64_i32_59 : BitVec 32 := 64#32
  let v139 : BitVec 32 := Scalar.subi v137 c64_i32_59
  let v140 : BitVec 32 := Scalar.maxsi c0_i32_60 v139
  let v141 : BitVec 32 := Scalar.minsi c4032_i32_61 v140
  let v159 : Index := Scalar.indexCast v141
  let c0_65 : Index := 0#32
  ![v159.toNat, 0]

def k0_chk4 (i : grid0.Coords) (v134 : BitVec 32) : Prop :=
  (∀ a, (k0_off4 i v134) a + S64x128.size a ≤ S4096x128.size a)
theorem k0_off4_inb : ∀ (i : grid0.Coords) (v134 : BitVec 32) (k0_hw4 : k0_chk4 i v134), ∀ a, (k0_off4 i v134) a + S64x128.size a ≤ S4096x128.size a := fun i v134 k0_hw4 => k0_hw4

def k0_off5 (i : grid0.Coords) (v185 : BitVec 32) : Fin 2 → Nat :=
  let c4096_i32_72 : BitVec 32 := 4096#32
  let c0_i32_71 : BitVec 32 := 0#32
  let arg0 : BitVec 32 := BitVec.ofNat 32 (i 0).val
  let c4096_i32 : BitVec 32 := 4096#32
  let v33 : BitVec 32 := Scalar.muli arg0 c4096_i32
  let v186 : BitVec 32 := Scalar.subi v185 v33
  let v187 : BitVec 32 := Scalar.maxsi c0_i32_71 v186
  let v188 : BitVec 32 := Scalar.minsi c4096_i32_72 v187
  let c4032_i32_77 : BitVec 32 := 4032#32
  let v193 : BitVec 32 := Scalar.minsi v188 c4032_i32_77
  let v197 : Index := Scalar.indexCast v193
  let c0_81 : Index := 0#32
  ![v197.toNat, 0]

def k0_chk5 (i : grid0.Coords) (v185 : BitVec 32) : Prop :=
  (∀ a, (k0_off5 i v185) a + S64x128.size a ≤ S4096x128.size a)
theorem k0_off5_inb : ∀ (i : grid0.Coords) (v185 : BitVec 32) (k0_hw5 : k0_chk5 i v185), ∀ a, (k0_off5 i v185) a + S64x128.size a ≤ S4096x128.size a := fun i v185 k0_hw5 => k0_hw5

def k0_off6 (i : grid0.Coords) (v189 : BitVec 32) : Fin 2 → Nat :=
  let c4032_i32_80 : BitVec 32 := 4032#32
  let c0_i32_79 : BitVec 32 := 0#32
  let c4096_i32_76 : BitVec 32 := 4096#32
  let c0_i32_75 : BitVec 32 := 0#32
  let arg0 : BitVec 32 := BitVec.ofNat 32 (i 0).val
  let c4096_i32 : BitVec 32 := 4096#32
  let v33 : BitVec 32 := Scalar.muli arg0 c4096_i32
  let v190 : BitVec 32 := Scalar.subi v189 v33
  let v191 : BitVec 32 := Scalar.maxsi c0_i32_75 v190
  let v192 : BitVec 32 := Scalar.minsi c4096_i32_76 v191
  let c64_i32_78 : BitVec 32 := 64#32
  let v194 : BitVec 32 := Scalar.subi v192 c64_i32_78
  let v195 : BitVec 32 := Scalar.maxsi c0_i32_79 v194
  let v196 : BitVec 32 := Scalar.minsi c4032_i32_80 v195
  let v214 : Index := Scalar.indexCast v196
  let c0_84 : Index := 0#32
  ![v214.toNat, 0]

def k0_chk6 (i : grid0.Coords) (v189 : BitVec 32) : Prop :=
  (∀ a, (k0_off6 i v189) a + S64x128.size a ≤ S4096x128.size a)
theorem k0_off6_inb : ∀ (i : grid0.Coords) (v189 : BitVec 32) (k0_hw6 : k0_chk6 i v189), ∀ a, (k0_off6 i v189) a + S64x128.size a ≤ S4096x128.size a := fun i v189 k0_hw6 => k0_hw6

def k0_off7 (i : grid0.Coords) (v240 : BitVec 32) : Fin 2 → Nat :=
  let c4096_i32_91 : BitVec 32 := 4096#32
  let c0_i32_90 : BitVec 32 := 0#32
  let arg0 : BitVec 32 := BitVec.ofNat 32 (i 0).val
  let c4096_i32 : BitVec 32 := 4096#32
  let v33 : BitVec 32 := Scalar.muli arg0 c4096_i32
  let v241 : BitVec 32 := Scalar.subi v240 v33
  let v242 : BitVec 32 := Scalar.maxsi c0_i32_90 v241
  let v243 : BitVec 32 := Scalar.minsi c4096_i32_91 v242
  let c4032_i32_96 : BitVec 32 := 4032#32
  let v248 : BitVec 32 := Scalar.minsi v243 c4032_i32_96
  let v252 : Index := Scalar.indexCast v248
  let c0_100 : Index := 0#32
  ![v252.toNat, 0]

def k0_chk7 (i : grid0.Coords) (v240 : BitVec 32) : Prop :=
  (∀ a, (k0_off7 i v240) a + S64x128.size a ≤ S4096x128.size a)
theorem k0_off7_inb : ∀ (i : grid0.Coords) (v240 : BitVec 32) (k0_hw7 : k0_chk7 i v240), ∀ a, (k0_off7 i v240) a + S64x128.size a ≤ S4096x128.size a := fun i v240 k0_hw7 => k0_hw7

def k0_off8 (i : grid0.Coords) (v244 : BitVec 32) : Fin 2 → Nat :=
  let c4032_i32_99 : BitVec 32 := 4032#32
  let c0_i32_98 : BitVec 32 := 0#32
  let c4096_i32_95 : BitVec 32 := 4096#32
  let c0_i32_94 : BitVec 32 := 0#32
  let arg0 : BitVec 32 := BitVec.ofNat 32 (i 0).val
  let c4096_i32 : BitVec 32 := 4096#32
  let v33 : BitVec 32 := Scalar.muli arg0 c4096_i32
  let v245 : BitVec 32 := Scalar.subi v244 v33
  let v246 : BitVec 32 := Scalar.maxsi c0_i32_94 v245
  let v247 : BitVec 32 := Scalar.minsi c4096_i32_95 v246
  let c64_i32_97 : BitVec 32 := 64#32
  let v249 : BitVec 32 := Scalar.subi v247 c64_i32_97
  let v250 : BitVec 32 := Scalar.maxsi c0_i32_98 v249
  let v251 : BitVec 32 := Scalar.minsi c4032_i32_99 v250
  let v269 : Index := Scalar.indexCast v251
  let c0_103 : Index := 0#32
  ![v269.toNat, 0]

def k0_chk8 (i : grid0.Coords) (v244 : BitVec 32) : Prop :=
  (∀ a, (k0_off8 i v244) a + S64x128.size a ≤ S4096x128.size a)
theorem k0_off8_inb : ∀ (i : grid0.Coords) (v244 : BitVec 32) (k0_hw8 : k0_chk8 i v244), ∀ a, (k0_off8 i v244) a + S64x128.size a ≤ S4096x128.size a := fun i v244 k0_hw8 => k0_hw8

def k0_off9 (i : grid0.Coords) (v295 : BitVec 32) : Fin 2 → Nat :=
  let c4096_i32_110 : BitVec 32 := 4096#32
  let c0_i32_109 : BitVec 32 := 0#32
  let arg0 : BitVec 32 := BitVec.ofNat 32 (i 0).val
  let c4096_i32 : BitVec 32 := 4096#32
  let v33 : BitVec 32 := Scalar.muli arg0 c4096_i32
  let v296 : BitVec 32 := Scalar.subi v295 v33
  let v297 : BitVec 32 := Scalar.maxsi c0_i32_109 v296
  let v298 : BitVec 32 := Scalar.minsi c4096_i32_110 v297
  let c4032_i32_115 : BitVec 32 := 4032#32
  let v303 : BitVec 32 := Scalar.minsi v298 c4032_i32_115
  let v307 : Index := Scalar.indexCast v303
  let c0_119 : Index := 0#32
  ![v307.toNat, 0]

def k0_chk9 (i : grid0.Coords) (v295 : BitVec 32) : Prop :=
  (∀ a, (k0_off9 i v295) a + S64x128.size a ≤ S4096x128.size a)
theorem k0_off9_inb : ∀ (i : grid0.Coords) (v295 : BitVec 32) (k0_hw9 : k0_chk9 i v295), ∀ a, (k0_off9 i v295) a + S64x128.size a ≤ S4096x128.size a := fun i v295 k0_hw9 => k0_hw9

def k0_off10 (i : grid0.Coords) (v299 : BitVec 32) : Fin 2 → Nat :=
  let c4032_i32_118 : BitVec 32 := 4032#32
  let c0_i32_117 : BitVec 32 := 0#32
  let c4096_i32_114 : BitVec 32 := 4096#32
  let c0_i32_113 : BitVec 32 := 0#32
  let arg0 : BitVec 32 := BitVec.ofNat 32 (i 0).val
  let c4096_i32 : BitVec 32 := 4096#32
  let v33 : BitVec 32 := Scalar.muli arg0 c4096_i32
  let v300 : BitVec 32 := Scalar.subi v299 v33
  let v301 : BitVec 32 := Scalar.maxsi c0_i32_113 v300
  let v302 : BitVec 32 := Scalar.minsi c4096_i32_114 v301
  let c64_i32_116 : BitVec 32 := 64#32
  let v304 : BitVec 32 := Scalar.subi v302 c64_i32_116
  let v305 : BitVec 32 := Scalar.maxsi c0_i32_117 v304
  let v306 : BitVec 32 := Scalar.minsi c4032_i32_118 v305
  let v324 : Index := Scalar.indexCast v306
  let c0_122 : Index := 0#32
  ![v324.toNat, 0]

def k0_chk10 (i : grid0.Coords) (v299 : BitVec 32) : Prop :=
  (∀ a, (k0_off10 i v299) a + S64x128.size a ≤ S4096x128.size a)
theorem k0_off10_inb : ∀ (i : grid0.Coords) (v299 : BitVec 32) (k0_hw10 : k0_chk10 i v299), ∀ a, (k0_off10 i v299) a + S64x128.size a ≤ S4096x128.size a := fun i v299 k0_hw10 => k0_hw10

def k0_off11 (i : grid0.Coords) (v350 : BitVec 32) : Fin 2 → Nat :=
  let c4096_i32_129 : BitVec 32 := 4096#32
  let c0_i32_128 : BitVec 32 := 0#32
  let arg0 : BitVec 32 := BitVec.ofNat 32 (i 0).val
  let c4096_i32 : BitVec 32 := 4096#32
  let v33 : BitVec 32 := Scalar.muli arg0 c4096_i32
  let v351 : BitVec 32 := Scalar.subi v350 v33
  let v352 : BitVec 32 := Scalar.maxsi c0_i32_128 v351
  let v353 : BitVec 32 := Scalar.minsi c4096_i32_129 v352
  let c4032_i32_134 : BitVec 32 := 4032#32
  let v358 : BitVec 32 := Scalar.minsi v353 c4032_i32_134
  let v362 : Index := Scalar.indexCast v358
  let c0_138 : Index := 0#32
  ![v362.toNat, 0]

def k0_chk11 (i : grid0.Coords) (v350 : BitVec 32) : Prop :=
  (∀ a, (k0_off11 i v350) a + S64x128.size a ≤ S4096x128.size a)
theorem k0_off11_inb : ∀ (i : grid0.Coords) (v350 : BitVec 32) (k0_hw11 : k0_chk11 i v350), ∀ a, (k0_off11 i v350) a + S64x128.size a ≤ S4096x128.size a := fun i v350 k0_hw11 => k0_hw11

def k0_off12 (i : grid0.Coords) (v354 : BitVec 32) : Fin 2 → Nat :=
  let c4032_i32_137 : BitVec 32 := 4032#32
  let c0_i32_136 : BitVec 32 := 0#32
  let c4096_i32_133 : BitVec 32 := 4096#32
  let c0_i32_132 : BitVec 32 := 0#32
  let arg0 : BitVec 32 := BitVec.ofNat 32 (i 0).val
  let c4096_i32 : BitVec 32 := 4096#32
  let v33 : BitVec 32 := Scalar.muli arg0 c4096_i32
  let v355 : BitVec 32 := Scalar.subi v354 v33
  let v356 : BitVec 32 := Scalar.maxsi c0_i32_132 v355
  let v357 : BitVec 32 := Scalar.minsi c4096_i32_133 v356
  let c64_i32_135 : BitVec 32 := 64#32
  let v359 : BitVec 32 := Scalar.subi v357 c64_i32_135
  let v360 : BitVec 32 := Scalar.maxsi c0_i32_136 v359
  let v361 : BitVec 32 := Scalar.minsi c4032_i32_137 v360
  let v379 : Index := Scalar.indexCast v361
  let c0_141 : Index := 0#32
  ![v379.toNat, 0]

def k0_chk12 (i : grid0.Coords) (v354 : BitVec 32) : Prop :=
  (∀ a, (k0_off12 i v354) a + S64x128.size a ≤ S4096x128.size a)
theorem k0_off12_inb : ∀ (i : grid0.Coords) (v354 : BitVec 32) (k0_hw12 : k0_chk12 i v354), ∀ a, (k0_off12 i v354) a + S64x128.size a ≤ S4096x128.size a := fun i v354 k0_hw12 => k0_hw12

def k0_off13 (i : grid0.Coords) (v405 : BitVec 32) : Fin 2 → Nat :=
  let c4096_i32_148 : BitVec 32 := 4096#32
  let c0_i32_147 : BitVec 32 := 0#32
  let arg0 : BitVec 32 := BitVec.ofNat 32 (i 0).val
  let c4096_i32 : BitVec 32 := 4096#32
  let v33 : BitVec 32 := Scalar.muli arg0 c4096_i32
  let v406 : BitVec 32 := Scalar.subi v405 v33
  let v407 : BitVec 32 := Scalar.maxsi c0_i32_147 v406
  let v408 : BitVec 32 := Scalar.minsi c4096_i32_148 v407
  let c4032_i32_153 : BitVec 32 := 4032#32
  let v413 : BitVec 32 := Scalar.minsi v408 c4032_i32_153
  let v417 : Index := Scalar.indexCast v413
  let c0_157 : Index := 0#32
  ![v417.toNat, 0]

def k0_chk13 (i : grid0.Coords) (v405 : BitVec 32) : Prop :=
  (∀ a, (k0_off13 i v405) a + S64x128.size a ≤ S4096x128.size a)
theorem k0_off13_inb : ∀ (i : grid0.Coords) (v405 : BitVec 32) (k0_hw13 : k0_chk13 i v405), ∀ a, (k0_off13 i v405) a + S64x128.size a ≤ S4096x128.size a := fun i v405 k0_hw13 => k0_hw13

def k0_off14 (i : grid0.Coords) (v409 : BitVec 32) : Fin 2 → Nat :=
  let c4032_i32_156 : BitVec 32 := 4032#32
  let c0_i32_155 : BitVec 32 := 0#32
  let c4096_i32_152 : BitVec 32 := 4096#32
  let c0_i32_151 : BitVec 32 := 0#32
  let arg0 : BitVec 32 := BitVec.ofNat 32 (i 0).val
  let c4096_i32 : BitVec 32 := 4096#32
  let v33 : BitVec 32 := Scalar.muli arg0 c4096_i32
  let v410 : BitVec 32 := Scalar.subi v409 v33
  let v411 : BitVec 32 := Scalar.maxsi c0_i32_151 v410
  let v412 : BitVec 32 := Scalar.minsi c4096_i32_152 v411
  let c64_i32_154 : BitVec 32 := 64#32
  let v414 : BitVec 32 := Scalar.subi v412 c64_i32_154
  let v415 : BitVec 32 := Scalar.maxsi c0_i32_155 v414
  let v416 : BitVec 32 := Scalar.minsi c4032_i32_156 v415
  let v434 : Index := Scalar.indexCast v416
  let c0_160 : Index := 0#32
  ![v434.toNat, 0]

def k0_chk14 (i : grid0.Coords) (v409 : BitVec 32) : Prop :=
  (∀ a, (k0_off14 i v409) a + S64x128.size a ≤ S4096x128.size a)
theorem k0_off14_inb : ∀ (i : grid0.Coords) (v409 : BitVec 32) (k0_hw14 : k0_chk14 i v409), ∀ a, (k0_off14 i v409) a + S64x128.size a ≤ S4096x128.size a := fun i v409 k0_hw14 => k0_hw14

def k0_off15 (i : grid0.Coords) (v460 : BitVec 32) : Fin 2 → Nat :=
  let c4096_i32_167 : BitVec 32 := 4096#32
  let c0_i32_166 : BitVec 32 := 0#32
  let arg0 : BitVec 32 := BitVec.ofNat 32 (i 0).val
  let c4096_i32 : BitVec 32 := 4096#32
  let v33 : BitVec 32 := Scalar.muli arg0 c4096_i32
  let v461 : BitVec 32 := Scalar.subi v460 v33
  let v462 : BitVec 32 := Scalar.maxsi c0_i32_166 v461
  let v463 : BitVec 32 := Scalar.minsi c4096_i32_167 v462
  let c4032_i32_172 : BitVec 32 := 4032#32
  let v468 : BitVec 32 := Scalar.minsi v463 c4032_i32_172
  let v472 : Index := Scalar.indexCast v468
  let c0_176 : Index := 0#32
  ![v472.toNat, 0]

def k0_chk15 (i : grid0.Coords) (v460 : BitVec 32) : Prop :=
  (∀ a, (k0_off15 i v460) a + S64x128.size a ≤ S4096x128.size a)
theorem k0_off15_inb : ∀ (i : grid0.Coords) (v460 : BitVec 32) (k0_hw15 : k0_chk15 i v460), ∀ a, (k0_off15 i v460) a + S64x128.size a ≤ S4096x128.size a := fun i v460 k0_hw15 => k0_hw15

def k0_off16 (i : grid0.Coords) (v464 : BitVec 32) : Fin 2 → Nat :=
  let c4032_i32_175 : BitVec 32 := 4032#32
  let c0_i32_174 : BitVec 32 := 0#32
  let c4096_i32_171 : BitVec 32 := 4096#32
  let c0_i32_170 : BitVec 32 := 0#32
  let arg0 : BitVec 32 := BitVec.ofNat 32 (i 0).val
  let c4096_i32 : BitVec 32 := 4096#32
  let v33 : BitVec 32 := Scalar.muli arg0 c4096_i32
  let v465 : BitVec 32 := Scalar.subi v464 v33
  let v466 : BitVec 32 := Scalar.maxsi c0_i32_170 v465
  let v467 : BitVec 32 := Scalar.minsi c4096_i32_171 v466
  let c64_i32_173 : BitVec 32 := 64#32
  let v469 : BitVec 32 := Scalar.subi v467 c64_i32_173
  let v470 : BitVec 32 := Scalar.maxsi c0_i32_174 v469
  let v471 : BitVec 32 := Scalar.minsi c4032_i32_175 v470
  let v489 : Index := Scalar.indexCast v471
  let c0_179 : Index := 0#32
  ![v489.toNat, 0]

def k0_chk16 (i : grid0.Coords) (v464 : BitVec 32) : Prop :=
  (∀ a, (k0_off16 i v464) a + S64x128.size a ≤ S4096x128.size a)
theorem k0_off16_inb : ∀ (i : grid0.Coords) (v464 : BitVec 32) (k0_hw16 : k0_chk16 i v464), ∀ a, (k0_off16 i v464) a + S64x128.size a ≤ S4096x128.size a := fun i v464 k0_hw16 => k0_hw16

def k0_off17 (i : grid0.Coords) (v515 : BitVec 32) : Fin 2 → Nat :=
  let c4096_i32_186 : BitVec 32 := 4096#32
  let c0_i32_185 : BitVec 32 := 0#32
  let arg0 : BitVec 32 := BitVec.ofNat 32 (i 0).val
  let c4096_i32 : BitVec 32 := 4096#32
  let v33 : BitVec 32 := Scalar.muli arg0 c4096_i32
  let v516 : BitVec 32 := Scalar.subi v515 v33
  let v517 : BitVec 32 := Scalar.maxsi c0_i32_185 v516
  let v518 : BitVec 32 := Scalar.minsi c4096_i32_186 v517
  let c4032_i32_191 : BitVec 32 := 4032#32
  let v523 : BitVec 32 := Scalar.minsi v518 c4032_i32_191
  let v527 : Index := Scalar.indexCast v523
  let c0_195 : Index := 0#32
  ![v527.toNat, 0]

def k0_chk17 (i : grid0.Coords) (v515 : BitVec 32) : Prop :=
  (∀ a, (k0_off17 i v515) a + S64x128.size a ≤ S4096x128.size a)
theorem k0_off17_inb : ∀ (i : grid0.Coords) (v515 : BitVec 32) (k0_hw17 : k0_chk17 i v515), ∀ a, (k0_off17 i v515) a + S64x128.size a ≤ S4096x128.size a := fun i v515 k0_hw17 => k0_hw17

def k0_off18 (i : grid0.Coords) (v519 : BitVec 32) : Fin 2 → Nat :=
  let c4032_i32_194 : BitVec 32 := 4032#32
  let c0_i32_193 : BitVec 32 := 0#32
  let c4096_i32_190 : BitVec 32 := 4096#32
  let c0_i32_189 : BitVec 32 := 0#32
  let arg0 : BitVec 32 := BitVec.ofNat 32 (i 0).val
  let c4096_i32 : BitVec 32 := 4096#32
  let v33 : BitVec 32 := Scalar.muli arg0 c4096_i32
  let v520 : BitVec 32 := Scalar.subi v519 v33
  let v521 : BitVec 32 := Scalar.maxsi c0_i32_189 v520
  let v522 : BitVec 32 := Scalar.minsi c4096_i32_190 v521
  let c64_i32_192 : BitVec 32 := 64#32
  let v524 : BitVec 32 := Scalar.subi v522 c64_i32_192
  let v525 : BitVec 32 := Scalar.maxsi c0_i32_193 v524
  let v526 : BitVec 32 := Scalar.minsi c4032_i32_194 v525
  let v544 : Index := Scalar.indexCast v526
  let c0_198 : Index := 0#32
  ![v544.toNat, 0]

def k0_chk18 (i : grid0.Coords) (v519 : BitVec 32) : Prop :=
  (∀ a, (k0_off18 i v519) a + S64x128.size a ≤ S4096x128.size a)
theorem k0_off18_inb : ∀ (i : grid0.Coords) (v519 : BitVec 32) (k0_hw18 : k0_chk18 i v519), ∀ a, (k0_off18 i v519) a + S64x128.size a ≤ S4096x128.size a := fun i v519 k0_hw18 => k0_hw18

def k0_off19 (i : grid0.Coords) (v570 : BitVec 32) : Fin 2 → Nat :=
  let c4096_i32_205 : BitVec 32 := 4096#32
  let c0_i32_204 : BitVec 32 := 0#32
  let arg0 : BitVec 32 := BitVec.ofNat 32 (i 0).val
  let c4096_i32 : BitVec 32 := 4096#32
  let v33 : BitVec 32 := Scalar.muli arg0 c4096_i32
  let v571 : BitVec 32 := Scalar.subi v570 v33
  let v572 : BitVec 32 := Scalar.maxsi c0_i32_204 v571
  let v573 : BitVec 32 := Scalar.minsi c4096_i32_205 v572
  let c4032_i32_210 : BitVec 32 := 4032#32
  let v578 : BitVec 32 := Scalar.minsi v573 c4032_i32_210
  let v582 : Index := Scalar.indexCast v578
  let c0_214 : Index := 0#32
  ![v582.toNat, 0]

def k0_chk19 (i : grid0.Coords) (v570 : BitVec 32) : Prop :=
  (∀ a, (k0_off19 i v570) a + S64x128.size a ≤ S4096x128.size a)
theorem k0_off19_inb : ∀ (i : grid0.Coords) (v570 : BitVec 32) (k0_hw19 : k0_chk19 i v570), ∀ a, (k0_off19 i v570) a + S64x128.size a ≤ S4096x128.size a := fun i v570 k0_hw19 => k0_hw19

def k0_off20 (i : grid0.Coords) (v574 : BitVec 32) : Fin 2 → Nat :=
  let c4032_i32_213 : BitVec 32 := 4032#32
  let c0_i32_212 : BitVec 32 := 0#32
  let c4096_i32_209 : BitVec 32 := 4096#32
  let c0_i32_208 : BitVec 32 := 0#32
  let arg0 : BitVec 32 := BitVec.ofNat 32 (i 0).val
  let c4096_i32 : BitVec 32 := 4096#32
  let v33 : BitVec 32 := Scalar.muli arg0 c4096_i32
  let v575 : BitVec 32 := Scalar.subi v574 v33
  let v576 : BitVec 32 := Scalar.maxsi c0_i32_208 v575
  let v577 : BitVec 32 := Scalar.minsi c4096_i32_209 v576
  let c64_i32_211 : BitVec 32 := 64#32
  let v579 : BitVec 32 := Scalar.subi v577 c64_i32_211
  let v580 : BitVec 32 := Scalar.maxsi c0_i32_212 v579
  let v581 : BitVec 32 := Scalar.minsi c4032_i32_213 v580
  let v599 : Index := Scalar.indexCast v581
  let c0_217 : Index := 0#32
  ![v599.toNat, 0]

def k0_chk20 (i : grid0.Coords) (v574 : BitVec 32) : Prop :=
  (∀ a, (k0_off20 i v574) a + S64x128.size a ≤ S4096x128.size a)
theorem k0_off20_inb : ∀ (i : grid0.Coords) (v574 : BitVec 32) (k0_hw20 : k0_chk20 i v574), ∀ a, (k0_off20 i v574) a + S64x128.size a ≤ S4096x128.size a := fun i v574 k0_hw20 => k0_hw20

def k0_off21 (i : grid0.Coords) (v625 : BitVec 32) : Fin 2 → Nat :=
  let c4096_i32_224 : BitVec 32 := 4096#32
  let c0_i32_223 : BitVec 32 := 0#32
  let arg0 : BitVec 32 := BitVec.ofNat 32 (i 0).val
  let c4096_i32 : BitVec 32 := 4096#32
  let v33 : BitVec 32 := Scalar.muli arg0 c4096_i32
  let v626 : BitVec 32 := Scalar.subi v625 v33
  let v627 : BitVec 32 := Scalar.maxsi c0_i32_223 v626
  let v628 : BitVec 32 := Scalar.minsi c4096_i32_224 v627
  let c4032_i32_229 : BitVec 32 := 4032#32
  let v633 : BitVec 32 := Scalar.minsi v628 c4032_i32_229
  let v637 : Index := Scalar.indexCast v633
  let c0_233 : Index := 0#32
  ![v637.toNat, 0]

def k0_chk21 (i : grid0.Coords) (v625 : BitVec 32) : Prop :=
  (∀ a, (k0_off21 i v625) a + S64x128.size a ≤ S4096x128.size a)
theorem k0_off21_inb : ∀ (i : grid0.Coords) (v625 : BitVec 32) (k0_hw21 : k0_chk21 i v625), ∀ a, (k0_off21 i v625) a + S64x128.size a ≤ S4096x128.size a := fun i v625 k0_hw21 => k0_hw21

def k0_off22 (i : grid0.Coords) (v629 : BitVec 32) : Fin 2 → Nat :=
  let c4032_i32_232 : BitVec 32 := 4032#32
  let c0_i32_231 : BitVec 32 := 0#32
  let c4096_i32_228 : BitVec 32 := 4096#32
  let c0_i32_227 : BitVec 32 := 0#32
  let arg0 : BitVec 32 := BitVec.ofNat 32 (i 0).val
  let c4096_i32 : BitVec 32 := 4096#32
  let v33 : BitVec 32 := Scalar.muli arg0 c4096_i32
  let v630 : BitVec 32 := Scalar.subi v629 v33
  let v631 : BitVec 32 := Scalar.maxsi c0_i32_227 v630
  let v632 : BitVec 32 := Scalar.minsi c4096_i32_228 v631
  let c64_i32_230 : BitVec 32 := 64#32
  let v634 : BitVec 32 := Scalar.subi v632 c64_i32_230
  let v635 : BitVec 32 := Scalar.maxsi c0_i32_231 v634
  let v636 : BitVec 32 := Scalar.minsi c4032_i32_232 v635
  let v654 : Index := Scalar.indexCast v636
  let c0_236 : Index := 0#32
  ![v654.toNat, 0]

def k0_chk22 (i : grid0.Coords) (v629 : BitVec 32) : Prop :=
  (∀ a, (k0_off22 i v629) a + S64x128.size a ≤ S4096x128.size a)
theorem k0_off22_inb : ∀ (i : grid0.Coords) (v629 : BitVec 32) (k0_hw22 : k0_chk22 i v629), ∀ a, (k0_off22 i v629) a + S64x128.size a ≤ S4096x128.size a := fun i v629 k0_hw22 => k0_hw22

def k0_off23 (i : grid0.Coords) (v680 : BitVec 32) : Fin 2 → Nat :=
  let c4096_i32_243 : BitVec 32 := 4096#32
  let c0_i32_242 : BitVec 32 := 0#32
  let arg0 : BitVec 32 := BitVec.ofNat 32 (i 0).val
  let c4096_i32 : BitVec 32 := 4096#32
  let v33 : BitVec 32 := Scalar.muli arg0 c4096_i32
  let v681 : BitVec 32 := Scalar.subi v680 v33
  let v682 : BitVec 32 := Scalar.maxsi c0_i32_242 v681
  let v683 : BitVec 32 := Scalar.minsi c4096_i32_243 v682
  let c4032_i32_248 : BitVec 32 := 4032#32
  let v688 : BitVec 32 := Scalar.minsi v683 c4032_i32_248
  let v692 : Index := Scalar.indexCast v688
  let c0_252 : Index := 0#32
  ![v692.toNat, 0]

def k0_chk23 (i : grid0.Coords) (v680 : BitVec 32) : Prop :=
  (∀ a, (k0_off23 i v680) a + S64x128.size a ≤ S4096x128.size a)
theorem k0_off23_inb : ∀ (i : grid0.Coords) (v680 : BitVec 32) (k0_hw23 : k0_chk23 i v680), ∀ a, (k0_off23 i v680) a + S64x128.size a ≤ S4096x128.size a := fun i v680 k0_hw23 => k0_hw23

def k0_off24 (i : grid0.Coords) (v684 : BitVec 32) : Fin 2 → Nat :=
  let c4032_i32_251 : BitVec 32 := 4032#32
  let c0_i32_250 : BitVec 32 := 0#32
  let c4096_i32_247 : BitVec 32 := 4096#32
  let c0_i32_246 : BitVec 32 := 0#32
  let arg0 : BitVec 32 := BitVec.ofNat 32 (i 0).val
  let c4096_i32 : BitVec 32 := 4096#32
  let v33 : BitVec 32 := Scalar.muli arg0 c4096_i32
  let v685 : BitVec 32 := Scalar.subi v684 v33
  let v686 : BitVec 32 := Scalar.maxsi c0_i32_246 v685
  let v687 : BitVec 32 := Scalar.minsi c4096_i32_247 v686
  let c64_i32_249 : BitVec 32 := 64#32
  let v689 : BitVec 32 := Scalar.subi v687 c64_i32_249
  let v690 : BitVec 32 := Scalar.maxsi c0_i32_250 v689
  let v691 : BitVec 32 := Scalar.minsi c4032_i32_251 v690
  let v709 : Index := Scalar.indexCast v691
  let c0_255 : Index := 0#32
  ![v709.toNat, 0]

def k0_chk24 (i : grid0.Coords) (v684 : BitVec 32) : Prop :=
  (∀ a, (k0_off24 i v684) a + S64x128.size a ≤ S4096x128.size a)
theorem k0_off24_inb : ∀ (i : grid0.Coords) (v684 : BitVec 32) (k0_hw24 : k0_chk24 i v684), ∀ a, (k0_off24 i v684) a + S64x128.size a ≤ S4096x128.size a := fun i v684 k0_hw24 => k0_hw24

def k0_off25 (i : grid0.Coords) (v735 : BitVec 32) : Fin 2 → Nat :=
  let c4096_i32_262 : BitVec 32 := 4096#32
  let c0_i32_261 : BitVec 32 := 0#32
  let arg0 : BitVec 32 := BitVec.ofNat 32 (i 0).val
  let c4096_i32 : BitVec 32 := 4096#32
  let v33 : BitVec 32 := Scalar.muli arg0 c4096_i32
  let v736 : BitVec 32 := Scalar.subi v735 v33
  let v737 : BitVec 32 := Scalar.maxsi c0_i32_261 v736
  let v738 : BitVec 32 := Scalar.minsi c4096_i32_262 v737
  let c4032_i32_267 : BitVec 32 := 4032#32
  let v743 : BitVec 32 := Scalar.minsi v738 c4032_i32_267
  let v747 : Index := Scalar.indexCast v743
  let c0_271 : Index := 0#32
  ![v747.toNat, 0]

def k0_chk25 (i : grid0.Coords) (v735 : BitVec 32) : Prop :=
  (∀ a, (k0_off25 i v735) a + S64x128.size a ≤ S4096x128.size a)
theorem k0_off25_inb : ∀ (i : grid0.Coords) (v735 : BitVec 32) (k0_hw25 : k0_chk25 i v735), ∀ a, (k0_off25 i v735) a + S64x128.size a ≤ S4096x128.size a := fun i v735 k0_hw25 => k0_hw25

def k0_off26 (i : grid0.Coords) (v739 : BitVec 32) : Fin 2 → Nat :=
  let c4032_i32_270 : BitVec 32 := 4032#32
  let c0_i32_269 : BitVec 32 := 0#32
  let c4096_i32_266 : BitVec 32 := 4096#32
  let c0_i32_265 : BitVec 32 := 0#32
  let arg0 : BitVec 32 := BitVec.ofNat 32 (i 0).val
  let c4096_i32 : BitVec 32 := 4096#32
  let v33 : BitVec 32 := Scalar.muli arg0 c4096_i32
  let v740 : BitVec 32 := Scalar.subi v739 v33
  let v741 : BitVec 32 := Scalar.maxsi c0_i32_265 v740
  let v742 : BitVec 32 := Scalar.minsi c4096_i32_266 v741
  let c64_i32_268 : BitVec 32 := 64#32
  let v744 : BitVec 32 := Scalar.subi v742 c64_i32_268
  let v745 : BitVec 32 := Scalar.maxsi c0_i32_269 v744
  let v746 : BitVec 32 := Scalar.minsi c4032_i32_270 v745
  let v764 : Index := Scalar.indexCast v746
  let c0_274 : Index := 0#32
  ![v764.toNat, 0]

def k0_chk26 (i : grid0.Coords) (v739 : BitVec 32) : Prop :=
  (∀ a, (k0_off26 i v739) a + S64x128.size a ≤ S4096x128.size a)
theorem k0_off26_inb : ∀ (i : grid0.Coords) (v739 : BitVec 32) (k0_hw26 : k0_chk26 i v739), ∀ a, (k0_off26 i v739) a + S64x128.size a ≤ S4096x128.size a := fun i v739 k0_hw26 => k0_hw26

def k0_off27 (i : grid0.Coords) (v790 : BitVec 32) : Fin 2 → Nat :=
  let c4096_i32_281 : BitVec 32 := 4096#32
  let c0_i32_280 : BitVec 32 := 0#32
  let arg0 : BitVec 32 := BitVec.ofNat 32 (i 0).val
  let c4096_i32 : BitVec 32 := 4096#32
  let v33 : BitVec 32 := Scalar.muli arg0 c4096_i32
  let v791 : BitVec 32 := Scalar.subi v790 v33
  let v792 : BitVec 32 := Scalar.maxsi c0_i32_280 v791
  let v793 : BitVec 32 := Scalar.minsi c4096_i32_281 v792
  let c4032_i32_286 : BitVec 32 := 4032#32
  let v798 : BitVec 32 := Scalar.minsi v793 c4032_i32_286
  let v802 : Index := Scalar.indexCast v798
  let c0_290 : Index := 0#32
  ![v802.toNat, 0]

def k0_chk27 (i : grid0.Coords) (v790 : BitVec 32) : Prop :=
  (∀ a, (k0_off27 i v790) a + S64x128.size a ≤ S4096x128.size a)
theorem k0_off27_inb : ∀ (i : grid0.Coords) (v790 : BitVec 32) (k0_hw27 : k0_chk27 i v790), ∀ a, (k0_off27 i v790) a + S64x128.size a ≤ S4096x128.size a := fun i v790 k0_hw27 => k0_hw27

def k0_off28 (i : grid0.Coords) (v794 : BitVec 32) : Fin 2 → Nat :=
  let c4032_i32_289 : BitVec 32 := 4032#32
  let c0_i32_288 : BitVec 32 := 0#32
  let c4096_i32_285 : BitVec 32 := 4096#32
  let c0_i32_284 : BitVec 32 := 0#32
  let arg0 : BitVec 32 := BitVec.ofNat 32 (i 0).val
  let c4096_i32 : BitVec 32 := 4096#32
  let v33 : BitVec 32 := Scalar.muli arg0 c4096_i32
  let v795 : BitVec 32 := Scalar.subi v794 v33
  let v796 : BitVec 32 := Scalar.maxsi c0_i32_284 v795
  let v797 : BitVec 32 := Scalar.minsi c4096_i32_285 v796
  let c64_i32_287 : BitVec 32 := 64#32
  let v799 : BitVec 32 := Scalar.subi v797 c64_i32_287
  let v800 : BitVec 32 := Scalar.maxsi c0_i32_288 v799
  let v801 : BitVec 32 := Scalar.minsi c4032_i32_289 v800
  let v819 : Index := Scalar.indexCast v801
  let c0_293 : Index := 0#32
  ![v819.toNat, 0]

def k0_chk28 (i : grid0.Coords) (v794 : BitVec 32) : Prop :=
  (∀ a, (k0_off28 i v794) a + S64x128.size a ≤ S4096x128.size a)
theorem k0_off28_inb : ∀ (i : grid0.Coords) (v794 : BitVec 32) (k0_hw28 : k0_chk28 i v794), ∀ a, (k0_off28 i v794) a + S64x128.size a ≤ S4096x128.size a := fun i v794 k0_hw28 => k0_hw28

def k0_off29 (i : grid0.Coords) (v845 : BitVec 32) : Fin 2 → Nat :=
  let c4096_i32_300 : BitVec 32 := 4096#32
  let c0_i32_299 : BitVec 32 := 0#32
  let arg0 : BitVec 32 := BitVec.ofNat 32 (i 0).val
  let c4096_i32 : BitVec 32 := 4096#32
  let v33 : BitVec 32 := Scalar.muli arg0 c4096_i32
  let v846 : BitVec 32 := Scalar.subi v845 v33
  let v847 : BitVec 32 := Scalar.maxsi c0_i32_299 v846
  let v848 : BitVec 32 := Scalar.minsi c4096_i32_300 v847
  let c4032_i32_305 : BitVec 32 := 4032#32
  let v853 : BitVec 32 := Scalar.minsi v848 c4032_i32_305
  let v857 : Index := Scalar.indexCast v853
  let c0_309 : Index := 0#32
  ![v857.toNat, 0]

def k0_chk29 (i : grid0.Coords) (v845 : BitVec 32) : Prop :=
  (∀ a, (k0_off29 i v845) a + S64x128.size a ≤ S4096x128.size a)
theorem k0_off29_inb : ∀ (i : grid0.Coords) (v845 : BitVec 32) (k0_hw29 : k0_chk29 i v845), ∀ a, (k0_off29 i v845) a + S64x128.size a ≤ S4096x128.size a := fun i v845 k0_hw29 => k0_hw29

def k0_off30 (i : grid0.Coords) (v849 : BitVec 32) : Fin 2 → Nat :=
  let c4032_i32_308 : BitVec 32 := 4032#32
  let c0_i32_307 : BitVec 32 := 0#32
  let c4096_i32_304 : BitVec 32 := 4096#32
  let c0_i32_303 : BitVec 32 := 0#32
  let arg0 : BitVec 32 := BitVec.ofNat 32 (i 0).val
  let c4096_i32 : BitVec 32 := 4096#32
  let v33 : BitVec 32 := Scalar.muli arg0 c4096_i32
  let v850 : BitVec 32 := Scalar.subi v849 v33
  let v851 : BitVec 32 := Scalar.maxsi c0_i32_303 v850
  let v852 : BitVec 32 := Scalar.minsi c4096_i32_304 v851
  let c64_i32_306 : BitVec 32 := 64#32
  let v854 : BitVec 32 := Scalar.subi v852 c64_i32_306
  let v855 : BitVec 32 := Scalar.maxsi c0_i32_307 v854
  let v856 : BitVec 32 := Scalar.minsi c4032_i32_308 v855
  let v874 : Index := Scalar.indexCast v856
  let c0_312 : Index := 0#32
  ![v874.toNat, 0]

def k0_chk30 (i : grid0.Coords) (v849 : BitVec 32) : Prop :=
  (∀ a, (k0_off30 i v849) a + S64x128.size a ≤ S4096x128.size a)
theorem k0_off30_inb : ∀ (i : grid0.Coords) (v849 : BitVec 32) (k0_hw30 : k0_chk30 i v849), ∀ a, (k0_off30 i v849) a + S64x128.size a ≤ S4096x128.size a := fun i v849 k0_hw30 => k0_hw30

def k0_off31 (i : grid0.Coords) (v900 : BitVec 32) : Fin 2 → Nat :=
  let c4096_i32_319 : BitVec 32 := 4096#32
  let c0_i32_318 : BitVec 32 := 0#32
  let arg0 : BitVec 32 := BitVec.ofNat 32 (i 0).val
  let c4096_i32 : BitVec 32 := 4096#32
  let v33 : BitVec 32 := Scalar.muli arg0 c4096_i32
  let v901 : BitVec 32 := Scalar.subi v900 v33
  let v902 : BitVec 32 := Scalar.maxsi c0_i32_318 v901
  let v903 : BitVec 32 := Scalar.minsi c4096_i32_319 v902
  let c4032_i32_324 : BitVec 32 := 4032#32
  let v908 : BitVec 32 := Scalar.minsi v903 c4032_i32_324
  let v912 : Index := Scalar.indexCast v908
  let c0_328 : Index := 0#32
  ![v912.toNat, 0]

def k0_chk31 (i : grid0.Coords) (v900 : BitVec 32) : Prop :=
  (∀ a, (k0_off31 i v900) a + S64x128.size a ≤ S4096x128.size a)
theorem k0_off31_inb : ∀ (i : grid0.Coords) (v900 : BitVec 32) (k0_hw31 : k0_chk31 i v900), ∀ a, (k0_off31 i v900) a + S64x128.size a ≤ S4096x128.size a := fun i v900 k0_hw31 => k0_hw31

def k0_off32 (i : grid0.Coords) (v904 : BitVec 32) : Fin 2 → Nat :=
  let c4032_i32_327 : BitVec 32 := 4032#32
  let c0_i32_326 : BitVec 32 := 0#32
  let c4096_i32_323 : BitVec 32 := 4096#32
  let c0_i32_322 : BitVec 32 := 0#32
  let arg0 : BitVec 32 := BitVec.ofNat 32 (i 0).val
  let c4096_i32 : BitVec 32 := 4096#32
  let v33 : BitVec 32 := Scalar.muli arg0 c4096_i32
  let v905 : BitVec 32 := Scalar.subi v904 v33
  let v906 : BitVec 32 := Scalar.maxsi c0_i32_322 v905
  let v907 : BitVec 32 := Scalar.minsi c4096_i32_323 v906
  let c64_i32_325 : BitVec 32 := 64#32
  let v909 : BitVec 32 := Scalar.subi v907 c64_i32_325
  let v910 : BitVec 32 := Scalar.maxsi c0_i32_326 v909
  let v911 : BitVec 32 := Scalar.minsi c4032_i32_327 v910
  let v929 : Index := Scalar.indexCast v911
  let c0_331 : Index := 0#32
  ![v929.toNat, 0]

def k0_chk32 (i : grid0.Coords) (v904 : BitVec 32) : Prop :=
  (∀ a, (k0_off32 i v904) a + S64x128.size a ≤ S4096x128.size a)
theorem k0_off32_inb : ∀ (i : grid0.Coords) (v904 : BitVec 32) (k0_hw32 : k0_chk32 i v904), ∀ a, (k0_off32 i v904) a + S64x128.size a ≤ S4096x128.size a := fun i v904 k0_hw32 => k0_hw32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v6 : BitVec 32 := Scalar.muli v1 c16_i32
  let c0_i32_1044_r1 : BitVec 32 := 0#32
  ![v6.toNat, 0]
def k1_off2 (i : grid1.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v7 : BitVec 32 := Scalar.addi v2 c0_i32_1
  let c0_i32_14 : BitVec 32 := 0#32
  ![v7.toNat, 0]
def k1_off3 (i : grid1.Coords) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v39 : BitVec 32 := Scalar.addi v2 c0_i32_33
  let c0_i32_54 : BitVec 32 := 0#32
  ![v39.toNat, 0]
def k1_off4 (i : grid1.Coords) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v39 : BitVec 32 := Scalar.addi v2 c0_i32_33
  let c128_i32_62 : BitVec 32 := 128#32
  ![v39.toNat, 128]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S16384x3 : Shape := ⟨2, ![16384, 3]⟩
abbrev S16384 : Shape := ⟨1, ![16384]⟩
abbrev S65536x64 : Shape := ⟨2, ![65536, 64]⟩
abbrev S65536x3 : Shape := ⟨2, ![65536, 3]⟩
abbrev S65536 : Shape := ⟨1, ![65536]⟩
abbrev S67x64 : Shape := ⟨2, ![67, 64]⟩
abbrev S64 : Shape := ⟨1, ![64]⟩
abbrev S64x128 : Shape := ⟨2, ![64, 128]⟩
abbrev S128 : Shape := ⟨1, ![128]⟩
abbrev S16384x67 : Shape := ⟨2, ![16384, 67]⟩
abbrev S1x64 : Shape := ⟨2, ![1, 64]⟩
abbrev S_ : Shape := ⟨0, ![]⟩
abbrev S16384x128 : Shape := ⟨2, ![16384, 128]⟩
abbrev S1x128 : Shape := ⟨2, ![1, 128]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x16x1 : Shape := ⟨3, ![16384, 16, 1]⟩
abbrev S16384x1x128 : Shape := ⟨3, ![16384, 1, 128]⟩
abbrev S16384x16x128 : Shape := ⟨3, ![16384, 16, 128]⟩
abbrev S16x128 : Shape := ⟨2, ![16, 128]⟩
abbrev S65536x1 : Shape := ⟨2, ![65536, 1]⟩
abbrev S1 : Shape := ⟨1, ![1]⟩
abbrev S1x1 : Shape := ⟨2, ![1, 1]⟩
abbrev S65536x128 : Shape := ⟨2, ![65536, 128]⟩
abbrev S65536x192 : Shape := ⟨2, ![65536, 192]⟩

abbrev nBuf : Space → Nat
  | .hbm => 79
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x3, .f32⟩
  | .hbm, ⟨2, _⟩ => ⟨S16384, .i32⟩
  | .hbm, ⟨3, _⟩ => ⟨S65536x64, .f32⟩
  | .hbm, ⟨4, _⟩ => ⟨S65536x3, .f32⟩
  | .hbm, ⟨5, _⟩ => ⟨S65536, .i32⟩
  | .hbm, ⟨6, _⟩ => ⟨S67x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S16384x67, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S16384x128, .f32⟩
  | .hbm, ⟨19, _⟩ => ⟨S1x128, .f32⟩
  | .hbm, ⟨20, _⟩ => ⟨S16384x128, .f32⟩
  | .hbm, ⟨21, _⟩ => ⟨S16384x128, .f32⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S16384x1, .i32⟩
  | .hbm, ⟨26, _⟩ => ⟨S16, .i32⟩
  | .hbm, ⟨27, _⟩ => ⟨S1x16, .i32⟩
  | .hbm, ⟨28, _⟩ => ⟨S16384x16, .i32⟩
  | .hbm, ⟨29, _⟩ => ⟨S16384x16, .i32⟩
  | .hbm, ⟨30, _⟩ => ⟨S16384x16, .i1⟩
  | .hbm, ⟨31, _⟩ => ⟨S16384x16x1, .i1⟩
  | .hbm, ⟨32, _⟩ => ⟨S16384x1x128, .f32⟩
  | .hbm, ⟨33, _⟩ => ⟨S_, .f32⟩
  | .hbm, ⟨34, _⟩ => ⟨S_, .f32⟩
  | .hbm, ⟨35, _⟩ => ⟨S16384x16x128, .i1⟩
  | .hbm, ⟨36, _⟩ => ⟨S16384x16x128, .f32⟩
  | .hbm, ⟨37, _⟩ => ⟨S16384x16x128, .f32⟩
  | .hbm, ⟨38, _⟩ => ⟨S16384x16x128, .f32⟩
  | .hbm, ⟨39, _⟩ => ⟨S_, .f32⟩
  | .hbm, ⟨40, _⟩ => ⟨S16x128, .f32⟩
  | .hbm, ⟨41, _⟩ => ⟨S65536x3, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S_, .i32⟩
  | .hbm, ⟨52, _⟩ => ⟨S65536, .i32⟩
  | .hbm, ⟨53, _⟩ => ⟨S65536, .i1⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S1, .i32⟩
  | .hbm, ⟨60, _⟩ => ⟨S_, .i32⟩
  | .hbm, ⟨61, _⟩ => ⟨S65536x1, .i32⟩
  | .hbm, ⟨62, _⟩ => ⟨S65536x1, .i1⟩
  | .hbm, ⟨63, _⟩ => ⟨S1x1, .i32⟩
  | .hbm, ⟨64, _⟩ => ⟨S65536x1, .i32⟩
  | .hbm, ⟨65, _⟩ => ⟨S65536x1, .i1⟩
  | .hbm, ⟨66, _⟩ => ⟨S65536x1, .i1⟩
  | .hbm, ⟨67, _⟩ => ⟨S_, .i1⟩
  | .hbm, ⟨68, _⟩ => ⟨S65536, .i1⟩
  | .hbm, ⟨69, _⟩ => ⟨S65536x128, .f32⟩
  | .hbm, ⟨70, _⟩ => ⟨S65536x128, .i1⟩
  | .hbm, ⟨71, _⟩ => ⟨S_, .f32⟩
  | .hbm, ⟨72, _⟩ => ⟨S65536x128, .f32⟩
  | .hbm, ⟨73, _⟩ => ⟨S65536x128, .f32⟩
  | .hbm, ⟨74, _⟩ => ⟨S65536x128, .f32⟩
  | .hbm, ⟨75, _⟩ => ⟨S65536x128, .f32⟩
  | .hbm, ⟨76, _⟩ => ⟨S65536x128, .f32⟩
  | .hbm, ⟨77, _⟩ => ⟨S65536x128, .f32⟩
  | .hbm, ⟨78, _⟩ => ⟨S65536x192, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_cst : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_call3_cst : Ref sig .tc := ⟨.hbm, 71, rfl⟩
abbrev main_call3_v15 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩

abbrev nD : Nat := 1
abbrev τ : Topo := Topo.v7x

variable {F : FTy → Type} [FloatOps F]
-- ==== Pool.lean ====
abbrev S16384x64 : Shape := ⟨2, ![16384, 64]⟩
abbrev S16384x3 : Shape := ⟨2, ![16384, 3]⟩
abbrev S16384 : Shape := ⟨1, ![16384]⟩
abbrev S67x64 : Shape := ⟨2, ![67, 64]⟩
abbrev S64 : Shape := ⟨1, ![64]⟩
abbrev S64x128 : Shape := ⟨2, ![64, 128]⟩
abbrev S128 : Shape := ⟨1, ![128]⟩
abbrev S64x64 : Shape := ⟨2, ![64, 64]⟩
abbrev S3x64 : Shape := ⟨2, ![3, 64]⟩
abbrev S128x128 : Shape := ⟨2, ![128, 128]⟩
abbrev S1x64 : Shape := ⟨2, ![1, 64]⟩
abbrev S1x128 : Shape := ⟨2, ![1, 128]⟩
abbrev S16x128 : Shape := ⟨2, ![16, 128]⟩
abbrev S4096x64 : Shape := ⟨2, ![4096, 64]⟩
abbrev S4096x3 : Shape := ⟨2, ![4096, 3]⟩
abbrev S2x16 : Shape := ⟨2, ![2, 16]⟩
abbrev S4096x128 : Shape := ⟨2, ![4096, 128]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩
abbrev S1x16 : Shape := ⟨2, ![1, 16]⟩
abbrev S64x8x8x128 : Shape := ⟨4, ![64, 8, 8, 128]⟩
abbrev S64x8x128 : Shape := ⟨3, ![64, 8, 128]⟩
abbrev S512x128 : Shape := ⟨2, ![512, 128]⟩
abbrev S512x16 : Shape := ⟨2, ![512, 16]⟩
abbrev S64x1 : Shape := ⟨2, ![64, 1]⟩
abbrev S512x1 : Shape := ⟨2, ![512, 1]⟩

abbrev nBuf : Space → Nat
  | .hbm => 13
  | .vmem => 13
  | .smem => 1
  | _ => 0

abbrev bufTy : (tb : Table) → Fin (tcTables nBuf tb) → BufTy
  | .hbm, ⟨0, _⟩ => ⟨S16384x64, .f32⟩
  | .hbm, ⟨1, _⟩ => ⟨S16384x3, .f32⟩
  | .hbm, ⟨2, _⟩ => ⟨S16384, .i32⟩
  | .hbm, ⟨3, _⟩ => ⟨S67x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S64x64, .f32⟩
  | .hbm, ⟨8, _⟩ => ⟨S3x64, .f32⟩
  | .hbm, ⟨9, _⟩ => ⟨S128x128, .i32⟩
  | .hbm, ⟨10, _⟩ => ⟨S1x64, .f32⟩
  | .hbm, ⟨11, _⟩ => ⟨S1x128, .f32⟩
  | .hbm, ⟨12, _⟩ => ⟨S16x128, .f32⟩
  | .local _ .vmem, ⟨0, _⟩ => ⟨S4096x64, .f32⟩
  | .local _ .vmem, ⟨1, _⟩ => ⟨S4096x64, .f32⟩
  | .local _ .vmem, ⟨2, _⟩ => ⟨S4096x3, .f32⟩
  | .local _ .vmem, ⟨3, _⟩ => ⟨S4096x3, .f32⟩
  | .local _ .vmem, ⟨4, _⟩ => ⟨S128x128, .i32⟩
  | .local _ .vmem, ⟨5, _⟩ => ⟨S64x64, .f32⟩
  | .local _ .vmem, ⟨6, _⟩ => ⟨S3x64, .f32⟩
  | .local _ .vmem, ⟨7, _⟩ => ⟨S1x64, .f32⟩
  | .local _ .vmem, ⟨8, _⟩ => ⟨S64x128, .f32⟩
  | .local _ .vmem, ⟨9, _⟩ => ⟨S1x128, .f32⟩
  | .local _ .vmem, ⟨10, _⟩ => ⟨S16x128, .f32⟩
  | .local _ .vmem, ⟨11, _⟩ => ⟨S2x16, .i32⟩
  | .local _ .vmem, ⟨12, _⟩ => ⟨S4096x128, .f32⟩
  | .local _ .smem, ⟨0, _⟩ => ⟨S2x16, .i32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch2 : Ref sig .tc := ⟨.vmem, 12, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![4], ![false]⟩

def k0_off1 (i : grid0.Coords) (v75 : BitVec 32) : Fin 2 → Nat :=
  let c4096_i32_35 : BitVec 32 := 4096#32
  let c0_i32_34 : BitVec 32 := 0#32
  let arg0 : BitVec 32 := BitVec.ofNat 32 (i 0).val
  let c4096_i32 : BitVec 32 := 4096#32
  let v33 : BitVec 32 := Scalar.muli arg0 c4096_i32
  let v76 : BitVec 32 := Scalar.subi v75 v33
  let v77 : BitVec 32 := Scalar.maxsi c0_i32_34 v76
  let v78 : BitVec 32 := Scalar.minsi c4096_i32_35 v77
  let c4032_i32 : BitVec 32 := 4032#32
  let v83 : BitVec 32 := Scalar.minsi v78 c4032_i32
  let v87 : Index := Scalar.indexCast v83
  let c0_42 : Index := 0#32
  ![v87.toNat, 0]

def k0_chk1 (i : grid0.Coords) (v75 : BitVec 32) : Prop :=
  (∀ a, (k0_off1 i v75) a + S64x128.size a ≤ S4096x128.size a)
theorem k0_off1_inb : ∀ (i : grid0.Coords) (v75 : BitVec 32) (k0_hw1 : k0_chk1 i v75), ∀ a, (k0_off1 i v75) a + S64x128.size a ≤ S4096x128.size a := fun i v75 k0_hw1 => k0_hw1

def k0_off2 (i : grid0.Coords) (v79 : BitVec 32) : Fin 2 → Nat :=
  let c4032_i32_41 : BitVec 32 := 4032#32
  let c0_i32_40 : BitVec 32 := 0#32
  let c4096_i32_39 : BitVec 32 := 4096#32
  let c0_i32_38 : BitVec 32 := 0#32
  let arg0 : BitVec 32 := BitVec.ofNat 32 (i 0).val
  let c4096_i32 : BitVec 32 := 4096#32
  let v33 : BitVec 32 := Scalar.muli arg0 c4096_i32
  let v80 : BitVec 32 := Scalar.subi v79 v33
  let v81 : BitVec 32 := Scalar.maxsi c0_i32_38 v80
  let v82 : BitVec 32 := Scalar.minsi c4096_i32_39 v81
  let c64_i32 : BitVec 32 := 64#32
  let v84 : BitVec 32 := Scalar.subi v82 c64_i32
  let v85 : BitVec 32 := Scalar.maxsi c0_i32_40 v84
  let v86 : BitVec 32 := Scalar.minsi c4032_i32_41 v85
  let v104 : Index := Scalar.indexCast v86
  let c0_45 : Index := 0#32
  ![v104.toNat, 0]

def k0_chk2 (i : grid0.Coords) (v79 : BitVec 32) : Prop :=
  (∀ a, (k0_off2 i v79) a + S64x128.size a ≤ S4096x128.size a)
theorem k0_off2_inb : ∀ (i : grid0.Coords) (v79 : BitVec 32) (k0_hw2 : k0_chk2 i v79), ∀ a, (k0_off2 i v79) a + S64x128.size a ≤ S4096x128.size a := fun i v79 k0_hw2 => k0_hw2

def k0_off3 (i : grid0.Coords) (v130 : BitVec 32) : Fin 2 → Nat :=
  let c4096_i32_53 : BitVec 32 := 4096#32
  let c0_i32_52 : BitVec 32 := 0#32
  let arg0 : BitVec 32 := BitVec.ofNat 32 (i 0).val
  let c4096_i32 : BitVec 32 := 4096#32
  let v33 : BitVec 32 := Scalar.muli arg0 c4096_i32
  let v131 : BitVec 32 := Scalar.subi v130 v33
  let v132 : BitVec 32 := Scalar.maxsi c0_i32_52 v131
  let v133 : BitVec 32 := Scalar.minsi c4096_i32_53 v132
  let c4032_i32_58 : BitVec 32 := 4032#32
  let v138 : BitVec 32 := Scalar.minsi v133 c4032_i32_58
  let v142 : Index := Scalar.indexCast v138
  let c0_62 : Index := 0#32
  ![v142.toNat, 0]

def k0_chk3 (i : grid0.Coords) (v130 : BitVec 32) : Prop :=
  (∀ a, (k0_off3 i v130) a + S64x128.size a ≤ S4096x128.size a)
theorem k0_off3_inb : ∀ (i : grid0.Coords) (v130 : BitVec 32) (k0_hw3 : k0_chk3 i v130), ∀ a, (k0_off3 i v130) a + S64x128.size a ≤ S4096x128.size a := fun i v130 k0_hw3 => k0_hw3

def k0_off4 (i : grid0.Coords) (v134 : BitVec 32) : Fin 2 → Nat :=
  let c4032_i32_61 : BitVec 32 := 4032#32
  let c0_i32_60 : BitVec 32 := 0#32
  let c4096_i32_57 : BitVec 32 := 4096#32
  let c0_i32_56 : BitVec 32 := 0#32
  let arg0 : BitVec 32 := BitVec.ofNat 32 (i 0).val
  let c4096_i32 : BitVec 32 := 4096#32
  let v33 : BitVec 32 := Scalar.muli arg0 c4096_i32
  let v135 : BitVec 32 := Scalar.subi v134 v33
  let v136 : BitVec 32 := Scalar.maxsi c0_i32_56 v135
  let v137 : BitVec 32 := Scalar.minsi c4096_i32_57 v136
  let c64_i32_59 : BitVec 32 := 64#32
  let v139 : BitVec 32 := Scalar.subi v137 c64_i32_59
  let v140 : BitVec 32 := Scalar.maxsi c0_i32_60 v139
  let v141 : BitVec 32 := Scalar.minsi c4032_i32_61 v140
  let v159 : Index := Scalar.indexCast v141
  let c0_65 : Index := 0#32
  ![v159.toNat, 0]

def k0_chk4 (i : grid0.Coords) (v134 : BitVec 32) : Prop :=
  (∀ a, (k0_off4 i v134) a + S64x128.size a ≤ S4096x128.size a)
theorem k0_off4_inb : ∀ (i : grid0.Coords) (v134 : BitVec 32) (k0_hw4 : k0_chk4 i v134), ∀ a, (k0_off4 i v134) a + S64x128.size a ≤ S4096x128.size a := fun i v134 k0_hw4 => k0_hw4

def k0_off5 (i : grid0.Coords) (v185 : BitVec 32) : Fin 2 → Nat :=
  let c4096_i32_72 : BitVec 32 := 4096#32
  let c0_i32_71 : BitVec 32 := 0#32
  let arg0 : BitVec 32 := BitVec.ofNat 32 (i 0).val
  let c4096_i32 : BitVec 32 := 4096#32
  let v33 : BitVec 32 := Scalar.muli arg0 c4096_i32
  let v186 : BitVec 32 := Scalar.subi v185 v33
  let v187 : BitVec 32 := Scalar.maxsi c0_i32_71 v186
  let v188 : BitVec 32 := Scalar.minsi c4096_i32_72 v187
  let c4032_i32_77 : BitVec 32 := 4032#32
  let v193 : BitVec 32 := Scalar.minsi v188 c4032_i32_77
  let v197 : Index := Scalar.indexCast v193
  let c0_81 : Index := 0#32
  ![v197.toNat, 0]

def k0_chk5 (i : grid0.Coords) (v185 : BitVec 32) : Prop :=
  (∀ a, (k0_off5 i v185) a + S64x128.size a ≤ S4096x128.size a)
theorem k0_off5_inb : ∀ (i : grid0.Coords) (v185 : BitVec 32) (k0_hw5 : k0_chk5 i v185), ∀ a, (k0_off5 i v185) a + S64x128.size a ≤ S4096x128.size a := fun i v185 k0_hw5 => k0_hw5

def k0_off6 (i : grid0.Coords) (v189 : BitVec 32) : Fin 2 → Nat :=
  let c4032_i32_80 : BitVec 32 := 4032#32
  let c0_i32_79 : BitVec 32 := 0#32
  let c4096_i32_76 : BitVec 32 := 4096#32
  let c0_i32_75 : BitVec 32 := 0#32
  let arg0 : BitVec 32 := BitVec.ofNat 32 (i 0).val
  let c4096_i32 : BitVec 32 := 4096#32
  let v33 : BitVec 32 := Scalar.muli arg0 c4096_i32
  let v190 : BitVec 32 := Scalar.subi v189 v33
  let v191 : BitVec 32 := Scalar.maxsi c0_i32_75 v190
  let v192 : BitVec 32 := Scalar.minsi c4096_i32_76 v191
  let c64_i32_78 : BitVec 32 := 64#32
  let v194 : BitVec 32 := Scalar.subi v192 c64_i32_78
  let v195 : BitVec 32 := Scalar.maxsi c0_i32_79 v194
  let v196 : BitVec 32 := Scalar.minsi c4032_i32_80 v195
  let v214 : Index := Scalar.indexCast v196
  let c0_84 : Index := 0#32
  ![v214.toNat, 0]

def k0_chk6 (i : grid0.Coords) (v189 : BitVec 32) : Prop :=
  (∀ a, (k0_off6 i v189) a + S64x128.size a ≤ S4096x128.size a)
theorem k0_off6_inb : ∀ (i : grid0.Coords) (v189 : BitVec 32) (k0_hw6 : k0_chk6 i v189), ∀ a, (k0_off6 i v189) a + S64x128.size a ≤ S4096x128.size a := fun i v189 k0_hw6 => k0_hw6

def k0_off7 (i : grid0.Coords) (v240 : BitVec 32) : Fin 2 → Nat :=
  let c4096_i32_91 : BitVec 32 := 4096#32
  let c0_i32_90 : BitVec 32 := 0#32
  let arg0 : BitVec 32 := BitVec.ofNat 32 (i 0).val
  let c4096_i32 : BitVec 32 := 4096#32
  let v33 : BitVec 32 := Scalar.muli arg0 c4096_i32
  let v241 : BitVec 32 := Scalar.subi v240 v33
  let v242 : BitVec 32 := Scalar.maxsi c0_i32_90 v241
  let v243 : BitVec 32 := Scalar.minsi c4096_i32_91 v242
  let c4032_i32_96 : BitVec 32 := 4032#32
  let v248 : BitVec 32 := Scalar.minsi v243 c4032_i32_96
  let v252 : Index := Scalar.indexCast v248
  let c0_100 : Index := 0#32
  ![v252.toNat, 0]

def k0_chk7 (i : grid0.Coords) (v240 : BitVec 32) : Prop :=
  (∀ a, (k0_off7 i v240) a + S64x128.size a ≤ S4096x128.size a)
theorem k0_off7_inb : ∀ (i : grid0.Coords) (v240 : BitVec 32) (k0_hw7 : k0_chk7 i v240), ∀ a, (k0_off7 i v240) a + S64x128.size a ≤ S4096x128.size a := fun i v240 k0_hw7 => k0_hw7

def k0_off8 (i : grid0.Coords) (v244 : BitVec 32) : Fin 2 → Nat :=
  let c4032_i32_99 : BitVec 32 := 4032#32
  let c0_i32_98 : BitVec 32 := 0#32
  let c4096_i32_95 : BitVec 32 := 4096#32
  let c0_i32_94 : BitVec 32 := 0#32
  let arg0 : BitVec 32 := BitVec.ofNat 32 (i 0).val
  let c4096_i32 : BitVec 32 := 4096#32
  let v33 : BitVec 32 := Scalar.muli arg0 c4096_i32
  let v245 : BitVec 32 := Scalar.subi v244 v33
  let v246 : BitVec 32 := Scalar.maxsi c0_i32_94 v245
  let v247 : BitVec 32 := Scalar.minsi c4096_i32_95 v246
  let c64_i32_97 : BitVec 32 := 64#32
  let v249 : BitVec 32 := Scalar.subi v247 c64_i32_97
  let v250 : BitVec 32 := Scalar.maxsi c0_i32_98 v249
  let v251 : BitVec 32 := Scalar.minsi c4032_i32_99 v250
  let v269 : Index := Scalar.indexCast v251
  let c0_103 : Index := 0#32
  ![v269.toNat, 0]

def k0_chk8 (i : grid0.Coords) (v244 : BitVec 32) : Prop :=
  (∀ a, (k0_off8 i v244) a + S64x128.size a ≤ S4096x128.size a)
theorem k0_off8_inb : ∀ (i : grid0.Coords) (v244 : BitVec 32) (k0_hw8 : k0_chk8 i v244), ∀ a, (k0_off8 i v244) a + S64x128.size a ≤ S4096x128.size a := fun i v244 k0_hw8 => k0_hw8

def k0_off9 (i : grid0.Coords) (v295 : BitVec 32) : Fin 2 → Nat :=
  let c4096_i32_110 : BitVec 32 := 4096#32
  let c0_i32_109 : BitVec 32 := 0#32
  let arg0 : BitVec 32 := BitVec.ofNat 32 (i 0).val
  let c4096_i32 : BitVec 32 := 4096#32
  let v33 : BitVec 32 := Scalar.muli arg0 c4096_i32
  let v296 : BitVec 32 := Scalar.subi v295 v33
  let v297 : BitVec 32 := Scalar.maxsi c0_i32_109 v296
  let v298 : BitVec 32 := Scalar.minsi c4096_i32_110 v297
  let c4032_i32_115 : BitVec 32 := 4032#32
  let v303 : BitVec 32 := Scalar.minsi v298 c4032_i32_115
  let v307 : Index := Scalar.indexCast v303
  let c0_119 : Index := 0#32
  ![v307.toNat, 0]

def k0_chk9 (i : grid0.Coords) (v295 : BitVec 32) : Prop :=
  (∀ a, (k0_off9 i v295) a + S64x128.size a ≤ S4096x128.size a)
theorem k0_off9_inb : ∀ (i : grid0.Coords) (v295 : BitVec 32) (k0_hw9 : k0_chk9 i v295), ∀ a, (k0_off9 i v295) a + S64x128.size a ≤ S4096x128.size a := fun i v295 k0_hw9 => k0_hw9

def k0_off10 (i : grid0.Coords) (v299 : BitVec 32) : Fin 2 → Nat :=
  let c4032_i32_118 : BitVec 32 := 4032#32
  let c0_i32_117 : BitVec 32 := 0#32
  let c4096_i32_114 : BitVec 32 := 4096#32
  let c0_i32_113 : BitVec 32 := 0#32
  let arg0 : BitVec 32 := BitVec.ofNat 32 (i 0).val
  let c4096_i32 : BitVec 32 := 4096#32
  let v33 : BitVec 32 := Scalar.muli arg0 c4096_i32
  let v300 : BitVec 32 := Scalar.subi v299 v33
  let v301 : BitVec 32 := Scalar.maxsi c0_i32_113 v300
  let v302 : BitVec 32 := Scalar.minsi c4096_i32_114 v301
  let c64_i32_116 : BitVec 32 := 64#32
  let v304 : BitVec 32 := Scalar.subi v302 c64_i32_116
  let v305 : BitVec 32 := Scalar.maxsi c0_i32_117 v304
  let v306 : BitVec 32 := Scalar.minsi c4032_i32_118 v305
  let v324 : Index := Scalar.indexCast v306
  let c0_122 : Index := 0#32
  ![v324.toNat, 0]

def k0_chk10 (i : grid0.Coords) (v299 : BitVec 32) : Prop :=
  (∀ a, (k0_off10 i v299) a + S64x128.size a ≤ S4096x128.size a)
theorem k0_off10_inb : ∀ (i : grid0.Coords) (v299 : BitVec 32) (k0_hw10 : k0_chk10 i v299), ∀ a, (k0_off10 i v299) a + S64x128.size a ≤ S4096x128.size a := fun i v299 k0_hw10 => k0_hw10

def k0_off11 (i : grid0.Coords) (v350 : BitVec 32) : Fin 2 → Nat :=
  let c4096_i32_129 : BitVec 32 := 4096#32
  let c0_i32_128 : BitVec 32 := 0#32
  let arg0 : BitVec 32 := BitVec.ofNat 32 (i 0).val
  let c4096_i32 : BitVec 32 := 4096#32
  let v33 : BitVec 32 := Scalar.muli arg0 c4096_i32
  let v351 : BitVec 32 := Scalar.subi v350 v33
  let v352 : BitVec 32 := Scalar.maxsi c0_i32_128 v351
  let v353 : BitVec 32 := Scalar.minsi c4096_i32_129 v352
  let c4032_i32_134 : BitVec 32 := 4032#32
  let v358 : BitVec 32 := Scalar.minsi v353 c4032_i32_134
  let v362 : Index := Scalar.indexCast v358
  let c0_138 : Index := 0#32
  ![v362.toNat, 0]

def k0_chk11 (i : grid0.Coords) (v350 : BitVec 32) : Prop :=
  (∀ a, (k0_off11 i v350) a + S64x128.size a ≤ S4096x128.size a)
theorem k0_off11_inb : ∀ (i : grid0.Coords) (v350 : BitVec 32) (k0_hw11 : k0_chk11 i v350), ∀ a, (k0_off11 i v350) a + S64x128.size a ≤ S4096x128.size a := fun i v350 k0_hw11 => k0_hw11

def k0_off12 (i : grid0.Coords) (v354 : BitVec 32) : Fin 2 → Nat :=
  let c4032_i32_137 : BitVec 32 := 4032#32
  let c0_i32_136 : BitVec 32 := 0#32
  let c4096_i32_133 : BitVec 32 := 4096#32
  let c0_i32_132 : BitVec 32 := 0#32
  let arg0 : BitVec 32 := BitVec.ofNat 32 (i 0).val
  let c4096_i32 : BitVec 32 := 4096#32
  let v33 : BitVec 32 := Scalar.muli arg0 c4096_i32
  let v355 : BitVec 32 := Scalar.subi v354 v33
  let v356 : BitVec 32 := Scalar.maxsi c0_i32_132 v355
  let v357 : BitVec 32 := Scalar.minsi c4096_i32_133 v356
  let c64_i32_135 : BitVec 32 := 64#32
  let v359 : BitVec 32 := Scalar.subi v357 c64_i32_135
  let v360 : BitVec 32 := Scalar.maxsi c0_i32_136 v359
  let v361 : BitVec 32 := Scalar.minsi c4032_i32_137 v360
  let v379 : Index := Scalar.indexCast v361
  let c0_141 : Index := 0#32
  ![v379.toNat, 0]

def k0_chk12 (i : grid0.Coords) (v354 : BitVec 32) : Prop :=
  (∀ a, (k0_off12 i v354) a + S64x128.size a ≤ S4096x128.size a)
theorem k0_off12_inb : ∀ (i : grid0.Coords) (v354 : BitVec 32) (k0_hw12 : k0_chk12 i v354), ∀ a, (k0_off12 i v354) a + S64x128.size a ≤ S4096x128.size a := fun i v354 k0_hw12 => k0_hw12

def k0_off13 (i : grid0.Coords) (v405 : BitVec 32) : Fin 2 → Nat :=
  let c4096_i32_148 : BitVec 32 := 4096#32
  let c0_i32_147 : BitVec 32 := 0#32
  let arg0 : BitVec 32 := BitVec.ofNat 32 (i 0).val
  let c4096_i32 : BitVec 32 := 4096#32
  let v33 : BitVec 32 := Scalar.muli arg0 c4096_i32
  let v406 : BitVec 32 := Scalar.subi v405 v33
  let v407 : BitVec 32 := Scalar.maxsi c0_i32_147 v406
  let v408 : BitVec 32 := Scalar.minsi c4096_i32_148 v407
  let c4032_i32_153 : BitVec 32 := 4032#32
  let v413 : BitVec 32 := Scalar.minsi v408 c4032_i32_153
  let v417 : Index := Scalar.indexCast v413
  let c0_157 : Index := 0#32
  ![v417.toNat, 0]

def k0_chk13 (i : grid0.Coords) (v405 : BitVec 32) : Prop :=
  (∀ a, (k0_off13 i v405) a + S64x128.size a ≤ S4096x128.size a)
theorem k0_off13_inb : ∀ (i : grid0.Coords) (v405 : BitVec 32) (k0_hw13 : k0_chk13 i v405), ∀ a, (k0_off13 i v405) a + S64x128.size a ≤ S4096x128.size a := fun i v405 k0_hw13 => k0_hw13

def k0_off14 (i : grid0.Coords) (v409 : BitVec 32) : Fin 2 → Nat :=
  let c4032_i32_156 : BitVec 32 := 4032#32
  let c0_i32_155 : BitVec 32 := 0#32
  let c4096_i32_152 : BitVec 32 := 4096#32
  let c0_i32_151 : BitVec 32 := 0#32
  let arg0 : BitVec 32 := BitVec.ofNat 32 (i 0).val
  let c4096_i32 : BitVec 32 := 4096#32
  let v33 : BitVec 32 := Scalar.muli arg0 c4096_i32
  let v410 : BitVec 32 := Scalar.subi v409 v33
  let v411 : BitVec 32 := Scalar.maxsi c0_i32_151 v410
  let v412 : BitVec 32 := Scalar.minsi c4096_i32_152 v411
  let c64_i32_154 : BitVec 32 := 64#32
  let v414 : BitVec 32 := Scalar.subi v412 c64_i32_154
  let v415 : BitVec 32 := Scalar.maxsi c0_i32_155 v414
  let v416 : BitVec 32 := Scalar.minsi c4032_i32_156 v415
  let v434 : Index := Scalar.indexCast v416
  let c0_160 : Index := 0#32
  ![v434.toNat, 0]

def k0_chk14 (i : grid0.Coords) (v409 : BitVec 32) : Prop :=
  (∀ a, (k0_off14 i v409) a + S64x128.size a ≤ S4096x128.size a)
theorem k0_off14_inb : ∀ (i : grid0.Coords) (v409 : BitVec 32) (k0_hw14 : k0_chk14 i v409), ∀ a, (k0_off14 i v409) a + S64x128.size a ≤ S4096x128.size a := fun i v409 k0_hw14 => k0_hw14

def k0_off15 (i : grid0.Coords) (v460 : BitVec 32) : Fin 2 → Nat :=
  let c4096_i32_167 : BitVec 32 := 4096#32
  let c0_i32_166 : BitVec 32 := 0#32
  let arg0 : BitVec 32 := BitVec.ofNat 32 (i 0).val
  let c4096_i32 : BitVec 32 := 4096#32
  let v33 : BitVec 32 := Scalar.muli arg0 c4096_i32
  let v461 : BitVec 32 := Scalar.subi v460 v33
  let v462 : BitVec 32 := Scalar.maxsi c0_i32_166 v461
  let v463 : BitVec 32 := Scalar.minsi c4096_i32_167 v462
  let c4032_i32_172 : BitVec 32 := 4032#32
  let v468 : BitVec 32 := Scalar.minsi v463 c4032_i32_172
  let v472 : Index := Scalar.indexCast v468
  let c0_176 : Index := 0#32
  ![v472.toNat, 0]

def k0_chk15 (i : grid0.Coords) (v460 : BitVec 32) : Prop :=
  (∀ a, (k0_off15 i v460) a + S64x128.size a ≤ S4096x128.size a)
theorem k0_off15_inb : ∀ (i : grid0.Coords) (v460 : BitVec 32) (k0_hw15 : k0_chk15 i v460), ∀ a, (k0_off15 i v460) a + S64x128.size a ≤ S4096x128.size a := fun i v460 k0_hw15 => k0_hw15

def k0_off16 (i : grid0.Coords) (v464 : BitVec 32) : Fin 2 → Nat :=
  let c4032_i32_175 : BitVec 32 := 4032#32
  let c0_i32_174 : BitVec 32 := 0#32
  let c4096_i32_171 : BitVec 32 := 4096#32
  let c0_i32_170 : BitVec 32 := 0#32
  let arg0 : BitVec 32 := BitVec.ofNat 32 (i 0).val
  let c4096_i32 : BitVec 32 := 4096#32
  let v33 : BitVec 32 := Scalar.muli arg0 c4096_i32
  let v465 : BitVec 32 := Scalar.subi v464 v33
  let v466 : BitVec 32 := Scalar.maxsi c0_i32_170 v465
  let v467 : BitVec 32 := Scalar.minsi c4096_i32_171 v466
  let c64_i32_173 : BitVec 32 := 64#32
  let v469 : BitVec 32 := Scalar.subi v467 c64_i32_173
  let v470 : BitVec 32 := Scalar.maxsi c0_i32_174 v469
  let v471 : BitVec 32 := Scalar.minsi c4032_i32_175 v470
  let v489 : Index := Scalar.indexCast v471
  let c0_179 : Index := 0#32
  ![v489.toNat, 0]

def k0_chk16 (i : grid0.Coords) (v464 : BitVec 32) : Prop :=
  (∀ a, (k0_off16 i v464) a + S64x128.size a ≤ S4096x128.size a)
theorem k0_off16_inb : ∀ (i : grid0.Coords) (v464 : BitVec 32) (k0_hw16 : k0_chk16 i v464), ∀ a, (k0_off16 i v464) a + S64x128.size a ≤ S4096x128.size a := fun i v464 k0_hw16 => k0_hw16

def k0_off17 (i : grid0.Coords) (v515 : BitVec 32) : Fin 2 → Nat :=
  let c4096_i32_186 : BitVec 32 := 4096#32
  let c0_i32_185 : BitVec 32 := 0#32
  let arg0 : BitVec 32 := BitVec.ofNat 32 (i 0).val
  let c4096_i32 : BitVec 32 := 4096#32
  let v33 : BitVec 32 := Scalar.muli arg0 c4096_i32
  let v516 : BitVec 32 := Scalar.subi v515 v33
  let v517 : BitVec 32 := Scalar.maxsi c0_i32_185 v516
  let v518 : BitVec 32 := Scalar.minsi c4096_i32_186 v517
  let c4032_i32_191 : BitVec 32 := 4032#32
  let v523 : BitVec 32 := Scalar.minsi v518 c4032_i32_191
  let v527 : Index := Scalar.indexCast v523
  let c0_195 : Index := 0#32
  ![v527.toNat, 0]

def k0_chk17 (i : grid0.Coords) (v515 : BitVec 32) : Prop :=
  (∀ a, (k0_off17 i v515) a + S64x128.size a ≤ S4096x128.size a)
theorem k0_off17_inb : ∀ (i : grid0.Coords) (v515 : BitVec 32) (k0_hw17 : k0_chk17 i v515), ∀ a, (k0_off17 i v515) a + S64x128.size a ≤ S4096x128.size a := fun i v515 k0_hw17 => k0_hw17

def k0_off18 (i : grid0.Coords) (v519 : BitVec 32) : Fin 2 → Nat :=
  let c4032_i32_194 : BitVec 32 := 4032#32
  let c0_i32_193 : BitVec 32 := 0#32
  let c4096_i32_190 : BitVec 32 := 4096#32
  let c0_i32_189 : BitVec 32 := 0#32
  let arg0 : BitVec 32 := BitVec.ofNat 32 (i 0).val
  let c4096_i32 : BitVec 32 := 4096#32
  let v33 : BitVec 32 := Scalar.muli arg0 c4096_i32
  let v520 : BitVec 32 := Scalar.subi v519 v33
  let v521 : BitVec 32 := Scalar.maxsi c0_i32_189 v520
  let v522 : BitVec 32 := Scalar.minsi c4096_i32_190 v521
  let c64_i32_192 : BitVec 32 := 64#32
  let v524 : BitVec 32 := Scalar.subi v522 c64_i32_192
  let v525 : BitVec 32 := Scalar.maxsi c0_i32_193 v524
  let v526 : BitVec 32 := Scalar.minsi c4032_i32_194 v525
  let v544 : Index := Scalar.indexCast v526
  let c0_198 : Index := 0#32
  ![v544.toNat, 0]

def k0_chk18 (i : grid0.Coords) (v519 : BitVec 32) : Prop :=
  (∀ a, (k0_off18 i v519) a + S64x128.size a ≤ S4096x128.size a)
theorem k0_off18_inb : ∀ (i : grid0.Coords) (v519 : BitVec 32) (k0_hw18 : k0_chk18 i v519), ∀ a, (k0_off18 i v519) a + S64x128.size a ≤ S4096x128.size a := fun i v519 k0_hw18 => k0_hw18

def k0_off19 (i : grid0.Coords) (v570 : BitVec 32) : Fin 2 → Nat :=
  let c4096_i32_205 : BitVec 32 := 4096#32
  let c0_i32_204 : BitVec 32 := 0#32
  let arg0 : BitVec 32 := BitVec.ofNat 32 (i 0).val
  let c4096_i32 : BitVec 32 := 4096#32
  let v33 : BitVec 32 := Scalar.muli arg0 c4096_i32
  let v571 : BitVec 32 := Scalar.subi v570 v33
  let v572 : BitVec 32 := Scalar.maxsi c0_i32_204 v571
  let v573 : BitVec 32 := Scalar.minsi c4096_i32_205 v572
  let c4032_i32_210 : BitVec 32 := 4032#32
  let v578 : BitVec 32 := Scalar.minsi v573 c4032_i32_210
  let v582 : Index := Scalar.indexCast v578
  let c0_214 : Index := 0#32
  ![v582.toNat, 0]

def k0_chk19 (i : grid0.Coords) (v570 : BitVec 32) : Prop :=
  (∀ a, (k0_off19 i v570) a + S64x128.size a ≤ S4096x128.size a)
theorem k0_off19_inb : ∀ (i : grid0.Coords) (v570 : BitVec 32) (k0_hw19 : k0_chk19 i v570), ∀ a, (k0_off19 i v570) a + S64x128.size a ≤ S4096x128.size a := fun i v570 k0_hw19 => k0_hw19

def k0_off20 (i : grid0.Coords) (v574 : BitVec 32) : Fin 2 → Nat :=
  let c4032_i32_213 : BitVec 32 := 4032#32
  let c0_i32_212 : BitVec 32 := 0#32
  let c4096_i32_209 : BitVec 32 := 4096#32
  let c0_i32_208 : BitVec 32 := 0#32
  let arg0 : BitVec 32 := BitVec.ofNat 32 (i 0).val
  let c4096_i32 : BitVec 32 := 4096#32
  let v33 : BitVec 32 := Scalar.muli arg0 c4096_i32
  let v575 : BitVec 32 := Scalar.subi v574 v33
  let v576 : BitVec 32 := Scalar.maxsi c0_i32_208 v575
  let v577 : BitVec 32 := Scalar.minsi c4096_i32_209 v576
  let c64_i32_211 : BitVec 32 := 64#32
  let v579 : BitVec 32 := Scalar.subi v577 c64_i32_211
  let v580 : BitVec 32 := Scalar.maxsi c0_i32_212 v579
  let v581 : BitVec 32 := Scalar.minsi c4032_i32_213 v580
  let v599 : Index := Scalar.indexCast v581
  let c0_217 : Index := 0#32
  ![v599.toNat, 0]

def k0_chk20 (i : grid0.Coords) (v574 : BitVec 32) : Prop :=
  (∀ a, (k0_off20 i v574) a + S64x128.size a ≤ S4096x128.size a)
theorem k0_off20_inb : ∀ (i : grid0.Coords) (v574 : BitVec 32) (k0_hw20 : k0_chk20 i v574), ∀ a, (k0_off20 i v574) a + S64x128.size a ≤ S4096x128.size a := fun i v574 k0_hw20 => k0_hw20

def k0_off21 (i : grid0.Coords) (v625 : BitVec 32) : Fin 2 → Nat :=
  let c4096_i32_224 : BitVec 32 := 4096#32
  let c0_i32_223 : BitVec 32 := 0#32
  let arg0 : BitVec 32 := BitVec.ofNat 32 (i 0).val
  let c4096_i32 : BitVec 32 := 4096#32
  let v33 : BitVec 32 := Scalar.muli arg0 c4096_i32
  let v626 : BitVec 32 := Scalar.subi v625 v33
  let v627 : BitVec 32 := Scalar.maxsi c0_i32_223 v626
  let v628 : BitVec 32 := Scalar.minsi c4096_i32_224 v627
  let c4032_i32_229 : BitVec 32 := 4032#32
  let v633 : BitVec 32 := Scalar.minsi v628 c4032_i32_229
  let v637 : Index := Scalar.indexCast v633
  let c0_233 : Index := 0#32
  ![v637.toNat, 0]

def k0_chk21 (i : grid0.Coords) (v625 : BitVec 32) : Prop :=
  (∀ a, (k0_off21 i v625) a + S64x128.size a ≤ S4096x128.size a)
theorem k0_off21_inb : ∀ (i : grid0.Coords) (v625 : BitVec 32) (k0_hw21 : k0_chk21 i v625), ∀ a, (k0_off21 i v625) a + S64x128.size a ≤ S4096x128.size a := fun i v625 k0_hw21 => k0_hw21

def k0_off22 (i : grid0.Coords) (v629 : BitVec 32) : Fin 2 → Nat :=
  let c4032_i32_232 : BitVec 32 := 4032#32
  let c0_i32_231 : BitVec 32 := 0#32
  let c4096_i32_228 : BitVec 32 := 4096#32
  let c0_i32_227 : BitVec 32 := 0#32
  let arg0 : BitVec 32 := BitVec.ofNat 32 (i 0).val
  let c4096_i32 : BitVec 32 := 4096#32
  let v33 : BitVec 32 := Scalar.muli arg0 c4096_i32
  let v630 : BitVec 32 := Scalar.subi v629 v33
  let v631 : BitVec 32 := Scalar.maxsi c0_i32_227 v630
  let v632 : BitVec 32 := Scalar.minsi c4096_i32_228 v631
  let c64_i32_230 : BitVec 32 := 64#32
  let v634 : BitVec 32 := Scalar.subi v632 c64_i32_230
  let v635 : BitVec 32 := Scalar.maxsi c0_i32_231 v634
  let v636 : BitVec 32 := Scalar.minsi c4032_i32_232 v635
  let v654 : Index := Scalar.indexCast v636
  let c0_236 : Index := 0#32
  ![v654.toNat, 0]

def k0_chk22 (i : grid0.Coords) (v629 : BitVec 32) : Prop :=
  (∀ a, (k0_off22 i v629) a + S64x128.size a ≤ S4096x128.size a)
theorem k0_off22_inb : ∀ (i : grid0.Coords) (v629 : BitVec 32) (k0_hw22 : k0_chk22 i v629), ∀ a, (k0_off22 i v629) a + S64x128.size a ≤ S4096x128.size a := fun i v629 k0_hw22 => k0_hw22

def k0_off23 (i : grid0.Coords) (v680 : BitVec 32) : Fin 2 → Nat :=
  let c4096_i32_243 : BitVec 32 := 4096#32
  let c0_i32_242 : BitVec 32 := 0#32
  let arg0 : BitVec 32 := BitVec.ofNat 32 (i 0).val
  let c4096_i32 : BitVec 32 := 4096#32
  let v33 : BitVec 32 := Scalar.muli arg0 c4096_i32
  let v681 : BitVec 32 := Scalar.subi v680 v33
  let v682 : BitVec 32 := Scalar.maxsi c0_i32_242 v681
  let v683 : BitVec 32 := Scalar.minsi c4096_i32_243 v682
  let c4032_i32_248 : BitVec 32 := 4032#32
  let v688 : BitVec 32 := Scalar.minsi v683 c4032_i32_248
  let v692 : Index := Scalar.indexCast v688
  let c0_252 : Index := 0#32
  ![v692.toNat, 0]

def k0_chk23 (i : grid0.Coords) (v680 : BitVec 32) : Prop :=
  (∀ a, (k0_off23 i v680) a + S64x128.size a ≤ S4096x128.size a)
theorem k0_off23_inb : ∀ (i : grid0.Coords) (v680 : BitVec 32) (k0_hw23 : k0_chk23 i v680), ∀ a, (k0_off23 i v680) a + S64x128.size a ≤ S4096x128.size a := fun i v680 k0_hw23 => k0_hw23

def k0_off24 (i : grid0.Coords) (v684 : BitVec 32) : Fin 2 → Nat :=
  let c4032_i32_251 : BitVec 32 := 4032#32
  let c0_i32_250 : BitVec 32 := 0#32
  let c4096_i32_247 : BitVec 32 := 4096#32
  let c0_i32_246 : BitVec 32 := 0#32
  let arg0 : BitVec 32 := BitVec.ofNat 32 (i 0).val
  let c4096_i32 : BitVec 32 := 4096#32
  let v33 : BitVec 32 := Scalar.muli arg0 c4096_i32
  let v685 : BitVec 32 := Scalar.subi v684 v33
  let v686 : BitVec 32 := Scalar.maxsi c0_i32_246 v685
  let v687 : BitVec 32 := Scalar.minsi c4096_i32_247 v686
  let c64_i32_249 : BitVec 32 := 64#32
  let v689 : BitVec 32 := Scalar.subi v687 c64_i32_249
  let v690 : BitVec 32 := Scalar.maxsi c0_i32_250 v689
  let v691 : BitVec 32 := Scalar.minsi c4032_i32_251 v690
  let v709 : Index := Scalar.indexCast v691
  let c0_255 : Index := 0#32
  ![v709.toNat, 0]

def k0_chk24 (i : grid0.Coords) (v684 : BitVec 32) : Prop :=
  (∀ a, (k0_off24 i v684) a + S64x128.size a ≤ S4096x128.size a)
theorem k0_off24_inb : ∀ (i : grid0.Coords) (v684 : BitVec 32) (k0_hw24 : k0_chk24 i v684), ∀ a, (k0_off24 i v684) a + S64x128.size a ≤ S4096x128.size a := fun i v684 k0_hw24 => k0_hw24

def k0_off25 (i : grid0.Coords) (v735 : BitVec 32) : Fin 2 → Nat :=
  let c4096_i32_262 : BitVec 32 := 4096#32
  let c0_i32_261 : BitVec 32 := 0#32
  let arg0 : BitVec 32 := BitVec.ofNat 32 (i 0).val
  let c4096_i32 : BitVec 32 := 4096#32
  let v33 : BitVec 32 := Scalar.muli arg0 c4096_i32
  let v736 : BitVec 32 := Scalar.subi v735 v33
  let v737 : BitVec 32 := Scalar.maxsi c0_i32_261 v736
  let v738 : BitVec 32 := Scalar.minsi c4096_i32_262 v737
  let c4032_i32_267 : BitVec 32 := 4032#32
  let v743 : BitVec 32 := Scalar.minsi v738 c4032_i32_267
  let v747 : Index := Scalar.indexCast v743
  let c0_271 : Index := 0#32
  ![v747.toNat, 0]

def k0_chk25 (i : grid0.Coords) (v735 : BitVec 32) : Prop :=
  (∀ a, (k0_off25 i v735) a + S64x128.size a ≤ S4096x128.size a)
theorem k0_off25_inb : ∀ (i : grid0.Coords) (v735 : BitVec 32) (k0_hw25 : k0_chk25 i v735), ∀ a, (k0_off25 i v735) a + S64x128.size a ≤ S4096x128.size a := fun i v735 k0_hw25 => k0_hw25

def k0_off26 (i : grid0.Coords) (v739 : BitVec 32) : Fin 2 → Nat :=
  let c4032_i32_270 : BitVec 32 := 4032#32
  let c0_i32_269 : BitVec 32 := 0#32
  let c4096_i32_266 : BitVec 32 := 4096#32
  let c0_i32_265 : BitVec 32 := 0#32
  let arg0 : BitVec 32 := BitVec.ofNat 32 (i 0).val
  let c4096_i32 : BitVec 32 := 4096#32
  let v33 : BitVec 32 := Scalar.muli arg0 c4096_i32
  let v740 : BitVec 32 := Scalar.subi v739 v33
  let v741 : BitVec 32 := Scalar.maxsi c0_i32_265 v740
  let v742 : BitVec 32 := Scalar.minsi c4096_i32_266 v741
  let c64_i32_268 : BitVec 32 := 64#32
  let v744 : BitVec 32 := Scalar.subi v742 c64_i32_268
  let v745 : BitVec 32 := Scalar.maxsi c0_i32_269 v744
  let v746 : BitVec 32 := Scalar.minsi c4032_i32_270 v745
  let v764 : Index := Scalar.indexCast v746
  let c0_274 : Index := 0#32
  ![v764.toNat, 0]

def k0_chk26 (i : grid0.Coords) (v739 : BitVec 32) : Prop :=
  (∀ a, (k0_off26 i v739) a + S64x128.size a ≤ S4096x128.size a)
theorem k0_off26_inb : ∀ (i : grid0.Coords) (v739 : BitVec 32) (k0_hw26 : k0_chk26 i v739), ∀ a, (k0_off26 i v739) a + S64x128.size a ≤ S4096x128.size a := fun i v739 k0_hw26 => k0_hw26

def k0_off27 (i : grid0.Coords) (v790 : BitVec 32) : Fin 2 → Nat :=
  let c4096_i32_281 : BitVec 32 := 4096#32
  let c0_i32_280 : BitVec 32 := 0#32
  let arg0 : BitVec 32 := BitVec.ofNat 32 (i 0).val
  let c4096_i32 : BitVec 32 := 4096#32
  let v33 : BitVec 32 := Scalar.muli arg0 c4096_i32
  let v791 : BitVec 32 := Scalar.subi v790 v33
  let v792 : BitVec 32 := Scalar.maxsi c0_i32_280 v791
  let v793 : BitVec 32 := Scalar.minsi c4096_i32_281 v792
  let c4032_i32_286 : BitVec 32 := 4032#32
  let v798 : BitVec 32 := Scalar.minsi v793 c4032_i32_286
  let v802 : Index := Scalar.indexCast v798
  let c0_290 : Index := 0#32
  ![v802.toNat, 0]

def k0_chk27 (i : grid0.Coords) (v790 : BitVec 32) : Prop :=
  (∀ a, (k0_off27 i v790) a + S64x128.size a ≤ S4096x128.size a)
theorem k0_off27_inb : ∀ (i : grid0.Coords) (v790 : BitVec 32) (k0_hw27 : k0_chk27 i v790), ∀ a, (k0_off27 i v790) a + S64x128.size a ≤ S4096x128.size a := fun i v790 k0_hw27 => k0_hw27

def k0_off28 (i : grid0.Coords) (v794 : BitVec 32) : Fin 2 → Nat :=
  let c4032_i32_289 : BitVec 32 := 4032#32
  let c0_i32_288 : BitVec 32 := 0#32
  let c4096_i32_285 : BitVec 32 := 4096#32
  let c0_i32_284 : BitVec 32 := 0#32
  let arg0 : BitVec 32 := BitVec.ofNat 32 (i 0).val
  let c4096_i32 : BitVec 32 := 4096#32
  let v33 : BitVec 32 := Scalar.muli arg0 c4096_i32
  let v795 : BitVec 32 := Scalar.subi v794 v33
  let v796 : BitVec 32 := Scalar.maxsi c0_i32_284 v795
  let v797 : BitVec 32 := Scalar.minsi c4096_i32_285 v796
  let c64_i32_287 : BitVec 32 := 64#32
  let v799 : BitVec 32 := Scalar.subi v797 c64_i32_287
  let v800 : BitVec 32 := Scalar.maxsi c0_i32_288 v799
  let v801 : BitVec 32 := Scalar.minsi c4032_i32_289 v800
  let v819 : Index := Scalar.indexCast v801
  let c0_293 : Index := 0#32
  ![v819.toNat, 0]

def k0_chk28 (i : grid0.Coords) (v794 : BitVec 32) : Prop :=
  (∀ a, (k0_off28 i v794) a + S64x128.size a ≤ S4096x128.size a)
theorem k0_off28_inb : ∀ (i : grid0.Coords) (v794 : BitVec 32) (k0_hw28 : k0_chk28 i v794), ∀ a, (k0_off28 i v794) a + S64x128.size a ≤ S4096x128.size a := fun i v794 k0_hw28 => k0_hw28

def k0_off29 (i : grid0.Coords) (v845 : BitVec 32) : Fin 2 → Nat :=
  let c4096_i32_300 : BitVec 32 := 4096#32
  let c0_i32_299 : BitVec 32 := 0#32
  let arg0 : BitVec 32 := BitVec.ofNat 32 (i 0).val
  let c4096_i32 : BitVec 32 := 4096#32
  let v33 : BitVec 32 := Scalar.muli arg0 c4096_i32
  let v846 : BitVec 32 := Scalar.subi v845 v33
  let v847 : BitVec 32 := Scalar.maxsi c0_i32_299 v846
  let v848 : BitVec 32 := Scalar.minsi c4096_i32_300 v847
  let c4032_i32_305 : BitVec 32 := 4032#32
  let v853 : BitVec 32 := Scalar.minsi v848 c4032_i32_305
  let v857 : Index := Scalar.indexCast v853
  let c0_309 : Index := 0#32
  ![v857.toNat, 0]

def k0_chk29 (i : grid0.Coords) (v845 : BitVec 32) : Prop :=
  (∀ a, (k0_off29 i v845) a + S64x128.size a ≤ S4096x128.size a)
theorem k0_off29_inb : ∀ (i : grid0.Coords) (v845 : BitVec 32) (k0_hw29 : k0_chk29 i v845), ∀ a, (k0_off29 i v845) a + S64x128.size a ≤ S4096x128.size a := fun i v845 k0_hw29 => k0_hw29

def k0_off30 (i : grid0.Coords) (v849 : BitVec 32) : Fin 2 → Nat :=
  let c4032_i32_308 : BitVec 32 := 4032#32
  let c0_i32_307 : BitVec 32 := 0#32
  let c4096_i32_304 : BitVec 32 := 4096#32
  let c0_i32_303 : BitVec 32 := 0#32
  let arg0 : BitVec 32 := BitVec.ofNat 32 (i 0).val
  let c4096_i32 : BitVec 32 := 4096#32
  let v33 : BitVec 32 := Scalar.muli arg0 c4096_i32
  let v850 : BitVec 32 := Scalar.subi v849 v33
  let v851 : BitVec 32 := Scalar.maxsi c0_i32_303 v850
  let v852 : BitVec 32 := Scalar.minsi c4096_i32_304 v851
  let c64_i32_306 : BitVec 32 := 64#32
  let v854 : BitVec 32 := Scalar.subi v852 c64_i32_306
  let v855 : BitVec 32 := Scalar.maxsi c0_i32_307 v854
  let v856 : BitVec 32 := Scalar.minsi c4032_i32_308 v855
  let v874 : Index := Scalar.indexCast v856
  let c0_312 : Index := 0#32
  ![v874.toNat, 0]

def k0_chk30 (i : grid0.Coords) (v849 : BitVec 32) : Prop :=
  (∀ a, (k0_off30 i v849) a + S64x128.size a ≤ S4096x128.size a)
theorem k0_off30_inb : ∀ (i : grid0.Coords) (v849 : BitVec 32) (k0_hw30 : k0_chk30 i v849), ∀ a, (k0_off30 i v849) a + S64x128.size a ≤ S4096x128.size a := fun i v849 k0_hw30 => k0_hw30

def k0_off31 (i : grid0.Coords) (v900 : BitVec 32) : Fin 2 → Nat :=
  let c4096_i32_319 : BitVec 32 := 4096#32
  let c0_i32_318 : BitVec 32 := 0#32
  let arg0 : BitVec 32 := BitVec.ofNat 32 (i 0).val
  let c4096_i32 : BitVec 32 := 4096#32
  let v33 : BitVec 32 := Scalar.muli arg0 c4096_i32
  let v901 : BitVec 32 := Scalar.subi v900 v33
  let v902 : BitVec 32 := Scalar.maxsi c0_i32_318 v901
  let v903 : BitVec 32 := Scalar.minsi c4096_i32_319 v902
  let c4032_i32_324 : BitVec 32 := 4032#32
  let v908 : BitVec 32 := Scalar.minsi v903 c4032_i32_324
  let v912 : Index := Scalar.indexCast v908
  let c0_328 : Index := 0#32
  ![v912.toNat, 0]

def k0_chk31 (i : grid0.Coords) (v900 : BitVec 32) : Prop :=
  (∀ a, (k0_off31 i v900) a + S64x128.size a ≤ S4096x128.size a)
theorem k0_off31_inb : ∀ (i : grid0.Coords) (v900 : BitVec 32) (k0_hw31 : k0_chk31 i v900), ∀ a, (k0_off31 i v900) a + S64x128.size a ≤ S4096x128.size a := fun i v900 k0_hw31 => k0_hw31

def k0_off32 (i : grid0.Coords) (v904 : BitVec 32) : Fin 2 → Nat :=
  let c4032_i32_327 : BitVec 32 := 4032#32
  let c0_i32_326 : BitVec 32 := 0#32
  let c4096_i32_323 : BitVec 32 := 4096#32
  let c0_i32_322 : BitVec 32 := 0#32
  let arg0 : BitVec 32 := BitVec.ofNat 32 (i 0).val
  let c4096_i32 : BitVec 32 := 4096#32
  let v33 : BitVec 32 := Scalar.muli arg0 c4096_i32
  let v905 : BitVec 32 := Scalar.subi v904 v33
  let v906 : BitVec 32 := Scalar.maxsi c0_i32_322 v905
  let v907 : BitVec 32 := Scalar.minsi c4096_i32_323 v906
  let c64_i32_325 : BitVec 32 := 64#32
  let v909 : BitVec 32 := Scalar.subi v907 c64_i32_325
  let v910 : BitVec 32 := Scalar.maxsi c0_i32_326 v909
  let v911 : BitVec 32 := Scalar.minsi c4032_i32_327 v910
  let v929 : Index := Scalar.indexCast v911
  let c0_331 : Index := 0#32
  ![v929.toNat, 0]

def k0_chk32 (i : grid0.Coords) (v904 : BitVec 32) : Prop :=
  (∀ a, (k0_off32 i v904) a + S64x128.size a ≤ S4096x128.size a)
theorem k0_off32_inb : ∀ (i : grid0.Coords) (v904 : BitVec 32) (k0_hw32 : k0_chk32 i v904), ∀ a, (k0_off32 i v904) a + S64x128.size a ≤ S4096x128.size a := fun i v904 k0_hw32 => k0_hw32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolReferenceIdeal.lean ====
abbrev S16384x64 : Shape := ⟨2, ![16384, 64]⟩
abbrev S16384x3 : Shape := ⟨2, ![16384, 3]⟩
abbrev S16384 : Shape := ⟨1, ![16384]⟩
abbrev S67x64 : Shape := ⟨2, ![67, 64]⟩
abbrev S64 : Shape := ⟨1, ![64]⟩
abbrev S64x128 : Shape := ⟨2, ![64, 128]⟩
abbrev S128 : Shape := ⟨1, ![128]⟩
abbrev S16384x67 : Shape := ⟨2, ![16384, 67]⟩
abbrev S1x64 : Shape := ⟨2, ![1, 64]⟩
abbrev S_ : Shape := ⟨0, ![]⟩
abbrev S16384x128 : Shape := ⟨2, ![16384, 128]⟩
abbrev S1x128 : Shape := ⟨2, ![1, 128]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x16x1 : Shape := ⟨3, ![16384, 16, 1]⟩
abbrev S16384x1x128 : Shape := ⟨3, ![16384, 1, 128]⟩
abbrev S16384x16x128 : Shape := ⟨3, ![16384, 16, 128]⟩
abbrev S16x128 : Shape := ⟨2, ![16, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x3, .f32⟩
  | .hbm, ⟨2, _⟩ => ⟨S16384, .i32⟩
  | .hbm, ⟨3, _⟩ => ⟨S67x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S16384x67, .f32⟩
  | .hbm, ⟨8, _⟩ => ⟨S16384x64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384x64, .f32⟩
  | .hbm, ⟨14, _⟩ => ⟨S16384x64, .f32⟩
  | .hbm, ⟨15, _⟩ => ⟨S16384x128, .f32⟩
  | .hbm, ⟨16, _⟩ => ⟨S1x128, .f32⟩
  | .hbm, ⟨17, _⟩ => ⟨S16384x128, .f32⟩
  | .hbm, ⟨18, _⟩ => ⟨S16384x128, .f32⟩
  | .hbm, ⟨19, _⟩ => ⟨S_, .f32⟩
  | .hbm, ⟨20, _⟩ => ⟨S16384x128, .f32⟩
  | .hbm, ⟨21, _⟩ => ⟨S16384x128, .f32⟩
  | .hbm, ⟨22, _⟩ => ⟨S16384x1, .i32⟩
  | .hbm, ⟨23, _⟩ => ⟨S16, .i32⟩
  | .hbm, ⟨24, _⟩ => ⟨S1x16, .i32⟩
  | .hbm, ⟨25, _⟩ => ⟨S16384x16, .i32⟩
  | .hbm, ⟨26, _⟩ => ⟨S16384x16, .i32⟩
  | .hbm, ⟨27, _⟩ => ⟨S16384x16, .i1⟩
  | .hbm, ⟨28, _⟩ => ⟨S16384x16x1, .i1⟩
  | .hbm, ⟨29, _⟩ => ⟨S16384x1x128, .f32⟩
  | .hbm, ⟨30, _⟩ => ⟨S_, .f32⟩
  | .hbm, ⟨31, _⟩ => ⟨S_, .f32⟩
  | .hbm, ⟨32, _⟩ => ⟨S16384x16x128, .i1⟩
  | .hbm, ⟨33, _⟩ => ⟨S16384x16x128, .f32⟩
  | .hbm, ⟨34, _⟩ => ⟨S16384x16x128, .f32⟩
  | .hbm, ⟨35, _⟩ => ⟨S16384x16x128, .f32⟩
  | .hbm, ⟨36, _⟩ => ⟨S_, .f32⟩
  | .hbm, ⟨37, _⟩ => ⟨S16x128, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Proof.PoolRef.lean ====
module

public import proofs.«01_k».proof.Proof.Gen.ReferenceIdeal
public import Idealize.ShloMosaic.Lib.Pipeline.ValueKit
public import Idealize.ShloMosaic.Lib.Pointwise
public import Idealize.ShloMosaic.Lib.ValueIdx
public import Idealize.ShloMosaic.Lib.IdealHost

/-! The reference, read: an entry of the pooled output is below a bound exactly when its segment's rows behind the two
    layers are. -/

@[expose] public section

set_option maxRecDepth 16384

noncomputable section

namespace Cert.ReferenceIdeal.Pool

open Cert.ReferenceIdeal Cert.ReferenceIdeal.Gen
open Idealize.ShloMosaic

/-- The two layers. -/
def layers (x : FVec Ideal S16384x64 .f32) (p : FVec Ideal S16384x3 .f32) (w1 : FVec Ideal S67x64 .f32)
    (b1 : FVec Ideal S64 .f32) (w2 : FVec Ideal S64x128 .f32) (b2 : FVec Ideal S128 .f32) : FVec Ideal S16384x128 .f32 :=
  maximumf (addf (Host.dotGeneral dot_S16384x64_S64x128_S16384x128_1_0_0_1_n_n none (maximumf (addf (Host.dotGeneral dot_S16384x67_S67x64_S16384x64_1_0_0_1_n_n none (concatenate S16384x67 1 [⟨S16384x64, x⟩, ⟨S16384x3, p⟩] concatenates_S16384x64_S16384x3_S16384x67_d1) w1) (broadcastInDim S16384x64 ![0, 1] bcast_S1x64_S16384x64_0_1 (broadcastInDim S1x64 ![1] bcast_S64_S1x64_1 b1))) (broadcastInDim S16384x64 ![] bcast_S_S16384x64 (constant S_ .f32 0x00000000#32))) w2) (broadcastInDim S16384x128 ![0, 1] bcast_S1x128_S16384x128_0_1 (broadcastInDim S1x128 ![1] bcast_S128_S1x128_1 b2))) (broadcastInDim S16384x128 ![] bcast_S_S16384x128 (constant S_ .f32 0x00000000#32))

/-- The maxima of the segments. -/
def pooled (B : IVec S16384 32) (H : FVec Ideal S16384x128 .f32) : FVec Ideal S16x128 .f32 :=
  Host.reduce FloatOps.maximumf (select (broadcastInDim S16384x16x128 ![0, 1, 2] bcast_S16384x16x1_S16384x16x128_0_1_2 (broadcastInDim S16384x16x1 ![0, 1] bcast_S16384x16_S16384x16x1_0_1 (cmpi .eq (broadcastInDim S16384x16 ![0, 1] bcast_S16384x1_S16384x16_0_1 (broadcastInDim S16384x1 ![0] bcast_S16384_S16384x1_0 B)) (broadcastInDim S16384x16 ![0, 1] bcast_S1x16_S16384x16_0_1 (broadcastInDim S1x16 ![1] bcast_S16_S1x16_1 (iotaInDim S16 32 0)))))) (broadcastInDim S16384x16x128 ![0, 1, 2] bcast_S16384x1x128_S16384x16x128_0_1_2 (broadcastInDim S16384x1x128 ![0, 2] bcast_S16384x128_S16384x1x128_0_2 H)) (broadcastInDim S16384x16x128 ![] bcast_S_S16384x16x128 (id (constant S_ .f32 0xFF800000#32)))) (constant S_ .f32 0xFF800000#32) reducesTo_S16384x16x128_S16x128_d0 h_S_

theorem bot : Ideal.ofBits .f32 0xFF800000#32 = (⊥ : EReal) := by
  simp [Ideal.ofBits, Ideal.ieee]

theorem sel {α : Type} (c : BitVec 1) (a b : α) : Scalar.select c a b = if c = 1#1 then a else b := rfl

theorem eq_one {a b : BitVec 32} : IntOp.cmpi .eq a b = 1#1 ↔ a = b := by
  show BitVec.ofBool (a == b) = 1#1 ↔ _
  by_cases h : a = b
  · rw [beq_iff_eq.mpr h]
    exact iff_of_true rfl h
  · rw [beq_eq_false_iff_ne.mpr h]
    exact iff_of_false (by decide) h

theorem pooled_le (B : IVec S16384 32) (H : FVec Ideal S16384x128 .f32) (s : Fin 16) (d : Fin 128) (z : EReal) :
    pooled B H (ix2 s d) ≤ z ↔ ∀ n : Fin 16384, B (ix1 n) = BitVec.ofNat 32 s.val → H (ix2 n d) ≤ z := by
  pointwise [pooled]
  refine (Finset.fold_max_le z).trans ⟨fun h n hn => ?_, fun h => ⟨le_of_eq_of_le bot bot_le, fun n _ => ?_⟩⟩
  · have := h.2 n (Finset.mem_univ n)
    rwa [sel, if_pos (eq_one.mpr hn)] at this
  · rw [sel]
    split
    · next hc => exact h n (eq_one.mp hc)
    · exact le_of_eq_of_le bot bot_le

end Cert.ReferenceIdeal.Pool

end
-- ==== Proof.Value.lean ====
module

public import proofs.«01_k».proof.Proof.Gen.ReferenceIdeal
public import Idealize.ShloMosaic.Lib.IdealHost
public import Idealize.ShloMosaic.Lib.ReduceAll
public import Idealize.ShloMosaic.Lib.ValueIdx
public import Idealize.ShloMosaic.Lib.StableHlo.Predicate
public import Idealize.ShloMosaic.Lib.Routing.Ops
public import Idealize.ShloMosaic.Lib.Routing.OpsPair
public import Idealize.ShloMosaic.Lib.Pointwise.SelectCore

/-! The reference's interpolation, read at an index: the weight is a positive real, so a row of the table times the
    weight over the weight is the row. -/

@[expose] public section

set_option maxRecDepth 16384

noncomputable section

namespace Cert.Proof.Value

open Cert.ReferenceIdeal Cert.ReferenceIdeal.Gen
open Idealize.ShloMosaic hiding ix1 ix2
open Idealize.ShloMosaic.ValueIdx Idealize.ShloMosaic.Routing Idealize.ShloMosaic.StableHlo.Predicate

/-- A broadcast reads the operand at an index that the result's index alone determines. -/
theorem bcast_src {s t : Shape} {α : Type} {dims : Fin s.rank → Fin t.rank} (h : s.BroadcastsInDim t dims) (i : t.Idx) :
    ∃ j, ∀ x : s.Idx → α, broadcastInDim t dims h x i = x j := ⟨_, fun _ => rfl⟩

/-! ## The weight -/

/-- The interpolation weight of every skip point: one over the squared norm of its position, the norm kept off zero. -/
def weight (pos : FVec Ideal S65536x3 .f32) : FVec Ideal S65536x1 .f32 :=
  Host.divf (broadcastInDim S65536x1 ![] bcast_S_S65536x1 (constant S_ .f32 0x3F800000#32))
    (maximumf (broadcastInDim S65536x1 ![0] bcast_S65536_S65536x1_0 (Host.reduceAdd (mulf pos pos) (constant S_ .f32 0x00000000#32) reducesTo_S65536x3_S65536_d1 h_S_))
      (broadcastInDim S65536x1 ![] bcast_S_S65536x1 (constant S_ .f32 0x24E69595#32)))

/-- The least squared norm, a positive real. -/
theorem tiny_pos : ∃ r : ℝ, 0 < r ∧ Ideal.ofBits .f32 0x24E69595#32 = (r : EReal) := by
  refine ⟨?_, ?_, by simp [Ideal.ofBits, Ideal.ieee, -EReal.coe_mul]; rfl⟩
  positivity

/-- A finite sum of reals is a real. -/
theorem sum_real {ι : Type} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := hf a (Finset.mem_insert_self ..)
    obtain ⟨q, hq⟩ := ih fun i hi => hf i (Finset.mem_insert_of_mem hi)
    exact ⟨r + q, by rw [Finset.sum_insert ha, hr, hq, EReal.coe_add]⟩

/-- The maximum of a real and a positive real, inverted, is a positive real. -/
theorem inv_max_real (a b : ℝ) (hb : 0 < b) : ∃ r : ℝ, 0 < r ∧ Ideal.div 1 (max (a : EReal) (b : EReal)) = r := by
  have hm : 0 < max a b := lt_of_lt_of_le hb (le_max_right a b)
  refine ⟨(max a b)⁻¹, inv_pos.mpr hm, ?_⟩
  rw [← EReal.coe_strictMono.monotone.map_max]
  unfold Ideal.div
  rw [if_neg (by exact_mod_cast hm.ne'), one_mul]
  exact (EReal.coe_inv _).symm

/-- The squared norm of a position of reals is a real. -/
theorem norm_real (pos : FVec Ideal S65536x3 .f32) (h : ∀ i, ∃ r : ℝ, pos i = (r : EReal)) (j : S65536.Idx) :
    ∃ a : ℝ, Host.reduceAdd (mulf pos pos) (constant S_ .f32 0x00000000#32) reducesTo_S65536x3_S65536_d1 h_S_ j = (a : EReal) := by
  rw [hostReduceAdd_apply]
  unfold Ideal.hostReduceAdd
  obtain ⟨a, ha⟩ := sum_real (Finset.univ.filter fun i => reducesTo_S65536x3_S65536_d1.drop i = j) (mulf pos pos) fun i _ => by
    obtain ⟨r, hr⟩ := h i
    exact ⟨r * r, by show pos i * pos i = _; rw [hr, EReal.coe_mul]⟩
  refine ⟨a, ?_⟩
  rw [ha]
  show Ideal.ofBits .f32 0x00000000#32 + _ = _
  simp [Ideal.ofBits, Ideal.ieee]

theorem weight_real (pos : FVec Ideal S65536x3 .f32) (h : ∀ i, ∃ r : ℝ, pos i = (r : EReal)) (i : S65536x1.Idx) :
    ∃ r : ℝ, 0 < r ∧ weight pos i = (r : EReal) := by
  obtain ⟨t, ht, et⟩ := tiny_pos
  have hn := norm_real pos h
  unfold weight
  rw [hostDivf_apply]
  generalize Host.reduceAdd (mulf pos pos) (constant S_ .f32 0x00000000#32) reducesTo_S65536x3_S65536_d1 h_S_ = R at hn
  obtain ⟨j, hj⟩ := bcast_src (α := Ideal .f32) bcast_S65536_S65536x1_0 i
  obtain ⟨a, ha⟩ := hn j
  have := inv_max_real a t ht
  rw [← ha, ← et] at this
  show ∃ r : ℝ, 0 < r ∧ Ideal.div (Ideal.ofBits .f32 0x3F800000#32) (max (broadcastInDim S65536x1 ![0] bcast_S65536_S65536x1_0 R i) (Ideal.ofBits .f32 0x24E69595#32)) = r
  rw [hj, Ideal.ofBits_one_f32]
  exact this

/-! ## The row taken -/

/-- The rows of the table the row numbers name, a wrapped row number out of range reading as the default. -/
def take (tab : FVec Ideal S16x128 .f32) (ids : IVec S65536 32) : FVec Ideal S65536x128 .f32 :=
  select (broadcastInDim S65536x128 ![0] bcast_S65536_S65536x128_0
      (Host.reduce IntOp.andi
        (andi (cmpi .sge (broadcastInDim S65536x1 ![0] bcast_S65536_S65536x1_0 (select (cmpi .slt ids (broadcastInDim S65536 ![] bcast_S_S65536 (constantI S_ 32 0#32))) (addi ids (broadcastInDim S65536 ![] bcast_S_S65536 (constantI S_ 32 16#32))) ids))
            (broadcastInDim S65536x1 ![] bcast_S_S65536x1 (constantI S_ 32 0#32)))
          (cmpi .sle (broadcastInDim S65536x1 ![0] bcast_S65536_S65536x1_0 (select (cmpi .slt ids (broadcastInDim S65536 ![] bcast_S_S65536 (constantI S_ 32 0#32))) (addi ids (broadcastInDim S65536 ![] bcast_S_S65536 (constantI S_ 32 16#32))) ids))
            (broadcastInDim S65536x1 ![0, 1] bcast_S1x1_S65536x1_0_1 (broadcastInDim S1x1 ![1] bcast_S1_S1x1_1 (constantI S1 32 15#32)))))
        (constantI S_ 1 1#1) reducesTo_S65536x1_S65536_d1 h_S_))
    (Host.gather gather_S16x128_S65536x1_S65536x128_1_0_n_n_0_1_1128 tab
      (broadcastInDim S65536x1 ![0] bcast_S65536_S65536x1_0 (select (cmpi .slt ids (broadcastInDim S65536 ![] bcast_S_S65536 (constantI S_ 32 0#32))) (addi ids (broadcastInDim S65536 ![] bcast_S_S65536 (constantI S_ 32 16#32))) ids)))
    (broadcastInDim S65536x128 ![] bcast_S_S65536x128 (constant S_ .f32 0x7FC00000#32))

/-- A row number in range does not wrap. -/
theorem wrap_id (ids : IVec S65536 32) (h : ∀ n, (ids n).toNat < 16) :
    select (cmpi .slt ids (broadcastInDim S65536 ![] bcast_S_S65536 (constantI S_ 32 0#32))) (addi ids (broadcastInDim S65536 ![] bcast_S_S65536 (constantI S_ 32 16#32))) ids = ids :=
  funext fun n => wrap_of_lt (ids n) _ (lt_trans (h n) (by decide))

theorem take_apply (tab : FVec Ideal S16x128 .f32) (ids : IVec S65536 32) (h : ∀ n, (ids n).toNat < 16) (n : Fin 65536) (k : Fin 128) :
    take tab ids (ix2 n k) = tab (ix2 (⟨(ids (ix1 n)).toNat, h _⟩ : Fin 16) k) := by
  unfold take
  rw [wrap_id ids h, select_apply]
  have hall : ∀ j, Host.reduce IntOp.andi
        (andi (cmpi .sge (broadcastInDim S65536x1 ![0] bcast_S65536_S65536x1_0 ids) (broadcastInDim S65536x1 ![] bcast_S_S65536x1 (constantI S_ 32 0#32)))
          (cmpi .sle (broadcastInDim S65536x1 ![0] bcast_S65536_S65536x1_0 ids)
            (broadcastInDim S65536x1 ![0, 1] bcast_S1x1_S65536x1_0_1 (broadcastInDim S1x1 ![1] bcast_S1_S1x1_1 (constantI S1 32 15#32)))))
        (constantI S_ 1 1#1) reducesTo_S65536x1_S65536_d1 h_S_ j = 1#1 := fun j =>
    Host.reduce_andi_one _ _ _ _ j rfl fun i => by
      obtain ⟨q, hq⟩ := bcast_src (α := BitVec 32) bcast_S65536_S65536x1_0 i
      have hi := h q
      have h1 : IntOp.cmpi .sge (ids q) 0#32 = 1#1 := (sge_iff_toNat (by omega) (by decide)).mpr (Nat.zero_le _)
      have h2 : IntOp.cmpi .sle (ids q) 15#32 = 1#1 := (sle_iff_toNat (by omega) (by decide)).mpr (by show _ ≤ 15; omega)
      show IntOp.andi (IntOp.cmpi .sge (broadcastInDim S65536x1 ![0] bcast_S65536_S65536x1_0 ids i) 0#32)
        (IntOp.cmpi .sle (broadcastInDim S65536x1 ![0] bcast_S65536_S65536x1_0 ids i) 15#32) = 1#1
      rw [hq, h1, h2]; rfl
  rw [show (broadcastInDim S65536x128 ![0] bcast_S65536_S65536x128_0 (Host.reduce IntOp.andi
        (andi (cmpi .sge (broadcastInDim S65536x1 ![0] bcast_S65536_S65536x1_0 ids) (broadcastInDim S65536x1 ![] bcast_S_S65536x1 (constantI S_ 32 0#32)))
          (cmpi .sle (broadcastInDim S65536x1 ![0] bcast_S65536_S65536x1_0 ids)
            (broadcastInDim S65536x1 ![0, 1] bcast_S1x1_S65536x1_0_1 (broadcastInDim S1x1 ![1] bcast_S1_S1x1_1 (constantI S1 32 15#32)))))
        (constantI S_ 1 1#1) reducesTo_S65536x1_S65536_d1 h_S_)) (ix2 n k) = 1#1 from hall _, select_one]
  refine gather_row _ rfl rfl rfl rfl rfl tab _ n k ⟨(ids (ix1 n)).toNat, h _⟩ ?_ (by decide)
  have e : broadcastInDim S65536x1 ![0] bcast_S65536_S65536x1_0 ids (ix2 n (0 : Fin 1)) = ids (ix1 n) := congrArg ids (funext fun a => by
    match a with | 0 => rfl)
  rw [e]
  simp

/-! ## The whole -/

/-- The reference's output, from the pooled table, the skip features, positions and row numbers. -/
def refOut (tab : FVec Ideal S16x128 .f32) (xs : FVec Ideal S65536x64 .f32) (pos : FVec Ideal S65536x3 .f32) (ids : IVec S65536 32) : FVec Ideal S65536x192 .f32 :=
  concatenate S65536x192 1 [⟨S65536x128, Host.divf (mulf (take tab ids) (broadcastInDim S65536x128 ![0, 1] bcast_S65536x1_S65536x128_0_1 (weight pos)))
    (broadcastInDim S65536x128 ![0, 1] bcast_S65536x1_S65536x128_0_1 (weight pos))⟩, ⟨S65536x64, xs⟩] concatenates_S65536x128_S65536x64_S65536x192_d1

theorem mul_div_self (x : EReal) (r : ℝ) (hr : 0 < r) : Ideal.div (x * (r : EReal)) (r : EReal) = x := by
  unfold Ideal.div
  rw [if_neg (by exact_mod_cast hr.ne'), mul_assoc, ← EReal.coe_inv, ← EReal.coe_mul, mul_inv_cancel₀ hr.ne', EReal.coe_one, mul_one]

theorem refOut_left (tab xs pos ids) (hp : ∀ i, ∃ r : ℝ, pos i = (r : EReal)) (hi : ∀ n, (ids n).toNat < 16) (y : S65536x192.Idx) (n : Fin 65536) (k : Fin 128)
    (hn : n.val = (y 0).val) (hk : k.val = (y 1).val) :
    refOut tab xs pos ids y = tab (ix2 (⟨(ids (ix1 n)).toNat, hi _⟩ : Fin 16) k) := by
  unfold refOut
  have hc : ∀ x₁ : S65536x128.Idx → EReal, concatenate S65536x192 1 [⟨S65536x128, x₁⟩, ⟨S65536x64, xs⟩] concatenates_S65536x128_S65536x64_S65536x192_d1 y = x₁ (ix2 n k) := fun x₁ => by
    refine (concatenate_pair_apply _ _ _ _ _).trans ((dif_pos (show (y 1).val < 128 by omega)).trans (congrArg x₁ (funext fun b => Fin.ext ?_)))
    match b with
    | 0 => exact hn.symm
    | 1 => exact hk.symm
  rw [hc, hostDivf_apply]
  obtain ⟨q, hq⟩ := bcast_src (α := Ideal .f32) bcast_S65536x1_S65536x128_0_1 (ix2 n k)
  obtain ⟨r, hr, er⟩ := weight_real pos hp q
  show Ideal.div (take tab ids (ix2 n k) * _) _ = _
  rw [hq, er, mul_div_self _ r hr, take_apply tab ids hi]

theorem refOut_right (tab xs pos ids) (y : S65536x192.Idx) (n : Fin 65536) (k : Fin 64) (hn : n.val = (y 0).val) (hk : 128 + k.val = (y 1).val) :
    refOut tab xs pos ids y = xs (ix2 n k) := by
  unfold refOut
  refine (concatenate_pair_apply _ _ _ _ _).trans ((dif_neg (show ¬ (y 1).val < 128 by omega)).trans (congrArg xs (funext fun b => Fin.ext ?_)))
  match b with
  | 0 => exact hn.symm
  | 1 => show (y 1).val - 128 = k.val; omega

end Cert.Proof.Value

end
-- ==== Proof.RefRun.lean ====
module

public import proofs.«01_k».proof.Proof.Gen.ReferenceIdeal
public import proofs.«01_k».proof.Proof.PoolRef
public import proofs.«01_k».proof.Proof.Value
public import Idealize.ShloMosaic.Lib.StableHlo.Run
public import Idealize.ShloMosaic.Lib.StableHlo.RunRead

/-! The reference's run: its operations up to the pooled table, then those of the interpolation, each list read back. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Pool (layers pooled)
open Cert.Proof.Value (refOut)

variable {F : FTy → Type} [FloatOps F]

/-- The features and the positions side by side. -/
def fn_main_v0 : (⟨S16384x64, .f32⟩ : BufTy).Contents (Elt F) → (⟨S16384x3, .f32⟩ : BufTy).Contents (Elt F) → (⟨S16384x67, .f32⟩ : BufTy).Contents (Elt F) :=
  (fun a b => concatenate S16384x67 1 [⟨S16384x64, a⟩, ⟨S16384x3, b⟩] concatenates_S16384x64_S16384x3_S16384x67_d1)

/-- The pooled rows and the skip features side by side. -/
def fn_main_v33 : (⟨S65536x128, .f32⟩ : BufTy).Contents (Elt F) → (⟨S65536x64, .f32⟩ : BufTy).Contents (Elt F) → (⟨S65536x192, .f32⟩ : BufTy).Contents (Elt F) :=
  (fun a b => concatenate S65536x192 1 [⟨S65536x128, a⟩, ⟨S65536x64, b⟩] concatenates_S65536x128_S65536x64_S65536x192_d1)

/-- The operations up to the pooled table. -/
abbrev opsA : List (HloOp τ sig (Elt F)) :=
  [ binary main_arg0 main_arg1 main_v0 (fn_main_v0 (F := F)),
    binary main_v0 main_arg6 main_v1 ((fun l r => Host.dotGeneral dot_S16384x67_S67x64_S16384x64_1_0_0_1_n_n none l r) : (⟨S16384x67, .f32⟩ : BufTy).Contents (Elt F) → (⟨S67x64, .f32⟩ : BufTy).Contents (Elt F) → (⟨S16384x64, .f32⟩ : BufTy).Contents (Elt F)),
    unary main_arg7 main_v2 (broadcastInDim S1x64 ![1] bcast_S64_S1x64_1 : (⟨S64, .f32⟩ : BufTy).Contents (Elt F) → (⟨S1x64, .f32⟩ : BufTy).Contents (Elt F)),
    unary main_v2 main_v3 (broadcastInDim S16384x64 ![0, 1] bcast_S1x64_S16384x64_0_1 : (⟨S1x64, .f32⟩ : BufTy).Contents (Elt F) → (⟨S16384x64, .f32⟩ : BufTy).Contents (Elt F)),
    binary main_v1 main_v3 main_v4 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x64, .f32⟩) main_call0_v0) (broadcastInDim S16384x64 ![] bcast_S_S16384x64),
    TRef.binary (TRef.of (T := ⟨S16384x64, .f32⟩) main_v4) (TRef.of (T := ⟨S16384x64, .f32⟩) main_call0_v0) (TRef.of (T := ⟨S16384x64, .f32⟩) main_v5) maximumf,
    binary main_v5 main_arg8 main_v6 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg9 main_v7 (broadcastInDim S1x128 ![1] bcast_S128_S1x128_1 : (⟨S128, .f32⟩ : BufTy).Contents (Elt F) → (⟨S1x128, .f32⟩ : BufTy).Contents (Elt F)),
    unary main_v7 main_v8 (broadcastInDim S16384x128 ![0, 1] bcast_S1x128_S16384x128_0_1 : (⟨S1x128, .f32⟩ : BufTy).Contents (Elt F) → (⟨S16384x128, .f32⟩ : BufTy).Contents (Elt F)),
    binary main_v6 main_v8 main_v9 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x128, .f32⟩) main_call1_v0) (broadcastInDim S16384x128 ![] bcast_S_S16384x128),
    TRef.binary (TRef.of (T := ⟨S16384x128, .f32⟩) main_v9) (TRef.of (T := ⟨S16384x128, .f32⟩) main_call1_v0) (TRef.of (T := ⟨S16384x128, .f32⟩) main_v10) maximumf,
    unary main_arg2 main_v11 (broadcastInDim S16384x1 ![0] bcast_S16384_S16384x1_0 : (⟨S16384, .i32⟩ : BufTy).Contents (Elt F) → (⟨S16384x1, .i32⟩ : BufTy).Contents (Elt F)),
    nullary main_v12 (iotaInDim S16 32 0),
    unary main_v12 main_v13 (broadcastInDim S1x16 ![1] bcast_S16_S1x16_1 : (⟨S16, .i32⟩ : BufTy).Contents (Elt F) → (⟨S1x16, .i32⟩ : BufTy).Contents (Elt F)),
    unary main_v11 main_v14 (broadcastInDim S16384x16 ![0, 1] bcast_S16384x1_S16384x16_0_1 : (⟨S16384x1, .i32⟩ : BufTy).Contents (Elt F) → (⟨S16384x16, .i32⟩ : BufTy).Contents (Elt F)),
    unary main_v13 main_v15 (broadcastInDim S16384x16 ![0, 1] bcast_S1x16_S16384x16_0_1 : (⟨S1x16, .i32⟩ : BufTy).Contents (Elt F) → (⟨S16384x16, .i32⟩ : BufTy).Contents (Elt F)),
    binary main_v14 main_v15 main_v16 (cmpi .eq : (⟨S16384x16, .i32⟩ : BufTy).Contents (Elt F) → (⟨S16384x16, .i32⟩ : BufTy).Contents (Elt F) → (⟨S16384x16, .i1⟩ : BufTy).Contents (Elt F)),
    unary main_v16 main_v17 (broadcastInDim S16384x16x1 ![0, 1] bcast_S16384x16_S16384x16x1_0_1 : (⟨S16384x16, .i1⟩ : BufTy).Contents (Elt F) → (⟨S16384x16x1, .i1⟩ : BufTy).Contents (Elt F)),
    unary main_v10 main_v18 (broadcastInDim S16384x1x128 ![0, 2] bcast_S16384x128_S16384x1x128_0_2 : (⟨S16384x128, .f32⟩ : BufTy).Contents (Elt F) → (⟨S16384x1x128, .f32⟩ : BufTy).Contents (Elt F)),
    nullary main_cst (constant S_ .f32 0xFF800000#32),
    TRef.unary (TRef.of (T := ⟨S_, .f32⟩) main_cst) (TRef.of (T := ⟨S_, .f32⟩) main_call2_v0) id,
    TRef.unary (TRef.of (T := ⟨S16384x16x1, .i1⟩) main_v17) (TRef.of (T := ⟨S16384x16x128, .i1⟩) main_call2_v1) (broadcastInDim S16384x16x128 ![0, 1, 2] bcast_S16384x16x1_S16384x16x128_0_1_2),
    TRef.unary (TRef.of (T := ⟨S16384x1x128, .f32⟩) main_v18) (TRef.of (T := ⟨S16384x16x128, .f32⟩) main_call2_v2) (broadcastInDim S16384x16x128 ![0, 1, 2] bcast_S16384x1x128_S16384x16x128_0_1_2),
    TRef.unary (TRef.of (T := ⟨S_, .f32⟩) main_call2_v0) (TRef.of (T := ⟨S16384x16x128, .f32⟩) main_call2_v3) (broadcastInDim S16384x16x128 ![] bcast_S_S16384x16x128),
    TRef.ternary (TRef.of (T := ⟨S16384x16x128, .i1⟩) main_call2_v1) (TRef.of (T := ⟨S16384x16x128, .f32⟩) main_call2_v2) (TRef.of (T := ⟨S16384x16x128, .f32⟩) main_call2_v3) (TRef.of (T := ⟨S16384x16x128, .f32⟩) main_v19) select,
    nullary main_cst_0 (constant S_ .f32 0xFF800000#32),
    binary main_v19 main_cst_0 main_v20 ((fun x v => Host.reduce FloatOps.maximumf x v reducesTo_S16384x16x128_S16x128_d0 h_S_) : (⟨S16384x16x128, .f32⟩ : BufTy).Contents (Elt F) → (⟨S_, .f32⟩ : BufTy).Contents (Elt F) → (⟨S16x128, .f32⟩ : BufTy).Contents (Elt F)) ]

/-- The operations of the interpolation. -/
abbrev opsB : List (HloOp τ sig (Elt F)) :=
  [ binary main_arg4 main_arg4 main_v21 (mulf : (⟨S65536x3, .f32⟩ : BufTy).Contents (Elt F) → (⟨S65536x3, .f32⟩ : BufTy).Contents (Elt F) → (⟨S65536x3, .f32⟩ : BufTy).Contents (Elt F)),
    nullary main_cst_1 (constant S_ .f32 0x00000000#32),
    binary main_v21 main_cst_1 main_v22 ((fun x v => Host.reduceAdd x v reducesTo_S65536x3_S65536_d1 h_S_) : (⟨S65536x3, .f32⟩ : BufTy).Contents (Elt F) → (⟨S_, .f32⟩ : BufTy).Contents (Elt F) → (⟨S65536, .f32⟩ : BufTy).Contents (Elt F)),
    unary main_v22 main_v23 (broadcastInDim S65536x1 ![0] bcast_S65536_S65536x1_0 : (⟨S65536, .f32⟩ : BufTy).Contents (Elt F) → (⟨S65536x1, .f32⟩ : BufTy).Contents (Elt F)),
    nullary main_cst_2 (constant S_ .f32 0x24E69595#32),
    unary main_cst_2 main_v24 (broadcastInDim S65536x1 ![] bcast_S_S65536x1 : (⟨S_, .f32⟩ : BufTy).Contents (Elt F) → (⟨S65536x1, .f32⟩ : BufTy).Contents (Elt F)),
    binary main_v23 main_v24 main_v25 (maximumf : (⟨S65536x1, .f32⟩ : BufTy).Contents (Elt F) → (⟨S65536x1, .f32⟩ : BufTy).Contents (Elt F) → (⟨S65536x1, .f32⟩ : BufTy).Contents (Elt F)),
    nullary main_cst_3 (constant S_ .f32 0x3F800000#32),
    unary main_cst_3 main_v26 (broadcastInDim S65536x1 ![] bcast_S_S65536x1 : (⟨S_, .f32⟩ : BufTy).Contents (Elt F) → (⟨S65536x1, .f32⟩ : BufTy).Contents (Elt F)),
    binary main_v26 main_v25 main_v27 (Host.divf : (⟨S65536x1, .f32⟩ : BufTy).Contents (Elt F) → (⟨S65536x1, .f32⟩ : BufTy).Contents (Elt F) → (⟨S65536x1, .f32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S65536, .i32⟩) main_call3_v0) (broadcastInDim S65536 ![] bcast_S_S65536),
    TRef.binary (TRef.of (T := ⟨S65536, .i32⟩) main_arg5) (TRef.of (T := ⟨S65536, .i32⟩) main_call3_v0) (TRef.of (T := ⟨S65536, .i1⟩) main_call3_v1) (cmpi .slt),
    TRef.nullary (TRef.of (T := ⟨S_, .i32⟩) main_call3_c_0) (constantI S_ 32 16#32),
    TRef.unary (TRef.of (T := ⟨S_, .i32⟩) main_call3_c_0) (TRef.of (T := ⟨S65536, .i32⟩) main_call3_v2) (broadcastInDim S65536 ![] bcast_S_S65536),
    TRef.binary (TRef.of (T := ⟨S65536, .i32⟩) main_arg5) (TRef.of (T := ⟨S65536, .i32⟩) main_call3_v2) (TRef.of (T := ⟨S65536, .i32⟩) main_call3_v3) addi,
    TRef.ternary (TRef.of (T := ⟨S65536, .i1⟩) main_call3_v1) (TRef.of (T := ⟨S65536, .i32⟩) main_call3_v3) (TRef.of (T := ⟨S65536, .i32⟩) main_arg5) (TRef.of (T := ⟨S65536, .i32⟩) main_call3_v4) select,
    TRef.unary (TRef.of (T := ⟨S65536, .i32⟩) main_call3_v4) (TRef.of (T := ⟨S65536x1, .i32⟩) main_call3_v5) (broadcastInDim S65536x1 ![0] bcast_S65536_S65536x1_0),
    TRef.nullary (TRef.of (T := ⟨S1, .i32⟩) main_call3_c_1) (constantI S1 32 15#32),
    TRef.nullary (TRef.of (T := ⟨S_, .i32⟩) main_call3_c_2) (constantI S_ 32 0#32),
    TRef.unary (TRef.of (T := ⟨S_, .i32⟩) main_call3_c_2) (TRef.of (T := ⟨S65536x1, .i32⟩) main_call3_v6) (broadcastInDim S65536x1 ![] bcast_S_S65536x1),
    TRef.binary (TRef.of (T := ⟨S65536x1, .i32⟩) main_call3_v5) (TRef.of (T := ⟨S65536x1, .i32⟩) main_call3_v6) (TRef.of (T := ⟨S65536x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S65536x1, .i32⟩) main_call3_v9) (broadcastInDim S65536x1 ![0, 1] bcast_S1x1_S65536x1_0_1),
    TRef.binary (TRef.of (T := ⟨S65536x1, .i32⟩) main_call3_v5) (TRef.of (T := ⟨S65536x1, .i32⟩) main_call3_v9) (TRef.of (T := ⟨S65536x1, .i1⟩) main_call3_v10) (cmpi .sle),
    TRef.binary (TRef.of (T := ⟨S65536x1, .i1⟩) main_call3_v7) (TRef.of (T := ⟨S65536x1, .i1⟩) main_call3_v10) (TRef.of (T := ⟨S65536x1, .i1⟩) main_call3_v11) andi,
    TRef.nullary (TRef.of (T := ⟨S_, .i1⟩) main_call3_c_3) (constantI S_ 1 1#1),
    TRef.binary (TRef.of (T := ⟨S65536x1, .i1⟩) main_call3_v11) (TRef.of (T := ⟨S_, .i1⟩) main_call3_c_3) (TRef.of (T := ⟨S65536, .i1⟩) main_call3_v12) (fun x v => Host.reduce IntOp.andi x v reducesTo_S65536x1_S65536_d1 h_S_),
    TRef.binary (TRef.of (T := ⟨S16x128, .f32⟩) main_v20) (TRef.of (T := ⟨S65536x1, .i32⟩) main_call3_v5) (TRef.of (T := ⟨S65536x128, .f32⟩) main_call3_v13) (fun x i => Host.gather gather_S16x128_S65536x1_S65536x128_1_0_n_n_0_1_1128 x i),
    TRef.unary (TRef.of (T := ⟨S65536, .i1⟩) main_call3_v12) (TRef.of (T := ⟨S65536x128, .i1⟩) main_call3_v14) (broadcastInDim S65536x128 ![0] bcast_S65536_S65536x128_0),
    TRef.nullary (TRef.of (T := ⟨S_, .f32⟩) main_call3_cst) (constant S_ .f32 0x7FC00000#32),
    TRef.unary (TRef.of (T := ⟨S_, .f32⟩) main_call3_cst) (TRef.of (T := ⟨S65536x128, .f32⟩) main_call3_v15) (broadcastInDim S65536x128 ![] bcast_S_S65536x128),
    TRef.ternary (TRef.of (T := ⟨S65536x128, .i1⟩) main_call3_v14) (TRef.of (T := ⟨S65536x128, .f32⟩) main_call3_v13) (TRef.of (T := ⟨S65536x128, .f32⟩) main_call3_v15) (TRef.of (T := ⟨S65536x128, .f32⟩) main_v28) select,
    unary main_v27 main_v29 (broadcastInDim S65536x128 ![0, 1] bcast_S65536x1_S65536x128_0_1 : (⟨S65536x1, .f32⟩ : BufTy).Contents (Elt F) → (⟨S65536x128, .f32⟩ : BufTy).Contents (Elt F)),
    binary main_v28 main_v29 main_v30 (mulf : (⟨S65536x128, .f32⟩ : BufTy).Contents (Elt F) → (⟨S65536x128, .f32⟩ : BufTy).Contents (Elt F) → (⟨S65536x128, .f32⟩ : BufTy).Contents (Elt F)),
    unary main_v27 main_v31 (broadcastInDim S65536x128 ![0, 1] bcast_S65536x1_S65536x128_0_1 : (⟨S65536x1, .f32⟩ : BufTy).Contents (Elt F) → (⟨S65536x128, .f32⟩ : BufTy).Contents (Elt F)),
    binary main_v30 main_v31 main_v32 (Host.divf : (⟨S65536x128, .f32⟩ : BufTy).Contents (Elt F) → (⟨S65536x128, .f32⟩ : BufTy).Contents (Elt F) → (⟨S65536x128, .f32⟩ : BufTy).Contents (Elt F)),
    binary main_v32 main_arg3 main_v33 (fn_main_v33 (F := F)) ]

abbrev writesA : List (Ref sig .tc) := [main_v0, main_v1, main_v2, main_v3, main_v4, main_call0_cst, main_call0_v0, main_v5, main_v6, main_v7, main_v8, main_v9, main_call1_cst, main_call1_v0, main_v10, main_v11, main_v12, main_v13, main_v14, main_v15, main_v16, main_v17, main_v18, main_cst, main_call2_v0, main_call2_v1, main_call2_v2, main_call2_v3, main_v19, main_cst_0, main_v20]
abbrev writesB : List (Ref sig .tc) := [main_v21, main_cst_1, main_v22, main_v23, main_cst_2, main_v24, main_v25, main_cst_3, main_v26, main_v27, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v28, main_v29, main_v30, main_v31, main_v32, main_v33]

theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
theorem ops_sub : (opsA ++ opsB : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., unary_bufs_sub .., unary_bufs_sub .., binary_bufs_sub .., unary_bufs_sub .., unary_bufs_sub .., nullary_bufs_sub .., unary_bufs_sub .., unary_bufs_sub .., unary_bufs_sub .., unary_bufs_sub .., ternary_bufs_sub .., nullary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., unary_bufs_sub .., binary_bufs_sub .., binary_bufs_sub ..⟩

theorem after_two (l₁ l₂ : List (HloOp τ sig (Elt F))) (W : Valuation τ sig (Elt F)) : after (l₁ ++ l₂) W = after l₂ (after l₁ W) := by
  induction l₁ generalizing W with
  | nil => rfl
  | cons op l ih => exact ih _

/-- A buffer neither list writes is as it was. -/
theorem keepA (W : Valuation τ sig (Elt F)) (r : Ref sig .tc) (h : r ∉ writesA) : after opsA W (Proc.devRef .tc r) = W (Proc.devRef .tc r) :=
  after_unwritten writesA rfl h W
theorem keep (W : Valuation τ sig (Elt F)) (r : Ref sig .tc) (hA : r ∉ writesA) (hB : r ∉ writesB) :
    after (opsA ++ opsB) W (Proc.devRef .tc r) = W (Proc.devRef .tc r) := by
  rw [after_two]
  exact (after_unwritten writesB rfl hB _).trans (keepA W r hA)

set_option maxHeartbeats 2000000 in
theorem outA (W : Valuation τ sig (Elt Ideal)) : after opsA W (Proc.devRef .tc main_v20)
    = pooled (W (Proc.devRef .tc main_arg2)) (layers (W (Proc.devRef .tc main_arg0)) (W (Proc.devRef .tc main_arg1)) (W (Proc.devRef .tc main_arg6))
        (W (Proc.devRef .tc main_arg7)) (W (Proc.devRef .tc main_arg8)) (W (Proc.devRef .tc main_arg9))) := by
  simp only [opsA, TRef.binary, TRef.nullary, TRef.ternary, TRef.unary, TRef.toBuf, TRef.ofBuf, cast_eq]; after_results_simp <;> rfl

set_option maxHeartbeats 2000000 in
theorem outB (W : Valuation τ sig (Elt Ideal)) : after opsB W (Proc.devRef .tc main_v33)
    = refOut (W (Proc.devRef .tc main_v20)) (W (Proc.devRef .tc main_arg3)) (W (Proc.devRef .tc main_arg4)) (W (Proc.devRef .tc main_arg5)) := by
  simp only [opsB, TRef.binary, TRef.nullary, TRef.ternary, TRef.unary, TRef.toBuf, TRef.ofBuf, cast_eq]; after_results_simp <;> rfl

theorem out (W : Valuation τ sig (Elt Ideal)) : after (opsA ++ opsB) W (Proc.devRef .tc main_v33)
    = refOut (pooled (W (Proc.devRef .tc main_arg2)) (layers (W (Proc.devRef .tc main_arg0)) (W (Proc.devRef .tc main_arg1)) (W (Proc.devRef .tc main_arg6))
        (W (Proc.devRef .tc main_arg7)) (W (Proc.devRef .tc main_arg8)) (W (Proc.devRef .tc main_arg9))))
      (W (Proc.devRef .tc main_arg3)) (W (Proc.devRef .tc main_arg4)) (W (Proc.devRef .tc main_arg5)) := by
  rw [after_two, outB, outA, keepA W main_arg3 (by decide), keepA W main_arg4 (by decide), keepA W main_arg5 (by decide)]

/-- The reference runs, its output is the interpolation of the pooled table, and its arguments stay as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33)
          = refOut (pooled (m ((c.tc : Thread nD τ).loc main_arg2)) (layers (m ((c.tc : Thread nD τ).loc main_arg0)) (m ((c.tc : Thread nD τ).loc main_arg1))
              (m ((c.tc : Thread nD τ).loc main_arg6)) (m ((c.tc : Thread nD τ).loc main_arg7)) (m ((c.tc : Thread nD τ).loc main_arg8)) (m ((c.tc : Thread nD τ).loc main_arg9))))
            (m ((c.tc : Thread nD τ).loc main_arg3)) (m ((c.tc : Thread nD τ).loc main_arg4)) (m ((c.tc : Thread nD τ).loc main_arg5))
      ∧ ∀ b : Ref sig .tc, b ∉ writesA → b ∉ writesB → r.2.mem ((c.tc : Thread nD τ).loc b) = m ((c.tc : Thread nD τ).loc b) :=
  (θ_run defs _ _).mono (fun _ h c => ⟨(h c main_v33).trans (out _), fun b hA hB => (h c b).trans (keep _ b hA hB)⟩)
    (run_seq scopedRefs_eq scopedSems_eq defs main (fun _ => opsA ++ opsB) main_eq (fun _ => ops_sub) m ρ)

end Cert.ReferenceIdeal.Value

end
-- ==== Proof.Sc.lean ====
/-
  The SparseCore call of the kernel (`cc1_k`): the buffers it works on, the launch's names for its threads, and what a
  tile must leave in the output.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the staging buffers' rounds, the transfers' counters -/

abbrev UH : Type := URounds (GSem nD τ sig) ℕ
abbrev UB : Type := URounds (GSem nD τ sig) ℕ
abbrev UP : Type := URounds (GSem nD τ sig) Unit
abbrev UU : Type := UH × (UB × (UP × Counters))

/-- The model of the proof. -/
local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The rounds library of the TensorCore call's staging buffers. -/
def EP : Emb UP (MT nD τ sig (HIx 1) (Elt F) ℕ UU ℕ) :=
  ((Emb.inl : Emb UP (UP × Counters)).trans ((Emb.inr : Emb (UP × Counters) (UB × (UP × Counters))).trans (Emb.inr : Emb (UB × (UP × Counters)) UU))).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers -/

abbrev pLoc (d : Dev nD) : Loc nD τ sig := (SparseCore.T d).loc main_v5
abbrev iLoc (d : Dev nD) : Loc nD τ sig := (SparseCore.T d).loc main_v6
abbrev xLoc (d : Dev nD) : Loc nD τ sig := (SparseCore.T d).loc main_arg3
abbrev oLoc (d : Dev nD) : Loc nD τ sig := (SparseCore.T d).loc main_v7

/-- The pooled table, the row numbers, the skip features and the output, as a tile names them. -/
abbrev pV : Memref sig .scVector .hbm S16x128 .f32 := Memref.whole main_v5_scv
abbrev iV : Memref sig .scVector .hbm S512x128 .i32 := Memref.whole main_v6_scv
abbrev xV : Memref sig .scVector .hbm S65536x64 .f32 := Memref.whole main_arg3_scv
abbrev oV : Memref sig .scVector .hbm S65536x192 .f32 := Memref.whole main_v7_scv
/-- The tile's row numbers, its three slots of gathered rows and of skip rows, and the SparseCore's copy of the table. -/
abbrev nV : Memref sig .scVector .vmem S16x128 .i32 := Memref.whole cc1_scratch0
abbrev gV : Memref sig .scVector .vmem S3x128x128 .f32 := Memref.whole cc1_scratch1
abbrev sV : Memref sig .scVector .vmem S3x128x64 .f32 := Memref.whole cc1_scratch2
abbrev hV : Memref sig .scVector .shared S16x128 .f32 := Memref.whole cc1_scratch3

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## The windows, as the body spells them -/

/-- The tile's sixteen rows of the row numbers. -/
abbrev iRow (L : grid1.Coords) : Memref sig .scVector .hbm S16x128 .i32 :=
  (iV).slice (Rect.unit (s := S512x128) (k1_off1 L) S16x128.size (k1_off1_inb L)) (fun _ => rfl)

/-- The row offset of chunk `j`, as the body spells it: 128 rows a chunk. -/
abbrev cOff (j : Fin 16) : BitVec 32 := BitVec.ofNat 32 (128 * j.val)

/-- Chunk `j`'s 128 skip rows, and its gathered and its skip columns of the output. -/
abbrev xCh (L : grid1.Coords) (j : Fin 16) : Memref sig .scVector .hbm S128x64 .f32 :=
  (xV).slice (Rect.unit (s := S65536x64) (k1_off2 L (cOff j)) S128x64.size (k1_off2_inb L j)) (fun _ => rfl)
abbrev oGw (L : grid1.Coords) (c : BitVec 32) (h : ∀ a, (k1_off3 L c) a + S128x128.size a ≤ S65536x192.size a) : Memref sig .scVector .hbm S128x128 .f32 :=
  (oV).slice (Rect.unit (s := S65536x192) (k1_off3 L c) S128x128.size h) (fun _ => rfl)
abbrev oXw (L : grid1.Coords) (c : BitVec 32) (h : ∀ a, (k1_off4 L c) a + S128x64.size a ≤ S65536x192.size a) : Memref sig .scVector .hbm S128x64 .f32 :=
  (oV).slice (Rect.unit (s := S65536x192) (k1_off4 L c) S128x64.size h) (fun _ => rfl)

/-- Slot `b` of the gathered rows and of the skip rows. -/
abbrev gSl (b : Fin 3) (h : ∀ a, (![b.val, 0, 0] : Fin 3 → Nat) a + S1x128x128.size a ≤ S3x128x128.size a) : Memref sig .scVector .vmem S128x128 .f32 :=
  ((gV).slice (Rect.unit (s := S3x128x128) ![b.val, 0, 0] S1x128x128.size h) (fun _ => rfl)).squeeze S128x128 squeezes_S1x128x128_S128x128
abbrev g0 : Memref sig .scVector .vmem S128x128 .f32 :=
  ((gV).slice (Rect.unit (s := S3x128x128) ![0, 0, 0] S1x128x128.size inb_S3x128x128_S1x128x128_0_0_0) (fun _ => rfl)).squeeze S128x128 squeezes_S1x128x128_S128x128
abbrev g1 : Memref sig .scVector .vmem S128x128 .f32 :=
  ((gV).slice (Rect.unit (s := S3x128x128) ![1, 0, 0] S1x128x128.size inb_S3x128x128_S1x128x128_1_0_0) (fun _ => rfl)).squeeze S128x128 squeezes_S1x128x128_S128x128
abbrev g2 : Memref sig .scVector .vmem S128x128 .f32 :=
  ((gV).slice (Rect.unit (s := S3x128x128) ![2, 0, 0] S1x128x128.size inb_S3x128x128_S1x128x128_2_0_0) (fun _ => rfl)).squeeze S128x128 squeezes_S1x128x128_S128x128
abbrev s0 : Memref sig .scVector .vmem S128x64 .f32 :=
  ((sV).slice (Rect.unit (s := S3x128x64) ![0, 0, 0] S1x128x64.size inb_S3x128x64_S1x128x64_0_0_0) (fun _ => rfl)).squeeze S128x64 squeezes_S1x128x64_S128x64
abbrev s1 : Memref sig .scVector .vmem S128x64 .f32 :=
  ((sV).slice (Rect.unit (s := S3x128x64) ![1, 0, 0] S1x128x64.size inb_S3x128x64_S1x128x64_1_0_0) (fun _ => rfl)).squeeze S128x64 squeezes_S1x128x64_S128x64
abbrev s2 : Memref sig .scVector .vmem S128x64 .f32 :=
  ((sV).slice (Rect.unit (s := S3x128x64) ![2, 0, 0] S1x128x64.size inb_S3x128x64_S1x128x64_2_0_0) (fun _ => rfl)).squeeze S128x64 squeezes_S1x128x64_S128x64

end Cert.Proof.Sc

end
-- ==== Proof.Out.lean ====
module

public import proofs.«01_k».proof.Proof.Sc

/-! What the SparseCore call leaves in its output, and that each window of it a tile writes holds it. -/

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (d : Dev nD) (L : grid1.Coords)
variable (pl : Buf (Elt F) (pLoc d)) (ix : Buf (Elt F) (iLoc d)) (xs : Buf (Elt F) (xLoc d)) (o0 : Buf (Elt F) (oLoc d))

/-! ## The indices, from their coordinates -/

def pIdx (a b : ℕ) (ha : a < 16) (hb : b < 128) : S16x128.Idx := fun | 0 => ⟨a, ha⟩ | 1 => ⟨b, hb⟩
def iIdx (a b : ℕ) (ha : a < 512) (hb : b < 128) : S512x128.Idx := fun | 0 => ⟨a, ha⟩ | 1 => ⟨b, hb⟩
def xIdx (a b : ℕ) (ha : a < 65536) (hb : b < 64) : S65536x64.Idx := fun | 0 => ⟨a, ha⟩ | 1 => ⟨b, hb⟩

theorem row_lt (y : S65536x192.Idx) : (y 0).val < 65536 := (y 0).isLt
theorem col_lt (y : S65536x192.Idx) : (y 1).val < 192 := (y 1).isLt

/-- The row number skip point `n` names. -/
def rowOf (n : ℕ) (hn : n < 65536) : ℕ := (ix (iIdx (n / 128) (n % 128) (by omega) (by omega)) : BitVec 32).toNat

/-- The call's output: at skip point `n`, the pooled row its row number names, then its own features. -/
def OUT : Buf (Elt F) (oLoc d) := fun y =>
  if h : (y 1).val < 128 then pl (pIdx (rowOf d ix (y 0).val (row_lt y) % 16) (y 1).val (by omega) h)
  else xs (xIdx (y 0).val ((y 1).val - 128) (row_lt y) (by have := col_lt y; omega))

abbrev oG (j : Fin 16) : Memref sig .scVector .hbm S128x128 .f32 := oGw L (cOff j) (k1_off3_inb L j)
abbrev oX (j : Fin 16) : Memref sig .scVector .hbm S128x64 .f32 := oXw L (cOff j) (k1_off4_inb L j)

/-- The first row of chunk `j` of the tile. -/
abbrev rowBase (j : Fin 16) : ℕ := 4096 * (L 1).val + 2048 * (L 0).val + 128 * j.val

theorem rowBase_lt (j : Fin 16) (r : ℕ) (hr : r < 128) : rowBase L j + r < 65536 := by
  have h1 : (L 1).val < 16 := (L 1).isLt
  have h0 : (L 0).val < 2 := (L 0).isLt
  have := j.isLt
  unfold rowBase; omega

theorem oG_emb0 (j : Fin 16) (y : S128x128.Idx) : ((oG L j).view.emb y 0).val = rowBase L j + (y 0).val := by
  show k1_off3 L (cOff j) 0 + 1 * (y 0).val = _
  rw [k1_off3_eq L j, one_mul]; rfl
theorem oG_emb1 (j : Fin 16) (y : S128x128.Idx) : ((oG L j).view.emb y 1).val = (y 1).val := by
  show k1_off3 L (cOff j) 1 + 1 * (y 1).val = _
  rw [k1_off3_eq L j, one_mul]; exact Nat.zero_add _
theorem oX_emb0 (j : Fin 16) (y : S128x64.Idx) : ((oX L j).view.emb y 0).val = rowBase L j + (y 0).val := by
  show k1_off4 L (cOff j) 0 + 1 * (y 0).val = _
  rw [k1_off4_eq L j, one_mul]; rfl
theorem oX_emb1 (j : Fin 16) (y : S128x64.Idx) : ((oX L j).view.emb y 1).val = 128 + (y 1).val := by
  show k1_off4 L (cOff j) 1 + 1 * (y 1).val = _
  rw [k1_off4_eq L j, one_mul]; rfl

/-- What a view reads back of contents whose latest piece is whole. -/
theorem read_cons {κ : Kind} {sp : Space} {s : Shape} {e : EltTy} (v : View sig κ sp s e) (f : v.ty.Contents (Elt F)) (x : s.Idx → Elt F e)
    (M : List (View.Piece (Elt F) s e)) : v.read (Elt F) (v.writes (Elt F) f (⟨Rect.whole s, x⟩ :: M)) = x := by
  funext y
  have h := View.read_writes_cons_emb v f (Rect.whole s) x M y
  rwa [Rect.emb_whole_apply] at h

/-- Chunk `j`'s skip window, at the skip rows copied into it, holds the call's output. -/
theorem oX_fin (j : Fin 16) (pay : S128x64.Idx → Elt F .f32) (hpay : pay = (xCh L j).view.read (Elt F) xs) :
    (((oX L j).view.loc (VT d L) ↦[(oX L j).view.set]{fullShare} (oX L j).view.writes (Elt F) o0 [⟨Rect.whole S128x64, pay⟩]) : sProp 𝕄)
      = ((oX L j).view.loc (VT d L) ↦[(oX L j).view.set]{fullShare} OUT d pl ix xs) := by
  refine pointsTo_congr fun i hi => ?_
  obtain ⟨y, -, rfl⟩ := Finset.mem_map.mp hi
  have h1 : View.read (Elt F) (oX L j).view ((oX L j).view.writes (Elt F) o0 [⟨Rect.whole S128x64, pay⟩]) y = pay y := congrFun (read_cons _ _ _ _) y
  rw [View.read_apply] at h1
  refine ((cast_eq _ _).symm.trans h1).trans ?_
  rw [hpay, View.read_apply]
  have e1 : ¬ ((oX L j).view.emb y 1).val < 128 := by rw [oX_emb1]; omega
  have e : OUT d pl ix xs ((oX L j).view.emb y) = xs (xIdx ((oX L j).view.emb y 0).val (((oX L j).view.emb y 1).val - 128) (row_lt _) (by have := col_lt ((oX L j).view.emb y); omega)) := dif_neg e1
  rw [e]
  refine (cast_eq _ _).trans (congrArg xs ?_)
  funext a
  match a with
  | 0 =>
    apply Fin.ext
    show k1_off2 L (cOff j) 0 + 1 * (y 0).val = ((oX L j).view.emb y 0).val
    rw [oX_emb0, k1_off2_eq L j, one_mul]; rfl
  | 1 =>
    apply Fin.ext
    show k1_off2 L (cOff j) 1 + 1 * (y 1).val = ((oX L j).view.emb y 1).val - 128
    rw [oX_emb1, k1_off2_eq L j, one_mul, Nat.add_sub_cancel_left]; exact Nat.zero_add _

/-- The tile's row numbers, landed: its sixteen rows of the array. -/
def NB : Buf (Elt F) ((nV).view.loc (VT d L)) := fun y => ix ((iRow L).view.emb y)

/-- Row `row` of the tile's list buffer, as a gather reads it. -/
abbrev nRow (row : Fin 2 → Nat) (hk : ∀ a, row a + S1x128.size a ≤ S16x128.size a) (hs : ∀ a, (Rect.unit (s := S16x128) row S1x128.size hk).stride a = 1)
    (hq : (Rect.unit (s := S16x128) row S1x128.size hk).shape.Squeezes S128) : Memref sig .scVector .vmem S128 .i32 :=
  ((Memref.whole cc1_scratch0).slice (Rect.unit (s := S16x128) row S1x128.size hk) hs).squeeze S128 hq

/-- Every row number a gather reads is in range, whichever row of the list buffer it reads them from. -/
theorem hin_NB (hix : ∀ y, (ix y : BitVec 32).toNat < 16) (row : Fin 2 → Nat) (hk : ∀ a, row a + S1x128.size a ≤ S16x128.size a)
    (hs : ∀ a, (Rect.unit (s := S16x128) row S1x128.size hk).stride a = 1) (hq : (Rect.unit (s := S16x128) row S1x128.size hk).shape.Squeezes S128) :
    ∀ x, (View.read (Elt F) (((Memref.whole cc1_scratch0).slice (Rect.unit (s := S16x128) row S1x128.size hk) hs).squeeze S128 hq).view (NB d L ix) x).toNat < 16 := by
  intro x
  rw [View.read_apply]
  exact hix _

/-- Once its copy has landed, the tile's list buffer holds its sixteen rows of the array. -/
theorem pts_NB (fn : Buf (Elt F) ((nV).view.loc (VT d L))) (pay : S16x128.Idx → Elt F .i32) (hpay : pay = (iRow L).view.read (Elt F) ix) :
    (((nV).view.loc (VT d L) ↦{fullShare} View.write (Elt F) (nV).view fn pay Finset.univ) : sProp 𝕄)
      ⊢ (Memref.whole cc1_scratch0).view.loc (V d (cV L) (jV L)) ↦{fullShare} NB d L ix := by
  subst hpay
  rw [View.write_whole_univ]
  refine Entails.of_eq (congrArg _ ?_)
  funext y
  exact (View.read_apply _ _).trans (cast_eq _ _)

/-- Where entry `k` of row `j` of the list buffer lies. -/
theorem nRow_emb (j : Fin 16) (hk hs hq) (k : Fin 128) (hn : S128.numel = 128) :
    ∃ z : S16x128.Idx, (nRow ![j.val, 0] hk hs hq).view.emb (S128.rowMajor.symm (k.cast hn.symm)) = z ∧ (z 0).val = j.val ∧ (z 1).val = k.val := by
  refine ⟨_, rfl, ?_⟩
  have hz := Shape.rowMajor_reshapeEquiv hq.numel_eq (S128.rowMajor.symm (k.cast hn.symm))
  rw [Equiv.apply_symm_apply] at hz
  generalize hw : Shape.reshapeEquiv hq.numel_eq (S128.rowMajor.symm (k.cast hn.symm)) = w at hz
  change (S1x128.rowMajor w).val = k.val at hz
  rw [Shape.rowMajor_val_two] at hz
  have h0 : (w 0).val < 1 := (w 0).isLt
  have h1 : (w 1).val < 128 := (w 1).isLt
  have h128 : S1x128.size 1 = 128 := rfl
  have e0 : (w 0).val = 0 := by omega
  constructor
  · show j.val + 1 * (Shape.reshapeEquiv hq.numel_eq (S128.rowMajor.symm (k.cast hn.symm)) 0).val = j.val
    rw [hw, e0, Nat.mul_zero, Nat.add_zero]
  · show 0 + 1 * (Shape.reshapeEquiv hq.numel_eq (S128.rowMajor.symm (k.cast hn.symm)) 1).val = k.val
    rw [hw, Nat.zero_add, one_mul]
    rw [e0] at hz
    refine Eq.trans ?_ hz
    rw [Nat.zero_mul, Nat.zero_add]

/-- Chunk `j`'s gathered window, at the rows gathered into it, holds the call's output. -/
theorem oG_fin (hix : ∀ y, (ix y : BitVec 32).toNat < 16) (j : Fin 16) (hk hs hq h0 hs0 hn hin) (pay : S128x128.Idx → Elt F .f32)
    (hpay : pay = SparseCore.gatherPayload gathers_S16x128_S128x128
      (((Memref.whole cc1_scratch3).slice (Rect.unit (s := S16x128) ![0, 0] S16x128.size h0) hs0).view.read (Elt F) (pl : Buf (Elt F) ((hV).view.loc (VT d L))))
      (SparseCore.rows ((nRow ![j.val, 0] hk hs hq).view.read (Elt F) (NB d L ix)) hn hin)) :
    (((oG L j).view.loc (VT d L) ↦[(oG L j).view.set]{fullShare} (oG L j).view.writes (Elt F) o0 [⟨Rect.whole S128x128, pay⟩]) : sProp 𝕄)
      = ((oG L j).view.loc (VT d L) ↦[(oG L j).view.set]{fullShare} OUT d pl ix xs) := by
  refine pointsTo_congr fun i hi => ?_
  obtain ⟨y, -, rfl⟩ := Finset.mem_map.mp hi
  have h1 : View.read (Elt F) (oG L j).view ((oG L j).view.writes (Elt F) o0 [⟨Rect.whole S128x128, pay⟩]) y = pay y := congrFun (read_cons _ _ _ _) y
  rw [View.read_apply] at h1
  refine ((cast_eq _ _).symm.trans h1).trans ?_
  subst hpay
  unfold SparseCore.gatherPayload
  rw [View.read_apply]
  have e1 : ((oG L j).view.emb y 1).val < 128 := by rw [oG_emb1]; exact (y 1).isLt
  have e : OUT d pl ix xs ((oG L j).view.emb y) = pl (pIdx (rowOf d ix ((oG L j).view.emb y 0).val (row_lt _) % 16) ((oG L j).view.emb y 1).val (by omega) e1) := dif_pos e1
  rw [e]
  refine (cast_eq _ _).trans (congrArg pl ?_)
  have hy0 : (y 0).val < 128 := (y 0).isLt
  have hL1 : (L 1).val < 16 := (L 1).isLt
  have hL0 : (L 0).val < 2 := (L 0).isLt
  have hj : j.val < 16 := j.isLt
  have hwin : ∀ w, ((((Memref.whole cc1_scratch3).slice (Rect.unit (s := S16x128) ![0, 0] S16x128.size h0) hs0).view.emb w) : S16x128.Idx) = w := by
    intro w; funext a; apply Fin.ext
    match a with
    | 0 => show 0 + 1 * (w 0).val = _; rw [Nat.zero_add, one_mul]
    | 1 => show 0 + 1 * (w 1).val = _; rw [Nat.zero_add, one_mul]
  rw [hwin]
  obtain ⟨z, hz, hz0, hz1⟩ := nRow_emb j hk hs hq (y 0) hn
  funext a
  match a with
  | 0 =>
    apply Fin.ext
    refine (congrArg Fin.val (Shape.Gathers.idx_axis gathers_S16x128_S128x128 _ y)).trans ?_
    show (View.read (Elt F) (nRow ![j.val, 0] hk hs hq).view (NB d L ix) (S128.rowMajor.symm ((y 0).cast hn.symm)) : BitVec 32).toNat
      = rowOf d ix ((oG L j).view.emb y 0).val (row_lt _) % 16
    have hr : (View.read (Elt F) (nRow ![j.val, 0] hk hs hq).view (NB d L ix) (S128.rowMajor.symm ((y 0).cast hn.symm)) : BitVec 32) = ix ((iRow L).view.emb z) := by
      rw [View.read_apply]; refine (cast_eq _ _).trans ?_; unfold NB; exact congrArg (fun w => ix ((iRow L).view.emb w)) hz
    rw [hr]
    have hi : (iRow L).view.emb z = iIdx (((oG L j).view.emb y 0).val / 128) (((oG L j).view.emb y 0).val % 128) (by have := row_lt ((oG L j).view.emb y); omega) (by omega) := by
      funext b
      match b with
      | 0 =>
        apply Fin.ext
        show k1_off1 L 0 + 1 * (z 0).val = ((oG L j).view.emb y 0).val / 128
        rw [oG_emb0, hz0, k1_off1_eq L, one_mul]
        show 32 * (L 1).val + 16 * (L 0).val + j.val = (4096 * (L 1).val + 2048 * (L 0).val + 128 * j.val + (y 0).val) / 128
        omega
      | 1 =>
        apply Fin.ext
        show k1_off1 L 1 + 1 * (z 1).val = ((oG L j).view.emb y 0).val % 128
        rw [oG_emb0, hz1, k1_off1_eq L, one_mul]
        show 0 + (y 0).val = (4096 * (L 1).val + 2048 * (L 0).val + 128 * j.val + (y 0).val) % 128
        omega
    rw [hi]
    exact (Nat.mod_eq_of_lt (hix _)).symm
  | 1 =>
    apply Fin.ext
    refine (Shape.Gathers.idx_of_ne gathers_S16x128_S128x128 _ y 1 (by decide)).trans ?_
    exact (oG_emb1 L j y).symm

end Cert.Proof.Sc

end
-- ==== Proof.Barrier.lean ====
module

public import proofs.«01_k».proof.Proof.Out

/-! The barrier of each SparseCore's tiles, which hands every tile its share of the table, and what the launch's
    handshakes carry. -/

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type}
local notation "𝕄" => MT nD τ sig (HIx 1) (Elt F) ℕ UU ℕ

variable (pl : ∀ d : Dev nD, Buf (Elt F) (pLoc d)) (ix : ∀ d : Dev nD, Buf (Elt F) (iLoc d)) (xs : ∀ d : Dev nD, Buf (Elt F) (xLoc d))
  (o0 : ∀ d : Dev nD, Buf (Elt F) (oLoc d))

theorem sc_bar0_ne_go : (sc_bar0 : Sem sig) ≠ sc_go := by decide

/-- The barrier cell of tile `j` of SparseCore `c`. -/
abbrev bcell (d : Dev nD) (c : Fin τ.nSC) (j : Fin τ.nSub) : GSem nD τ sig := (V d c j, .reg sc_bar0)

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The share of the SparseCore's table tile `j` reads it at. -/
abbrev hq (j : Fin 16) : PosShare TreeShare := leaf 4 fullShare j
abbrev shPts (d : Dev nD) (c : Fin τ.nSC) (j : Fin 16) : sProp 𝕄 := shLoc d c ↦{hq j} (pl d : Buf (Elt F) (shLoc d c))

/-- What a duty in tile `j`'s round hands over: tile 0's, tile `j`'s share of the table it filled; the others', nothing. -/
def bPay (g : GSem nD τ sig) (n : ℕ) : sProp 𝕄 :=
  match g with
  | ((d, .scVector c j), _) => if n = 0 then shPts pl d c j else iprop(emp)
  | _ => iprop(emp)

/-- The barrier cells' schedule: one round on each, of one unit duty per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay pl g n
  amount_pos _ _ _ _ := Nat.one_pos

instance bRd_payload_storable (g : GSem nD τ sig) (r n : ℕ) : BI.Storable (upEmb : UEmb _ 𝕄) ((bRd pl).payload g r n) := by
  show BI.Storable upEmb (bPay pl g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd pl).duties (bcell d c j) 0 = (Finset.univ : Finset (Fin τ.nSub)).image Fin.val := by
  simp [bRd, isBar]
theorem bRd_duties_succ (g : GSem nD τ sig) (r : ℕ) (hr : 1 ≤ r) : (bRd pl).duties g r = ∅ :=
  if_neg fun h => absurd h.2 (Nat.ne_of_gt hr)
theorem bRd_mem₀ (d : Dev nD) (c : Fin τ.nSC) (j i : Fin τ.nSub) : i.val ∈ (bRd pl).duties (bcell d c j) 0 := by
  rw [bRd_duties₀]; exact Finset.mem_image_of_mem _ (Finset.mem_univ i)
theorem bRd_expect (d : Dev nD) (c : Fin τ.nSC) (j : Fin τ.nSub) : 0 + grid1.bound 1 = (bRd pl).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of it. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd pl) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What a tile is handed and hands back -/

/-- The grid point of tile `i` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The tile's share of what it only reads. -/
abbrev rq (L : grid1.Coords) : PosShare TreeShare := leaf 4 (leaf 1 fullShare (L 0)) (L 1)

/-- The tile's windows of the output, at contents `f`. -/
def oPcs (d : Dev nD) (L : grid1.Coords) (f : Buf (Elt F) (oLoc d)) : sProp 𝕄 :=
  bigSep Finset.univ fun j : Fin 16 => iprop((oLoc d ↦[(oG L j).view.set]{fullShare} f) ∗ (oLoc d ↦[(oX L j).view.set]{fullShare} f))

/-- What the tile reads, at its share. -/
def rds (d : Dev nD) (L : grid1.Coords) : sProp 𝕄 :=
  iprop((pLoc d ↦{rq L} pl d) ∗ (iLoc d ↦{rq L} ix d) ∗ (xLoc d ↦{rq L} xs d))

/-- Tile 0 is also handed the SparseCore's shared buffer, to fill it. -/
def sh0 (d : Dev nD) (L : grid1.Coords) : sProp 𝕄 :=
  if (L 1).val = 0 then iprop(∃ f, shLoc d (cV L) ↦{fullShare} f) else iprop(emp)

def goP (d : Dev nD) (L : grid1.Coords) : sProp 𝕄 := iprop(rds pl ix xs d L ∗ oPcs d L (o0 d) ∗ sh0 d L)
def tdP (d : Dev nD) (L : grid1.Coords) : sProp 𝕄 :=
  iprop((rds pl ix xs d L ∗ oPcs d L (OUT d (pl d) (ix d) (xs d)) ∗ shPts pl d (cV L) (jV L)) ∗ semVal (bcell d (cV L) (jV L)) 0)

end Cert.Proof.Sc

end
-- ==== Proof.Pieces.lean ====
module

public import proofs.«01_k».proof.Proof.Barrier

/-! One tile of the SparseCore call, run: its sixteen chunks of the output at the values the call leaves there. -/

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type}
local notation "𝕄" => MT nD τ sig (HIx 1) (Elt F) ℕ UU ℕ

variable [FloatOps F] (d : Dev nD) (L : grid1.Coords)

/-! ## The pieces a tile's run names -/

section Pieces
variable (o0 : Buf (Elt F) (oLoc d))

omit [FloatOps F] in
theorem oPieces (f : Buf (Elt F) (oLoc d)) :
    (bigSep Finset.univ fun j : Fin 16 => (iprop(((oG L j).view.loc (VT d L) ↦[(oG L j).view.set]{fullShare} f) ∗ ((oX L j).view.loc (VT d L) ↦[(oX L j).view.set]{fullShare} f)) : sProp 𝕄))
     = iprop(
      (((oGw L 0#32 (k1_off3_inb L 0)).view.loc (VT d L) ↦[(oGw L 0#32 (k1_off3_inb L 0)).view.set]{fullShare} f) ∗ ((oXw L 0#32 (k1_off4_inb L 0)).view.loc (VT d L) ↦[(oXw L 0#32 (k1_off4_inb L 0)).view.set]{fullShare} f))
      ∗ (((oGw L 128#32 (k1_off3_inb L 1)).view.loc (VT d L) ↦[(oGw L 128#32 (k1_off3_inb L 1)).view.set]{fullShare} f) ∗ ((oXw L 128#32 (k1_off4_inb L 1)).view.loc (VT d L) ↦[(oXw L 128#32 (k1_off4_inb L 1)).view.set]{fullShare} f))
      ∗ (((oGw L 256#32 (k1_off3_inb L 2)).view.loc (VT d L) ↦[(oGw L 256#32 (k1_off3_inb L 2)).view.set]{fullShare} f) ∗ ((oXw L 256#32 (k1_off4_inb L 2)).view.loc (VT d L) ↦[(oXw L 256#32 (k1_off4_inb L 2)).view.set]{fullShare} f))
      ∗ (((oGw L 384#32 (k1_off3_inb L 3)).view.loc (VT d L) ↦[(oGw L 384#32 (k1_off3_inb L 3)).view.set]{fullShare} f) ∗ ((oXw L 384#32 (k1_off4_inb L 3)).view.loc (VT d L) ↦[(oXw L 384#32 (k1_off4_inb L 3)).view.set]{fullShare} f))
      ∗ (((oGw L 512#32 (k1_off3_inb L 4)).view.loc (VT d L) ↦[(oGw L 512#32 (k1_off3_inb L 4)).view.set]{fullShare} f) ∗ ((oXw L 512#32 (k1_off4_inb L 4)).view.loc (VT d L) ↦[(oXw L 512#32 (k1_off4_inb L 4)).view.set]{fullShare} f))
      ∗ (((oGw L 640#32 (k1_off3_inb L 5)).view.loc (VT d L) ↦[(oGw L 640#32 (k1_off3_inb L 5)).view.set]{fullShare} f) ∗ ((oXw L 640#32 (k1_off4_inb L 5)).view.loc (VT d L) ↦[(oXw L 640#32 (k1_off4_inb L 5)).view.set]{fullShare} f))
      ∗ (((oGw L 768#32 (k1_off3_inb L 6)).view.loc (VT d L) ↦[(oGw L 768#32 (k1_off3_inb L 6)).view.set]{fullShare} f) ∗ ((oXw L 768#32 (k1_off4_inb L 6)).view.loc (VT d L) ↦[(oXw L 768#32 (k1_off4_inb L 6)).view.set]{fullShare} f))
      ∗ (((oGw L 896#32 (k1_off3_inb L 7)).view.loc (VT d L) ↦[(oGw L 896#32 (k1_off3_inb L 7)).view.set]{fullShare} f) ∗ ((oXw L 896#32 (k1_off4_inb L 7)).view.loc (VT d L) ↦[(oXw L 896#32 (k1_off4_inb L 7)).view.set]{fullShare} f))
      ∗ (((oGw L 1024#32 (k1_off3_inb L 8)).view.loc (VT d L) ↦[(oGw L 1024#32 (k1_off3_inb L 8)).view.set]{fullShare} f) ∗ ((oXw L 1024#32 (k1_off4_inb L 8)).view.loc (VT d L) ↦[(oXw L 1024#32 (k1_off4_inb L 8)).view.set]{fullShare} f))
      ∗ (((oGw L 1152#32 (k1_off3_inb L 9)).view.loc (VT d L) ↦[(oGw L 1152#32 (k1_off3_inb L 9)).view.set]{fullShare} f) ∗ ((oXw L 1152#32 (k1_off4_inb L 9)).view.loc (VT d L) ↦[(oXw L 1152#32 (k1_off4_inb L 9)).view.set]{fullShare} f))
      ∗ (((oGw L 1280#32 (k1_off3_inb L 10)).view.loc (VT d L) ↦[(oGw L 1280#32 (k1_off3_inb L 10)).view.set]{fullShare} f) ∗ ((oXw L 1280#32 (k1_off4_inb L 10)).view.loc (VT d L) ↦[(oXw L 1280#32 (k1_off4_inb L 10)).view.set]{fullShare} f))
      ∗ (((oGw L 1408#32 (k1_off3_inb L 11)).view.loc (VT d L) ↦[(oGw L 1408#32 (k1_off3_inb L 11)).view.set]{fullShare} f) ∗ ((oXw L 1408#32 (k1_off4_inb L 11)).view.loc (VT d L) ↦[(oXw L 1408#32 (k1_off4_inb L 11)).view.set]{fullShare} f))
      ∗ (((oGw L 1536#32 (k1_off3_inb L 12)).view.loc (VT d L) ↦[(oGw L 1536#32 (k1_off3_inb L 12)).view.set]{fullShare} f) ∗ ((oXw L 1536#32 (k1_off4_inb L 12)).view.loc (VT d L) ↦[(oXw L 1536#32 (k1_off4_inb L 12)).view.set]{fullShare} f))
      ∗ (((oGw L 1664#32 (k1_off3_inb L 13)).view.loc (VT d L) ↦[(oGw L 1664#32 (k1_off3_inb L 13)).view.set]{fullShare} f) ∗ ((oXw L 1664#32 (k1_off4_inb L 13)).view.loc (VT d L) ↦[(oXw L 1664#32 (k1_off4_inb L 13)).view.set]{fullShare} f))
      ∗ (((oGw L 1792#32 (k1_off3_inb L 14)).view.loc (VT d L) ↦[(oGw L 1792#32 (k1_off3_inb L 14)).view.set]{fullShare} f) ∗ ((oXw L 1792#32 (k1_off4_inb L 14)).view.loc (VT d L) ↦[(oXw L 1792#32 (k1_off4_inb L 14)).view.set]{fullShare} f))
      ∗ (((oGw L 1920#32 (k1_off3_inb L 15)).view.loc (VT d L) ↦[(oGw L 1920#32 (k1_off3_inb L 15)).view.set]{fullShare} f) ∗ ((oXw L 1920#32 (k1_off4_inb L 15)).view.loc (VT d L) ↦[(oXw L 1920#32 (k1_off4_inb L 15)).view.set]{fullShare} f))) :=
  bigSep_univ_eq_bigSepL [(0 : Fin 16), 1, 2, 3, 4, 5, 6, 7, 8, 9, 10, 11, 12, 13, 14, 15] (by decide) (by decide) _

end Pieces

omit [FloatOps F] in
/-- Three consecutive read tokens of a points-to, and what is left. -/
theorem toks3 {ℓ : Loc nD τ sig} (f : Buf (Elt F) ℓ) (q : PosShare TreeShare) (k : ℕ) :
    (ℓ ↦{q} f : sProp 𝕄) ⊣⊢ iprop(((ℓ ↦{Transfers.shareTokN q k} f) ∗ (ℓ ↦{Transfers.shareTokN q (k + 1)} f) ∗ (ℓ ↦{Transfers.shareTokN q (k + 2)} f))
      ∗ ((ℓ ↦{Transfers.shareDrop q (k + 3)} f) ∗ bigSep (Finset.range k) fun i => ℓ ↦{Transfers.shareTokN q i} f)) := by
  have e : (bigSep (Finset.range (k + 3)) fun i => (ℓ ↦{Transfers.shareTokN q i} f : sProp 𝕄))
      = iprop((ℓ ↦{Transfers.shareTokN q (k + 2)} f) ∗ (ℓ ↦{Transfers.shareTokN q (k + 1)} f) ∗ (ℓ ↦{Transfers.shareTokN q k} f)
        ∗ bigSep (Finset.range k) fun i => ℓ ↦{Transfers.shareTokN q i} f) := by
    rw [Finset.range_add_one, SparseCore.bigSep_insert' Finset.notMem_range_self, Finset.range_add_one, SparseCore.bigSep_insert' Finset.notMem_range_self,
      Finset.range_add_one, SparseCore.bigSep_insert' Finset.notMem_range_self]
  have h := Transfers.pointsTo_toks_range (Ix := HIx 1) (Name := ℕ) (U := UU) (Lvl := ℕ) (ℓ := ℓ) (S := Finset.univ) (f := f) q (k + 3)
  rw [e] at h
  constructor
  · refine h.1.trans ?_
    iintro ⟨Hd, H2, H1, H0, Hr⟩
    isplitl [H0 H1 H2]
    · isplitl [H0]; · iexact H0
      isplitl [H1]; · iexact H1
      iexact H2
    isplitl [Hd]; · iexact Hd
    iexact Hr
  · iintro ⟨⟨H0, H1, H2⟩, Hd, Hr⟩
    iapply h.2
    isplitl [Hd]; · iexact Hd
    isplitl [H2]; · iexact H2
    isplitl [H1]; · iexact H1
    isplitl [H0]; · iexact H0
    iexact Hr

/-! ## The slots of the two staging buffers -/

theorem gSet (b : Fin 3) (h) : ((gSl b h).view.set : Finset S3x128x128.Idx) = Finset.univ.filter fun x : S3x128x128.Idx => (x 0).val = b.val := by
  show (((gV).view.slice (Rect.unit (s := S3x128x128) ![b.val, 0, 0] S1x128x128.size h)).reshape S128x128 squeezes_S1x128x128_S128x128.numel_eq).set = _
  rw [View.set_reshape, View.set_slice]
  refine Finset.map_refl.trans ?_
  ext x
  rw [Rect.mem_set_unit, Finset.mem_filter]
  have h1 : (x 1).val < 128 := (x 1).isLt
  have h2 : (x 2).val < 128 := (x 2).isLt
  constructor
  · intro hx
    have := hx 0
    refine ⟨Finset.mem_univ _, ?_⟩
    change b.val ≤ (x 0).val ∧ (x 0).val < b.val + 1 at this
    omega
  · rintro ⟨-, hx⟩ a
    match a with
    | 0 => show b.val ≤ (x 0).val ∧ (x 0).val < b.val + 1; omega
    | 1 => show 0 ≤ (x 1).val ∧ (x 1).val < 0 + 128; omega
    | 2 => show 0 ≤ (x 2).val ∧ (x 2).val < 0 + 128; omega

abbrev sSl (b : Fin 3) (h : ∀ a, (![b.val, 0, 0] : Fin 3 → Nat) a + S1x128x64.size a ≤ S3x128x64.size a) : Memref sig .scVector .vmem S128x64 .f32 :=
  ((sV).slice (Rect.unit (s := S3x128x64) ![b.val, 0, 0] S1x128x64.size h) (fun _ => rfl)).squeeze S128x64 squeezes_S1x128x64_S128x64

theorem sSet (b : Fin 3) (h) : ((sSl b h).view.set : Finset S3x128x64.Idx) = Finset.univ.filter fun x : S3x128x64.Idx => (x 0).val = b.val := by
  show (((sV).view.slice (Rect.unit (s := S3x128x64) ![b.val, 0, 0] S1x128x64.size h)).reshape S128x64 squeezes_S1x128x64_S128x64.numel_eq).set = _
  rw [View.set_reshape, View.set_slice]
  refine Finset.map_refl.trans ?_
  ext x
  rw [Rect.mem_set_unit, Finset.mem_filter]
  have h1 : (x 1).val < 128 := (x 1).isLt
  have h2 : (x 2).val < 64 := (x 2).isLt
  constructor
  · intro hx
    have := hx 0
    refine ⟨Finset.mem_univ _, ?_⟩
    change b.val ≤ (x 0).val ∧ (x 0).val < b.val + 1 at this
    omega
  · rintro ⟨-, hx⟩ a
    match a with
    | 0 => show b.val ≤ (x 0).val ∧ (x 0).val < b.val + 1; omega
    | 1 => show 0 ≤ (x 1).val ∧ (x 1).val < 0 + 128; omega
    | 2 => show 0 ≤ (x 2).val ∧ (x 2).val < 0 + 64; omega

omit [FloatOps F] in
/-- A buffer whose index sets `A 0`, `A 1`, `A 2` partition, whole, is its three parts; and its parts, each at contents of its own,
    are it whole at some contents. -/
theorem pts_three {ℓ : Loc nD τ sig} (A : Fin 3 → Finset (Idx ℓ)) (hA : ∀ t ∈ (Finset.univ : Finset (Fin 3)), ∀ t' ∈ (Finset.univ : Finset (Fin 3)), t ≠ t' → Disjoint (A t) (A t'))
    (hc : (Finset.univ : Finset (Fin 3)).biUnion A = Finset.univ) :
    (∀ f : Buf (Elt F) ℓ, (ℓ ↦{fullShare} f : sProp 𝕄) = iprop((ℓ ↦[A 0]{fullShare} f) ∗ (ℓ ↦[A 1]{fullShare} f) ∗ (ℓ ↦[A 2]{fullShare} f)))
    ∧ (∀ f₀ f₁ f₂ : Buf (Elt F) ℓ, (iprop((ℓ ↦[A 0]{fullShare} f₀) ∗ (ℓ ↦[A 1]{fullShare} f₁) ∗ (ℓ ↦[A 2]{fullShare} f₂)) : sProp 𝕄) ⊢ iprop(∃ f, ℓ ↦{fullShare} f)) := by
  have three : ∀ Φ : Fin 3 → sProp 𝕄, bigSep Finset.univ Φ = iprop(Φ 0 ∗ Φ 1 ∗ Φ 2) := fun Φ =>
    bigSep_univ_eq_bigSepL [0, 1, 2] (by decide) (by decide) Φ
  constructor
  · intro f
    rw [← three (fun t => ℓ ↦[A t]{fullShare} f), ← pointsTo_biUnion Finset.univ A hA, hc]
  · intro f₀ f₁ f₂
    have e := three (fun t => ℓ ↦[A t]{fullShare} ((![f₀, f₁, f₂] : Fin 3 → Buf (Elt F) ℓ) t))
    refine (Entails.of_eq e.symm).trans ((pointsTo_biUnion_join Finset.univ A _ f₀ hA).trans ?_)
    iintro ⟨%g, -, Hg⟩
    rw [hc]
    iexists g; iexact Hg

omit [FloatOps F] in
theorem pts_g :
    (∀ f : Buf (Elt F) ((gV).view.loc (VT d L)), ((gV).view.loc (VT d L) ↦{fullShare} f : sProp 𝕄)
        = iprop(((g0).view.loc (VT d L) ↦[(g0).view.set]{fullShare} f) ∗ ((g1).view.loc (VT d L) ↦[(g1).view.set]{fullShare} f) ∗ ((g2).view.loc (VT d L) ↦[(g2).view.set]{fullShare} f)))
    ∧ (∀ f₀ f₁ f₂ : Buf (Elt F) ((gV).view.loc (VT d L)),
        (iprop(((g0).view.loc (VT d L) ↦[(g0).view.set]{fullShare} f₀) ∗ ((g1).view.loc (VT d L) ↦[(g1).view.set]{fullShare} f₁) ∗ ((g2).view.loc (VT d L) ↦[(g2).view.set]{fullShare} f₂)) : sProp 𝕄)
          ⊢ iprop(∃ f, (gV).view.loc (VT d L) ↦{fullShare} f)) :=
  pts_three (F := F) (ℓ := (gV).view.loc (VT d L)) ![(g0).view.set, (g1).view.set, (g2).view.set]
  (by
    intro t _ t' _ h
    have e : ∀ t : Fin 3, (![(g0).view.set, (g1).view.set, (g2).view.set] : Fin 3 → Finset S3x128x128.Idx) t = Finset.univ.filter fun x : S3x128x128.Idx => (x 0).val = t.val := by
      intro t
      match t with
      | 0 => exact gSet 0 _
      | 1 => exact gSet 1 _
      | 2 => exact gSet 2 _
    refine Finset.disjoint_left.mpr fun x hx hx' => h ?_
    have h1 := (Finset.mem_filter.mp ((e t) ▸ hx)).2
    have h2 := (Finset.mem_filter.mp ((e t') ▸ hx')).2
    exact Fin.ext (h1.symm.trans h2))
  (by
    have e : ∀ t : Fin 3, (![(g0).view.set, (g1).view.set, (g2).view.set] : Fin 3 → Finset S3x128x128.Idx) t = Finset.univ.filter fun x : S3x128x128.Idx => (x 0).val = t.val := by
      intro t
      match t with
      | 0 => exact gSet 0 _
      | 1 => exact gSet 1 _
      | 2 => exact gSet 2 _
    refine Finset.eq_univ_iff_forall.mpr fun (x : S3x128x128.Idx) => Finset.mem_biUnion.mpr ⟨⟨(x 0).val, (x 0).isLt⟩, Finset.mem_univ _, ?_⟩
    exact (e ⟨(x 0).val, (x 0).isLt⟩) ▸ Finset.mem_filter.mpr ⟨Finset.mem_univ _, rfl⟩)

omit [FloatOps F] in
theorem pts_s :
    (∀ f : Buf (Elt F) ((sV).view.loc (VT d L)), ((sV).view.loc (VT d L) ↦{fullShare} f : sProp 𝕄)
        = iprop(((s0).view.loc (VT d L) ↦[(s0).view.set]{fullShare} f) ∗ ((s1).view.loc (VT d L) ↦[(s1).view.set]{fullShare} f) ∗ ((s2).view.loc (VT d L) ↦[(s2).view.set]{fullShare} f)))
    ∧ (∀ f₀ f₁ f₂ : Buf (Elt F) ((sV).view.loc (VT d L)),
        (iprop(((s0).view.loc (VT d L) ↦[(s0).view.set]{fullShare} f₀) ∗ ((s1).view.loc (VT d L) ↦[(s1).view.set]{fullShare} f₁) ∗ ((s2).view.loc (VT d L) ↦[(s2).view.set]{fullShare} f₂)) : sProp 𝕄)
          ⊢ iprop(∃ f, (sV).view.loc (VT d L) ↦{fullShare} f)) :=
  pts_three (F := F) (ℓ := (sV).view.loc (VT d L)) ![(s0).view.set, (s1).view.set, (s2).view.set]
  (by
    intro t _ t' _ h
    have e : ∀ t : Fin 3, (![(s0).view.set, (s1).view.set, (s2).view.set] : Fin 3 → Finset S3x128x64.Idx) t = Finset.univ.filter fun x : S3x128x64.Idx => (x 0).val = t.val := by
      intro t
      match t with
      | 0 => exact sSet 0 _
      | 1 => exact sSet 1 _
      | 2 => exact sSet 2 _
    refine Finset.disjoint_left.mpr fun x hx hx' => h ?_
    have h1 := (Finset.mem_filter.mp ((e t) ▸ hx)).2
    have h2 := (Finset.mem_filter.mp ((e t') ▸ hx')).2
    exact Fin.ext (h1.symm.trans h2))
  (by
    have e : ∀ t : Fin 3, (![(s0).view.set, (s1).view.set, (s2).view.set] : Fin 3 → Finset S3x128x64.Idx) t = Finset.univ.filter fun x : S3x128x64.Idx => (x 0).val = t.val := by
      intro t
      match t with
      | 0 => exact sSet 0 _
      | 1 => exact sSet 1 _
      | 2 => exact sSet 2 _
    refine Finset.eq_univ_iff_forall.mpr fun (x : S3x128x64.Idx) => Finset.mem_biUnion.mpr ⟨⟨(x 0).val, (x 0).isLt⟩, Finset.mem_univ _, ?_⟩
    exact (e ⟨(x 0).val, (x 0).isLt⟩) ▸ Finset.mem_filter.mpr ⟨Finset.mem_univ _, rfl⟩)

/-! ## A tile's own semaphores and buffers -/

/-- The fourteen semaphores of the tile's own that the body uses. -/
def tCell : Fin 14 ↪ GSem nD τ sig :=
  ⟨fun k => (VT d L, .dma ⟨11 + k.val, by have := k.isLt; show 11 + k.val < 25; omega⟩), fun a b h => by
    have h2 := (Prod.mk.inj h).2
    injection h2 with h3
    exact Fin.ext (by have := congrArg Fin.val h3; simpa using this)⟩

omit [FloatOps F] in
theorem ownSems0_V :
    (ownSems0 (VT d L) : sProp 𝕄)
      = iprop((semVal (VT d L, .dma ⟨11, by decide⟩) 0 ∗ semVal (VT d L, .dma ⟨12, by decide⟩) 0 ∗ semVal (VT d L, .dma ⟨13, by decide⟩) 0
         ∗ semVal (VT d L, .dma ⟨14, by decide⟩) 0 ∗ semVal (VT d L, .dma ⟨15, by decide⟩) 0 ∗ semVal (VT d L, .dma ⟨16, by decide⟩) 0
         ∗ semVal (VT d L, .dma ⟨17, by decide⟩) 0 ∗ semVal (VT d L, .dma ⟨18, by decide⟩) 0 ∗ semVal (VT d L, .dma ⟨19, by decide⟩) 0
         ∗ semVal (VT d L, .dma ⟨20, by decide⟩) 0 ∗ semVal (VT d L, .dma ⟨21, by decide⟩) 0 ∗ semVal (VT d L, .dma ⟨22, by decide⟩) 0
         ∗ semVal (VT d L, .dma ⟨23, by decide⟩) 0 ∗ semVal (VT d L, .dma ⟨24, by decide⟩) 0)
        ∗ bigSep (ownCells (VT d L) \ Finset.univ.map (tCell d L)) fun g => semVal g 0) := by
  unfold SparseCore.Cfg.ownSems0
  have hs : Finset.univ.map (tCell d L) ⊆ ownCells (VT d L) := by
    intro g hg
    obtain ⟨k, -, rfl⟩ := Finset.mem_map.mp hg
    refine mem_ownCells.mpr ⟨rfl, ?_⟩
    have h : ∀ k : Fin 14, (SemLoc.dma ⟨11 + k.val, by have := k.isLt; show 11 + k.val < 25; omega⟩ : SemLoc sig).isScoped .scVector = true := by decide
    exact h k
  have e : (bigSep (Finset.univ.map (tCell d L)) fun g => (semVal g 0 : sProp 𝕄)) = _ :=
    (BI.bigSep_map (tCell d L)).trans
      (bigSep_univ_eq_bigSepL [(0 : Fin 14), 1, 2, 3, 4, 5, 6, 7, 8, 9, 10, 11, 12, 13] (by decide) (by decide) _)
  conv_lhs => rw [← Finset.union_sdiff_of_subset hs]
  rw [BI.bigSep_union Finset.disjoint_sdiff, e]
  rfl

/-- A buffer of the tile's own. -/
abbrev bRef (b : Ref sig .scVector) : DevRef τ sig := (Proc.scVector (cV L) (jV L)).devRef b

omit [FloatOps F] in
theorem ownBufs_V :
    (ownBufs (VT d L) : sProp 𝕄)
      = iprop((∃ f, (nV).view.loc (VT d L) ↦{fullShare} f) ∗ (∃ f, (gV).view.loc (VT d L) ↦{fullShare} f) ∗ (∃ f, (sV).view.loc (VT d L) ↦{fullShare} f)
          ∗ bigSep ((((ownRefs (τ := τ) (.scVector (cV L) (jV L))).erase (bRef L cc1_scratch0)).erase (bRef L cc1_scratch1)).erase (bRef L cc1_scratch2))
              fun b => iprop(∃ f, ((d, b) : Loc nD τ sig) ↦{fullShare} f)) := by
  unfold SparseCore.Cfg.ownBufs
  have m0 : bRef L cc1_scratch0 ∈ ownRefs (τ := τ) (.scVector (cV L) (jV L)) := SparseCore.Cfg.mem_ownRefs_of_owner rfl
  have m1 : bRef L cc1_scratch1 ∈ ownRefs (τ := τ) (.scVector (cV L) (jV L)) := SparseCore.Cfg.mem_ownRefs_of_owner rfl
  have m2 : bRef L cc1_scratch2 ∈ ownRefs (τ := τ) (.scVector (cV L) (jV L)) := SparseCore.Cfg.mem_ownRefs_of_owner rfl
  have n10 : bRef L cc1_scratch1 ≠ bRef L cc1_scratch0 := fun e => absurd (Proc.devRef_injective _ e) (show (cc1_scratch1 : Ref sig .scVector) ≠ cc1_scratch0 by decide)
  have n20 : bRef L cc1_scratch2 ≠ bRef L cc1_scratch0 := fun e => absurd (Proc.devRef_injective _ e) (show (cc1_scratch2 : Ref sig .scVector) ≠ cc1_scratch0 by decide)
  have n21 : bRef L cc1_scratch2 ≠ bRef L cc1_scratch1 := fun e => absurd (Proc.devRef_injective _ e) (show (cc1_scratch2 : Ref sig .scVector) ≠ cc1_scratch1 by decide)
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩)]

/-! ## Tile 0's copy of the table, and the barrier's payloads -/

section Head
variable (pl : ∀ d : Dev nD, Buf (Elt F) (pLoc d))

/-- Once its copy has landed, the SparseCore's shared buffer holds the table. -/
theorem pts_h (f : Buf (Elt F) ((hV).view.loc (VT d L))) (pay : S16x128.Idx → Elt F .f32) (hpay : pay = (pV).view.read (Elt F) (pl d)) :
    (((hV).view.loc (VT d L) ↦{fullShare} View.write (Elt F) (hV).view f pay Finset.univ) : sProp 𝕄)
      ⊢ shLoc d (cV L) ↦{fullShare} (pl d : Buf (Elt F) (shLoc d (cV L))) := by
  subst hpay
  rw [View.write_whole_univ]
  refine Entails.of_eq (congrArg _ ?_)
  funext y
  exact (View.read_apply _ _).trans (cast_eq _ _)

omit [FloatOps F] in
theorem v5_iff : ∀ n : Fin 16, (Scalar.cmpi .ne (Scalar.extui (Scalar.cmpi .eq (BitVec.ofNat 32 n.val) 0#32) : BitVec 32) 0#32 = 1#1) ↔ n.val = 0 := by decide

def shF : sProp 𝕄 := if (L 1).val = 0 then iprop(shLoc d (cV L) ↦{fullShare} (pl d : Buf (Elt F) (shLoc d (cV L)))) else iprop(emp)

omit [FloatOps F] in
/-- Before the barrier: tile 0 deals the filled buffer to the sixteen rounds; the others put nothing in. -/
theorem pays_intro : shF d L pl
    ⊢ (bigSep Finset.univ fun j : Fin (grid1.bound 1) => (bRd pl).payload (bcell d (cV L) (j.castLE hsub1)) 0 (jV L).val : sProp 𝕄) := by
  unfold shF
  by_cases h : (L 1).val = 0
  · rw [if_pos h, show (shLoc d (cV L) ↦{fullShare} (pl d : Buf (Elt F) (shLoc d (cV L))) : sProp 𝕄) = _ from pointsTo_leaves _ _ 4 fullShare]
    refine Entails.of_eq (bigSep_congr fun j _ => ?_)
    exact (if_pos (show (jV L).val = 0 from h)).symm
  · rw [if_neg h]
    refine (Entails.of_eq (bigSep_emp' (F := F) Finset.univ).symm).trans (Entails.of_eq (bigSep_congr fun j _ => ?_))
    exact (if_neg (show ¬ (jV L).val = 0 from h)).symm

omit [FloatOps F] in
/-- After it, what its own round collected holds its share of the table. -/
theorem pays_elim : (bigSep ((bRd pl).duties (bcell d (cV L) (jV L)) 0 \ ∅) fun n => (bRd pl).payload (bcell d (cV L) (jV L)) 0 n)
    ⊢ (shPts pl d (cV L) (jV L) : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay pl (bcell d (cV L) (jV L)) 0 ⊢ _
  unfold bPay; dsimp only
  rw [if_pos rfl]

end Head

end Cert.Proof.Sc

end
-- ==== Proof.Head.lean ====
module

public import proofs.«01_k».proof.Proof.Pieces

/-! One tile of the SparseCore call, run: the part before the barrier. -/

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type}
local notation "𝕄" => MT nD τ sig (HIx 1) (Elt F) ℕ UU ℕ

variable [FloatOps F] (d : Dev nD) (L : grid1.Coords)
variable (pl : ∀ d : Dev nD, Buf (Elt F) (pLoc d)) (ix : ∀ d : Dev nD, Buf (Elt F) (iLoc d)) (xs : ∀ d : Dev nD, Buf (Elt F) (xLoc d))
  (o0 : ∀ d : Dev nD, Buf (Elt F) (oLoc d))

set_option maxHeartbeats 1000000 in
/-- Tile 0 fills its SparseCore's shared buffer with the table; the other tiles pass by. -/
theorem head_if (O : CellTallies nD τ sig (HIx 1)) (W : Waits sig (HIx 1)) (q : PosShare TreeShare) {α : Type}
    (P : Prog (TpuEff nD τ sig (Elt F) Λ₀ (.scVector (cV L) (jV L))) α) (Q : α → sProp 𝕄) (h1 h2 h3 h4 h5) :
    iprop(Transfers.MayWaits (VT d L) (default : HIx 1) O
        ∗ ((pV).view.loc (VT d L) ↦{q} pl d) ∗ sh0 d L ∗ semVal (VT d L, .dma ⟨23, by decide⟩) 0 ∗ owes (VT d L) O W
        ∗ (∀ W', ⌜∀ p ∈ W', p ∈ W ∨ p.2 = none ∨ p.2 = some (0 : Fin 1)⌝ -∗ ((pV).view.loc (VT d L) ↦{q} pl d) -∗ shF d L pl -∗ semVal (VT d L, .dma ⟨23, by decide⟩) 0 -∗ owes (VT d L) O W'
            -∗ wp frame (wpE (defs₀ (F := F)) 𝒱₀ (VT d L) none) Set.univ P Q))
      ⊢ wp frame (wpE (defs₀ (F := F)) 𝒱₀ (VT d L) none) Set.univ
          (if _h : Scalar.cmpi .ne (Scalar.extui (Scalar.cmpi .eq (BitVec.ofNat 32 (L 1).val) 0#32) : BitVec 32) 0#32 = 1#1 then (do
              Prog.lift (.enqueueDma pV (.here hV) (.dma cc1_scoped0.sem) h1 h2 h3)
              Prog.lift (.waitDma2 cc1_scoped0.sem pV hV h4 h5)
              P)
            else P) Q := by
  by_cases h : (L 1).val = 0
  · rw [dif_pos ((v5_iff (L 1)).mpr h)]
    unfold sh0 shF
    rw [if_pos h, if_pos h]
    iintro ⟨#Hmw, Hp, ⟨%f, Hsh⟩, Hc, HO, Hk⟩
    ihave Hsh' := (show (shLoc d (cV L) ↦{fullShare} f : sProp 𝕄) ⊢ (hV).view.loc (VT d L) ↦{fullShare} f from Entails.of_eq rfl) $$ Hsh
    delta pV hV VT
    sl_exec
    ihave Hsh2 := (pts_h d L pl f (head_if.sl.dma0 d pl) rfl) $$ Hsh'
    iapply Hk $$ %(insert (SemLoc.dma cc1_scoped0.sem, (default : HIx 1)) W) [] [Hp] [Hsh2] [Hc] [HO]
    · ipureintro; intro p hp
      rcases Finset.mem_insert.mp hp with hp | hp; · exact .inr (.inl (hp ▸ rfl))
      exact .inl hp
    · iexact Hp
    · iexact Hsh2
    · iexact Hc
    · iexact HO
  · rw [dif_neg (fun hh => h ((v5_iff (L 1)).mp hh))]
    unfold sh0 shF
    rw [if_neg h, if_neg h]
    iintro ⟨#Hmw, Hp, Hsh, Hc, HO, Hk⟩
    iapply Hk $$ %W [] [Hp] [Hsh] [Hc] [HO]
    · ipureintro; intro p hp
      exact .inl hp
    · iexact Hp
    · iexact Hsh
    · iexact Hc
    · iexact HO

end Cert.Proof.Sc

end
-- ==== Proof.Tile.lean ====
module

public import proofs.«01_k».proof.Proof.Head

/-! One tile of the SparseCore call, run: its sixteen chunks of the output at the values the call leaves there. -/

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type}
local notation "𝕄" => MT nD τ sig (HIx 1) (Elt F) ℕ UU ℕ

variable [FloatOps F] (d : Dev nD) (L : grid1.Coords)
variable (pl : ∀ d : Dev nD, Buf (Elt F) (pLoc d)) (ix : ∀ d : Dev nD, Buf (Elt F) (iLoc d)) (xs : ∀ d : Dev nD, Buf (Elt F) (xLoc d))
  (o0 : ∀ d : Dev nD, Buf (Elt F) (oLoc d))

set_option maxHeartbeats 8000000 in
/-- The task on tile `(L 0, L 1)` of device `d`. -/
theorem tile_body (hix : ∀ d y, (ix d y : BitVec 32).toNat < 16) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit pl d (cV L) (jV L) ∗ goP pl ix xs o0 d L
        ∗ scopedBufs (VT d L) ∗ scopedSems0 (VT d L) ∗ owes (VT d L) (O + oxV d (cV L)) W)
      ⊢ wp frame (wpE (defs₀ (F := F)) 𝒱₀ (VT d L) none) Set.univ
          (cc1_k L pV (Memref.isWhole_whole _) iV (Memref.isWhole_whole _) xV (Memref.isWhole_whole _) oV (Memref.isWhole_whole _)
            nV (Memref.isWhole_whole _) gV (Memref.isWhole_whole _) sV (Memref.isWhole_whole _) hV (Memref.isWhole_whole _)
            cc1_scratch4 cc1_scratch5 cc1_scratch6 cc1_scratch7 cc1_scoped0 cc1_scoped1)
          fun _ => iprop(tdP pl ix xs d L ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold bkit goP rds
  iintro ⟨#Hlv, ⟨⟨%κ, #Hinv⟩, Htoks, #Hrch, Hat, Hcred⟩, ⟨⟨Hp, Hi, Hx⟩, Ho, Hsh0⟩, ⟨⟨%fn, Hn⟩, ⟨%fg, Hg⟩, ⟨%fs, Hs⟩, Hbufs⟩,
    ⟨⟨Hc0, Hc1, Hc2, Hc3, Hc4, Hc5, Hc6, Hc7, Hc8, Hc9, Hc10, Hc11, Hch, Hc12⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  sl_unfold [cc1_k, k1_part38]
  rw [wp_bind, wp_bind, k1_part1_eq_skeleton]
  unfold k1_part1_skel
  extract_lets arg0 arg1 v0 v1 v2 v3 v4 v5 v1049 v8 v9 v10 v11 v12 v13 v14 jp
  subst v5 v4 v3 v2 v1 v0 arg1 arg0
  iapply (head_if d L pl (O + oxV d (cV L)) W (rq L) (jp ⟨⟩))
  isplitl [Hmw1]; · iexact Hmw1
  isplitl [Hp]; · iexact Hp
  isplitl [Hsh0]; · iexact Hsh0
  isplitl [Hch]; · iexact Hch
  isplitl [HO]; · iexact HO
  iintro %W1 %hW1 Hp Hsh0 Hch HO
  unfold jp; subst v14 v13 v12 v11 v10 v9 v8 v1049
  -- the barrier: the table dealt, a share of it received
  ihave Hpays := (pays_intro (F := F) d L pl) $$ Hsh0
  rw [wp_bind]
  iapply (SparseCore.wp_subcoreBarrier 𝒱₀ none EB (bRd pl) d (sc := cV L) (i := jV L) sc_bar0 (grid1.bound 1) hsub1 (L 1) rfl κ (fun _ => 0) (jV L).val
      (fun j => bRd_mem₀ pl d _ _ _) (fun _ => rfl) (bRd_expect pl d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd pl) (g := bcell d (cV L) (jV L)) (Set.mem_univ (κ _)) (fun h => h) (bRd_duties_succ pl _)) $$ [Hat] with Hbar
  · isplitr
    · iapply (SparseCore.ent (bigSep_elim (Φ := fun j : Fin (grid1.bound 1) =>
        (cellInv EB (bRd pl) (κ (bcell d (cV L) (j.castLE hsub1))) (bcell d (cV L) (j.castLE hsub1)) : sProp 𝕄)) (Finset.mem_univ (L 1)))); iexact Hinv
    · iexact Hat
  ihave Hh := (pays_elim (F := F) d L pl) $$ Hgot
  ihave Hmw := (show levAts (K (F := F)).L (K (F := F)).lev ⊢ Transfers.MayWaits (V d (cV L) (jV L)) (default : HIx 1) O from
    (K (F := F)).mayWaits_none (thr := V d (cV L) (jV L)) hO) $$ Hlv
  -- what the copies and the gathers hold, in the body's spelling
  ihave Hxs := (toks3 (F := F) (ℓ := (xV).view.loc (VT d L)) (xs d) (rq L) 14).1 $$ Hx
  icases Hxs with ⟨⟨Hx0, Hx1, Hx2⟩, Hxr⟩
  ihave Hh' := (show (shPts pl d (cV L) (jV L) : sProp 𝕄) ⊢ ((hV).view.loc (VT d L) ↦{hq (jV L)} (pl d : Buf (Elt F) ((hV).view.loc (VT d L)))) from Entails.of_eq rfl) $$ Hh
  ihave Hhs := (toks3 (F := F) (ℓ := (hV).view.loc (VT d L)) (pl d) (hq (jV L)) 11).1 $$ Hh'
  icases Hhs with ⟨⟨Hh0, Hh1, Hh2⟩, Hhr⟩
  ihave Hgs := (Entails.of_eq ((pts_g d L).1 fg)) $$ Hg
  icases Hgs with ⟨Hg0, Hg1, Hg2⟩
  ihave Hss := (Entails.of_eq ((pts_s d L).1 fs)) $$ Hs
  icases Hss with ⟨Hs0, Hs1, Hs2⟩
  unfold oPcs
  ihave Hos := (Entails.of_eq (oPieces d L (o0 d))) $$ Ho
  icases Hos with ⟨⟨Ha0, Hb0⟩, ⟨Ha1, Hb1⟩, ⟨Ha2, Hb2⟩, ⟨Ha3, Hb3⟩, ⟨Ha4, Hb4⟩, ⟨Ha5, Hb5⟩, ⟨Ha6, Hb6⟩, ⟨Ha7, Hb7⟩, ⟨Ha8, Hb8⟩, ⟨Ha9, Hb9⟩, ⟨Ha10, Hb10⟩, ⟨Ha11, Hb11⟩, ⟨Ha12, Hb12⟩, ⟨Ha13, Hb13⟩, ⟨Ha14, Hb14⟩, ⟨Ha15, Hb15⟩⟩
  ihave Hi' := (show (iLoc d ↦{rq L} ix d : sProp 𝕄) ⊢ ((iV).view.loc (VT d L) ↦{rq L} ix d) from Entails.of_eq rfl) $$ Hi
  delta oGw oXw g0 g1 g2 s0 s1 s2 gSl pV iV xV oV nV gV sV hV VT
  sl_exec
  ihave Hn' := (pts_NB d L (ix d) fn (tile_body.sl.dma0 d L ix) rfl) $$ Hn
  have hin := hin_NB d L (ix d) (hix d)
  sl_exec
  -- each window at what the call leaves there
  ihave A0 := (Entails.of_eq (oG_fin d L (pl d) (ix d) (xs d) (o0 d) (hix d) 0 _ _ _ _ _ _ _ (tile_body.sl.dma0_3 d L pl ix fg hin) (read_cons _ _ _ _))) $$ Ha0
  ihave B0 := (Entails.of_eq (oX_fin d L (pl d) (ix d) (xs d) (o0 d) 0 (tile_body.sl.dma0_4 d L xs fs) (read_cons _ _ _ _))) $$ Hb0
  ihave A1 := (Entails.of_eq (oG_fin d L (pl d) (ix d) (xs d) (o0 d) (hix d) 1 _ _ _ _ _ _ _ (tile_body.sl.dma0_6 d L pl ix fg hin) (read_cons _ _ _ _))) $$ Ha1
  ihave B1 := (Entails.of_eq (oX_fin d L (pl d) (ix d) (xs d) (o0 d) 1 (tile_body.sl.dma0_7 d L xs fs) (read_cons _ _ _ _))) $$ Hb1
  ihave A2 := (Entails.of_eq (oG_fin d L (pl d) (ix d) (xs d) (o0 d) (hix d) 2 _ _ _ _ _ _ _ (tile_body.sl.dma0_9 d L pl ix fg hin) (read_cons _ _ _ _))) $$ Ha2
  ihave B2 := (Entails.of_eq (oX_fin d L (pl d) (ix d) (xs d) (o0 d) 2 (tile_body.sl.dma0_10 d L xs fs) (read_cons _ _ _ _))) $$ Hb2
  ihave A3 := (Entails.of_eq (oG_fin d L (pl d) (ix d) (xs d) (o0 d) (hix d) 3 _ _ _ _ _ _ _ (tile_body.sl.dma0_12 d L pl ix fg hin) (read_cons _ _ _ _))) $$ Ha3
  ihave B3 := (Entails.of_eq (oX_fin d L (pl d) (ix d) (xs d) (o0 d) 3 (tile_body.sl.dma0_13 d L xs fs) (read_cons _ _ _ _))) $$ Hb3
  ihave A4 := (Entails.of_eq (oG_fin d L (pl d) (ix d) (xs d) (o0 d) (hix d) 4 _ _ _ _ _ _ _ (tile_body.sl.dma0_15 d L pl ix fg hin) (read_cons _ _ _ _))) $$ Ha4
  ihave B4 := (Entails.of_eq (oX_fin d L (pl d) (ix d) (xs d) (o0 d) 4 (tile_body.sl.dma0_16 d L xs fs) (read_cons _ _ _ _))) $$ Hb4
  ihave A5 := (Entails.of_eq (oG_fin d L (pl d) (ix d) (xs d) (o0 d) (hix d) 5 _ _ _ _ _ _ _ (tile_body.sl.dma0_18 d L pl ix fg hin) (read_cons _ _ _ _))) $$ Ha5
  ihave B5 := (Entails.of_eq (oX_fin d L (pl d) (ix d) (xs d) (o0 d) 5 (tile_body.sl.dma0_19 d L xs fs) (read_cons _ _ _ _))) $$ Hb5
  ihave A6 := (Entails.of_eq (oG_fin d L (pl d) (ix d) (xs d) (o0 d) (hix d) 6 _ _ _ _ _ _ _ (tile_body.sl.dma0_21 d L pl ix fg hin) (read_cons _ _ _ _))) $$ Ha6
  ihave B6 := (Entails.of_eq (oX_fin d L (pl d) (ix d) (xs d) (o0 d) 6 (tile_body.sl.dma0_22 d L xs fs) (read_cons _ _ _ _))) $$ Hb6
  ihave A7 := (Entails.of_eq (oG_fin d L (pl d) (ix d) (xs d) (o0 d) (hix d) 7 _ _ _ _ _ _ _ (tile_body.sl.dma0_24 d L pl ix fg hin) (read_cons _ _ _ _))) $$ Ha7
  ihave B7 := (Entails.of_eq (oX_fin d L (pl d) (ix d) (xs d) (o0 d) 7 (tile_body.sl.dma0_25 d L xs fs) (read_cons _ _ _ _))) $$ Hb7
  ihave A8 := (Entails.of_eq (oG_fin d L (pl d) (ix d) (xs d) (o0 d) (hix d) 8 _ _ _ _ _ _ _ (tile_body.sl.dma0_27 d L pl ix fg hin) (read_cons _ _ _ _))) $$ Ha8
  ihave B8 := (Entails.of_eq (oX_fin d L (pl d) (ix d) (xs d) (o0 d) 8 (tile_body.sl.dma0_28 d L xs fs) (read_cons _ _ _ _))) $$ Hb8
  ihave A9 := (Entails.of_eq (oG_fin d L (pl d) (ix d) (xs d) (o0 d) (hix d) 9 _ _ _ _ _ _ _ (tile_body.sl.dma0_30 d L pl ix fg hin) (read_cons _ _ _ _))) $$ Ha9
  ihave B9 := (Entails.of_eq (oX_fin d L (pl d) (ix d) (xs d) (o0 d) 9 (tile_body.sl.dma0_31 d L xs fs) (read_cons _ _ _ _))) $$ Hb9
  ihave A10 := (Entails.of_eq (oG_fin d L (pl d) (ix d) (xs d) (o0 d) (hix d) 10 _ _ _ _ _ _ _ (tile_body.sl.dma0_33 d L pl ix fg hin) (read_cons _ _ _ _))) $$ Ha10
  ihave B10 := (Entails.of_eq (oX_fin d L (pl d) (ix d) (xs d) (o0 d) 10 (tile_body.sl.dma0_34 d L xs fs) (read_cons _ _ _ _))) $$ Hb10
  ihave A11 := (Entails.of_eq (oG_fin d L (pl d) (ix d) (xs d) (o0 d) (hix d) 11 _ _ _ _ _ _ _ (tile_body.sl.dma0_36 d L pl ix fg hin) (read_cons _ _ _ _))) $$ Ha11
  ihave B11 := (Entails.of_eq (oX_fin d L (pl d) (ix d) (xs d) (o0 d) 11 (tile_body.sl.dma0_37 d L xs fs) (read_cons _ _ _ _))) $$ Hb11
  ihave A12 := (Entails.of_eq (oG_fin d L (pl d) (ix d) (xs d) (o0 d) (hix d) 12 _ _ _ _ _ _ _ (tile_body.sl.dma0_39 d L pl ix fg hin) (read_cons _ _ _ _))) $$ Ha12
  ihave B12 := (Entails.of_eq (oX_fin d L (pl d) (ix d) (xs d) (o0 d) 12 (tile_body.sl.dma0_40 d L xs fs) (read_cons _ _ _ _))) $$ Hb12
  ihave A13 := (Entails.of_eq (oG_fin d L (pl d) (ix d) (xs d) (o0 d) (hix d) 13 _ _ _ _ _ _ _ (tile_body.sl.dma0_42 d L pl ix fg hin) (read_cons _ _ _ _))) $$ Ha13
  ihave B13 := (Entails.of_eq (oX_fin d L (pl d) (ix d) (xs d) (o0 d) 13 (tile_body.sl.dma0_43 d L xs fs) (read_cons _ _ _ _))) $$ Hb13
  ihave A14 := (Entails.of_eq (oG_fin d L (pl d) (ix d) (xs d) (o0 d) (hix d) 14 _ _ _ _ _ _ _ (tile_body.sl.dma0_45 d L pl ix fg hin) (read_cons _ _ _ _))) $$ Ha14
  ihave B14 := (Entails.of_eq (oX_fin d L (pl d) (ix d) (xs d) (o0 d) 14 (tile_body.sl.dma0_46 d L xs fs) (read_cons _ _ _ _))) $$ Hb14
  ihave A15 := (Entails.of_eq (oG_fin d L (pl d) (ix d) (xs d) (o0 d) (hix d) 15 _ _ _ _ _ _ _ (tile_body.sl.dma0_47 d L pl ix fg hin) (read_cons _ _ _ _))) $$ Ha15
  ihave B15 := (Entails.of_eq (oX_fin d L (pl d) (ix d) (xs d) (o0 d) 15 (tile_body.sl.dma0_48 d L xs fs) (read_cons _ _ _ _))) $$ Hb15
  ihave Ho := (Entails.of_eq (oPieces d L (OUT d (pl d) (ix d) (xs d))).symm) $$ [A0 B0 A1 B1 A2 B2 A3 B3 A4 B4 A5 B5 A6 B6 A7 B7 A8 B8 A9 B9 A10 B10 A11 B11 A12 B12 A13 B13 A14 B14 A15 B15]
  · delta oGw oXw oV VT
    iframe
  ihave Hx := (toks3 (F := F) (ℓ := (xV).view.loc (VT d L)) (xs d) (rq L) 14).2 $$ [Hx0 Hx1 Hx2 Hxr]
  · isplitr [Hxr]; swap; · iexact Hxr
    isplitl [Hx0]; · iexact Hx0
    isplitl [Hx1]; · iexact Hx1
    iexact Hx2
  ihave Hh := (toks3 (F := F) (ℓ := (hV).view.loc (VT d L)) (pl d) (hq (jV L)) 11).2 $$ [Hh0 Hh1 Hh2 Hhr]
  · isplitr [Hhr]; swap; · iexact Hhr
    isplitl [Hh0]; · iexact Hh0
    isplitl [Hh1]; · iexact Hh1
    iexact Hh2
  ihave Hg := ((pts_g d L).2 _ _ _) $$ [Hg0 Hg1 Hg2]
  · isplitl [Hg0]; · iexact Hg0
    isplitl [Hg1]; · iexact Hg1
    iexact Hg2
  ihave Hs := ((pts_s d L).2 _ _ _) $$ [Hs0 Hs1 Hs2]
  · isplitl [Hs0]; · iexact Hs0
    isplitl [Hs1]; · iexact Hs1
    iexact Hs2
  sl_step
  unfold tdP rds oPcs
  isplitl [Hp Hi' Hx Ho Hh Hbar]
  · isplitr [Hbar]; swap; · iexact Hbar
    isplitl [Hp Hi' Hx]
    · isplitl [Hp]; · iexact Hp
      isplitl [Hi']; · iexact Hi'
      iexact Hx
    isplitl [Ho]; · iexact Ho
    iexact Hh
  isplitl [Hn' Hg Hs Hbufs]
  · isplitl [Hn']; · iexists _; iexact Hn'
    isplitl [Hg]; · iexact Hg
    isplitl [Hs]; · iexact Hs
    iexact Hbufs
  isplitl [Hc0 Hc1 Hc2 Hc3 Hc4 Hc5 Hc6 Hc7 Hc8 Hc9 Hc10 Hc11 Hch Hc12 Hsems]
  · isplitr [Hsems]; swap; · iexact Hsems
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hch]; · iexact Hch
    iexact Hc12
  iexists _; isplitr
  swap; · iexact HO
  ipureintro; intro p hp
  have hW1' : ∀ p ∈ insert (SemLoc.reg sc_bar0, some (0 : Fin 1)) W1, p ∈ W ∨ p.2 = none ∨ p.2 = some (0 : Fin 1) := fun p hp => by
    rcases Finset.mem_insert.mp hp with hp | hp; · exact .inr (.inr (hp ▸ rfl))
    exact hW1 p hp
  repeat (rcases Finset.mem_insert.mp hp with hp | hp <;> [exact .inr (.inl (hp ▸ rfl)); skip])
  first
    | exact hW1' p hp
    | exact hW1 p hp

end Cert.Proof.Sc

end
-- ==== Proof.Deal.lean ====
module

public import proofs.«01_k».proof.Proof.Tile

/-! What the SparseCore call's handshakes carry: the tables read, dealt as shares, and each tile's windows of the output. -/

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type}
local notation "𝕄" => MT nD τ sig (HIx 1) (Elt F) ℕ UU ℕ

variable [FloatOps F]
variable (pl : ∀ d : Dev nD, Buf (Elt F) (pLoc d)) (ix : ∀ d : Dev nD, Buf (Elt F) (iLoc d)) (xs : ∀ d : Dev nD, Buf (Elt F) (xLoc d))
  (o0 : ∀ d : Dev nD, Buf (Elt F) (oLoc d))

/-- What a SparseCore is handed: its half share of what is read, and its tiles' windows of the output, at contents `f`. -/
def stP (d : Dev nD) (c : Fin 2) (f : Buf (Elt F) (oLoc d)) : sProp 𝕄 :=
  iprop(((pLoc d ↦{leaf 1 fullShare c} pl d) ∗ (iLoc d ↦{leaf 1 fullShare c} ix d) ∗ (xLoc d ↦{leaf 1 fullShare c} xs d))
    ∗ bigSep Finset.univ fun i : Fin 16 => oPcs d (coordsV c i) f)

/-- The barrier semaphores of SparseCore `c`'s tiles, at zero. -/
abbrev bars (d : Dev nD) (c : Fin 2) : sProp 𝕄 := bigSep Finset.univ fun i : Fin 16 => semVal (bcell d (cV (coordsV c i)) (jV (coordsV c i))) 0

instance rds_storable (d : Dev nD) (L) : BI.Storable (upEmb : UEmb _ 𝕄) (rds pl ix xs d L) := by unfold rds; infer_instance
instance oPcs_storable (d : Dev nD) (L) (f) : BI.Storable (upEmb : UEmb _ 𝕄) (oPcs (F := F) d L f) := by unfold oPcs; infer_instance
instance sh0_storable (d : Dev nD) (L) : BI.Storable (upEmb : UEmb _ 𝕄) (sh0 (F := F) d L) := by unfold sh0; split <;> infer_instance
instance stP_storable (d : Dev nD) (c f) : BI.Storable (upEmb : UEmb _ 𝕄) (stP pl ix xs d c f) := by
  unfold stP
  haveI : ∀ i : Fin 16, BI.Storable (upEmb : UEmb _ 𝕄) (oPcs (F := F) d (coordsV c i) f) := fun i => oPcs_storable d _ f
  infer_instance
instance goP_storable (d : Dev nD) (L) : BI.Storable (upEmb : UEmb _ 𝕄) (goP pl ix xs o0 d L) := by unfold goP; infer_instance
instance tdP_storable (d : Dev nD) (L) : BI.Storable (upEmb : UEmb _ 𝕄) (tdP pl ix xs d L) := by unfold tdP; infer_instance

set_option backward.proofsInPublic true in
/-- The one call: each SparseCore takes and brings back its part, the output then at the call's values and the barrier
    semaphores, closed, at zero; each tile likewise; each tile's proof consumes its barrier kit, and it owes its arrivals. -/
def P : (K (F := F)).Pay (nD := nD) (Val := Elt F) (Name := ℕ) (U := UU) where
  st := fun q d c => match q with | 0 => stP pl ix xs d c (o0 d)
  dn := fun q d c => match q with | 0 => iprop(stP pl ix xs d c (OUT d (pl d) (ix d) (xs d)) ∗ bars d c)
  go := fun q d c i => match q with | 0 => goP pl ix xs o0 d (coordsV c i)
  td := fun q d c i => match q with | 0 => tdP pl ix xs d (coordsV c i)
  x := fun _ thr => match thr with
    | (d, .scVector c i) => bkit pl d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P pl ix xs o0).IsStorable where
  st q d c := match q with | 0 => stP_storable pl ix xs d c (o0 d)
  dn q d c := match q with | 0 => (inferInstance : BI.Storable (upEmb : UEmb _ 𝕄) iprop(stP pl ix xs d c (OUT d (pl d) (ix d) (xs d)) ∗ bars d c))
  go q d c i := match q with | 0 => goP_storable pl ix xs o0 d (coordsV c i)
  td q d c i := match q with | 0 => tdP_storable pl ix xs d (coordsV c i)

/-! ## The tiles' obligation -/

abbrev 𝒱 : Variants := 𝒱₀.lift
abbrev v₀ : 𝒱.V := Sum.inl none

theorem defs₀_vector (c : Fin τ.nSC) (s : Fin τ.nSub) :
    defs₀ (F := F) (.scVector c s) 1 ()
      = SparseCore.onTile hcore1 hsub1 (fun c s => cc1_k (coordsV c s)
          pV (Memref.isWhole_whole _) iV (Memref.isWhole_whole _) xV (Memref.isWhole_whole _) oV (Memref.isWhole_whole _)
            nV (Memref.isWhole_whole _) gV (Memref.isWhole_whole _) sV (Memref.isWhole_whole _) hV (Memref.isWhole_whole _)
            cc1_scratch4 cc1_scratch5 cc1_scratch6 cc1_scratch7 cc1_scoped0 cc1_scoped1) ⟨⟩ c s := rfl

variable {pl ix xs o0} in
theorem tileObl (hix : ∀ d y, (ix d y : BitVec 32).toNat < 16) (hF : (K (F := F)).Facts) : (K (F := F)).TileObl (D (F := F)) 𝒱 (P pl ix xs o0) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) pl ix xs o0 hix hF O W hO hOlev

/-! ## A SparseCore's part, dealt to its tiles -/

omit [FloatOps F] in
/-- The SparseCore's shared buffer is among its sequencer's own. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem leaves16 {ℓ : Loc nD τ sig} (f : Buf (Elt F) ℓ) (q : PosShare TreeShare) :
    (ℓ ↦{q} f : sProp 𝕄) = bigSep Finset.univ fun i : Fin 16 => ℓ ↦{leaf 4 q i} f := pointsTo_leaves _ f 4 q

omit [FloatOps F] in
/-- The share of what is read, dealt to the sixteen tiles. -/
theorem rds_eq (d : Dev nD) (c : Fin 2) :
    (bigSep Finset.univ fun i : Fin 16 => rds pl ix xs d (coordsV c i))
      = (iprop((pLoc d ↦{leaf 1 fullShare c} pl d) ∗ (iLoc d ↦{leaf 1 fullShare c} ix d) ∗ (xLoc d ↦{leaf 1 fullShare c} xs d)) : sProp 𝕄) := by
  unfold rds
  rw [bigSep_sep', bigSep_sep', leaves16 (ℓ := pLoc d), leaves16 (ℓ := iLoc d), leaves16 (ℓ := xLoc d)]
  rfl

omit [FloatOps F] in
theorem sh0_zero (d : Dev nD) (c : Fin 2) :
    (sh0 (F := F) d (coordsV c (0 : Fin 16)) : sProp 𝕄) = iprop(∃ f, shLoc d (cV (coordsV c (0 : Fin 16))) ↦{fullShare} f) := by
  unfold sh0; exact if_pos rfl

omit [FloatOps F] in
theorem sh0_deal (d : Dev nD) (c : Fin 2) :
    iprop(∃ f, shLoc d (cV (coordsV c (0 : Fin 16))) ↦{fullShare} f) ⊢ (bigSep Finset.univ fun i : Fin 16 => sh0 (F := F) d (coordsV c i) : sProp 𝕄) := by
  rw [SparseCore.bigSep_erase' (Finset.mem_univ (0 : Fin 16)),
    show (bigSep (Finset.univ.erase (0 : Fin 16)) fun i : Fin 16 => sh0 (F := F) d (coordsV c i)) = bigSep (Finset.univ.erase (0 : Fin 16)) fun _ => (iprop(emp) : sProp 𝕄) from
      bigSep_congr fun j hj => if_neg fun h => (Finset.mem_erase.mp hj).1 (Fin.ext h), bigSep_emp']
  iintro H
  isplitl [H]
  · iapply (Entails.of_eq (sh0_zero (F := F) d c).symm)
    iexact H
  · iempintro

theorem vecSplit : (K (F := F)).VecSplit (P pl ix xs o0) 0 := by
  intro d c
  show iprop(stP pl ix xs d c (o0 d) ∗ ownBufs (S d (coreOf c))) ⊢ |={Set.univ}=> iprop(
      (bigSep Finset.univ fun i : Fin 16 => goP pl ix xs o0 d (coordsV c i))
      ∗ ((bigSep Finset.univ fun i : Fin 16 => tdP pl ix xs d (coordsV c i))
          -∗ iprop(iprop(stP pl ix xs d c (OUT d (pl d) (ix d) (xs d)) ∗ bars d c) ∗ ownBufs (S d (coreOf c)))))
  unfold goP tdP stP
  rw [bigSep_sep', bigSep_sep', bigSep_sep', bigSep_sep', bigSep_sep', ownBufs_S, rds_eq]
  iintro ⟨⟨Hr, Ho⟩, Hsh, Hrest⟩; imodintro
  isplitl [Hr Ho Hsh]
  · isplitl [Hr]; · iexact Hr
    isplitl [Ho]; · iexact Ho
    iapply (sh0_deal (F := F) d c); iexact Hsh
  iintro ⟨⟨Hr, Ho, Hsh⟩, Hbars⟩
  isplitl [Hr Ho Hbars]
  · isplitr [Hbars]; swap; · iexact Hbars
    isplitl [Hr]; · iexact Hr
    iexact Ho
  isplitl [Hsh]
  · iexists (pl d : Buf (Elt F) (shLoc d (coreOf c)))
    iapply (Entails.of_eq (leaves16 (F := F) (ℓ := shLoc d (coreOf c)) (pl d) fullShare).symm)
    iexact Hsh
  iexact Hrest

end Cert.Proof.Sc

end
-- ==== Proof.Kits.lean ====
module

public import proofs.«01_k».proof.Proof.Deal

/-! What the launch hands the tiles and the TensorCore's thread for the kernel's own protocols: every tile its
    barrier kit, and the TensorCore's thread the ghost state of its call's staging buffers. -/

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]
local notation "𝕄" => MT nD τ sig (HIx 1) (Elt F) ℕ UU ℕ

variable (pl : ∀ d : Dev nD, Buf (Elt F) (pLoc d)) (ix : ∀ d : Dev nD, Buf (Elt F) (iLoc d)) (xs : ∀ d : Dev nD, Buf (Elt F) (xLoc d))
  (o0 : ∀ d : Dev nD, Buf (Elt F) (oLoc d))

/-- A tile: its device, its SparseCore, its number. -/
abbrev DCI : Type := Dev nD × Fin τ.nSC × Fin τ.nSub
abbrev tcell (x : DCI) : GSem nD τ sig := bcell x.1 x.2.1 x.2.2
/-- The barrier cells, one a tile. -/
def bCells : Finset (GSem nD τ sig) := (Finset.univ : Finset DCI).image tcell
/-- A token in every tile's cell for every tile of its SparseCore. -/
def bToks : Finset (GSem nD τ sig × ℕ × ℕ) :=
  (Finset.univ : Finset (DCI × Fin (grid1.bound 1))).image fun x => (bcell x.1.1 x.1.2.1 (x.2.castLE hsub1), 0, x.1.2.2.val)
/-- The staging cells of the TensorCore's call, and the tokens of its transfers. -/
abbrev pCells : Finset (GSem nD τ sig) := Pipeline.cells (nD := nD) (τ := τ) cfgs cellOf_inj
abbrev pToks : Finset (GSem nD τ sig × ℕ × Unit) := Pipeline.launchToks (nD := nD) (τ := τ) cfgs cellOf_inj
def u₀ : UU := (initOf (K (F := F)).hsCells (K (F := F)).hsToks, (initOf bCells bToks, (initOf pCells pToks, 1)))

omit [FloatOps F] in
theorem tcell_injective : Function.Injective (tcell : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU ((1, (b, (p, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU ((1, (b, (p, 1))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  exact h1.trans (sep_mono_right h2)

/-- Every barrier semaphore at zero, out of the free semaphores the launch hands over. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => tcell_injective e)]
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem tcell (Finset.mem_univ x)⟩)

/-- The barrier cells' invariants, allocated at once. -/
theorem invs_b : iprop((bigSep bCells fun g => (semVal g 0 : sProp 𝕄)) ∗ bigSep bCells fun g => roundState EB (bRd pl) g 0)
    ⊢ |={Set.univ}=> iprop(∃ κ : GSem nD τ sig → ℕ, bigSep bCells fun g => cellInv EB (bRd pl) (κ g) g) := by
  refine (Rounds.bodies_intro EB (bRd pl) bCells).trans ((inv_alloc_family bCells (Rounds.body EB (bRd pl)) ∅ (E := Set.univ)).trans ?_)
  iintro H
  imod H with ⟨%κ, -, Hinv⟩
  imodintro; iexists κ; iexact Hinv

omit [FloatOps F] in
/-- A unit from each of sixteen tiles is the sixteen units of the round. -/
theorem sum_tallyAt (g : GSem nD τ sig) (n : ℕ) : ∑ _ : Fin n, tallyAt g (some 0) 1 = (tallyAt g (some 0) n : CellTallies nD τ sig (HIx 1)) := by
  induction n with
  | zero => rw [Finset.univ_eq_empty, Finset.sum_empty, tallyAt_zero]
  | succ n ih => rw [Fin.sum_univ_castSucc, ih, tallyAt_add]

/-- The credit for the tiles' debts, regrouped: each tile the sixteen units of its own cell. -/
theorem creds_b : ((P pl ix xs o0).oxCred : sProp 𝕄) ⊢ bigSep Finset.univ fun x : DCI => cred (tallyAt (tcell x) (some 0) (grid1.bound 1)) := by
  unfold SparseCore.Cfg.Pay.oxCred
  rw [SparseCore.Cfg.bigSep_threads (fun thr : Thread nD τ => (cred ((P pl ix xs o0).oxFrom 0 thr) : sProp 𝕄))]
  refine sep_elim_right.trans (sep_elim_right.trans ?_)
  rw [bigSep_univ_prod, bigSep_univ_prod (fun x : DCI => (cred (tallyAt (tcell x) (some 0) (grid1.bound 1)) : sProp 𝕄))]
  refine bigSep_mono fun d _ => ?_
  rw [bigSep_univ_prod, bigSep_univ_prod (fun ci : Fin τ.nSC × Fin τ.nSub => (cred (tallyAt (tcell (d, ci)) (some 0) (grid1.bound 1)) : sProp 𝕄))]
  refine bigSep_mono fun c _ => ?_
  have hox : ∀ i, (P pl ix xs o0).oxFrom 0 (V d c i) = oxV d c := fun i => by
    rw [show (0 : ℕ) = (0 : Fin 1).val from rfl, (P pl ix xs o0).oxFrom_step, (P pl ix xs o0).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt]; rfl

omit [FloatOps F] in
/-- What every index needs alike and keeps, beside what each needs of its own. -/
theorem bigSep_share {I : Type} [DecidableEq I] {R : sProp 𝕄} [BI.Persistent R] {s : Finset I} {Φ Ψ : I → sProp 𝕄}
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a); isplitr; · iexact HR
      iexact H1
    · iapply ih; isplitr; · iexact HR
      iexact H2

omit [FloatOps F] in
/-- A persistent fact that gives each of a family gives the family. -/
theorem bigSep_of_all {I : Type} [DecidableEq I] {R : sProp 𝕄} [BI.Persistent R] {s : Finset I} {Ψ : I → sProp 𝕄}
    (h : ∀ i, R ⊢ Ψ i) : R ⊢ bigSep s Ψ := by
  have h' := bigSep_share (R := R) (s := s) (Φ := fun _ => iprop(emp)) (Ψ := Ψ) fun i => sep_elim_left.trans (h i)
  rw [bigSep_emp'] at h'
  iintro #H
  iapply h'
  isplitl; · iexact H
  iempintro

omit [FloatOps F] in
theorem toks_eq : (bigSep bToks fun x => (dutyTok EB x.1 x.2.1 x.2.2 : sProp 𝕄))
    = bigSep Finset.univ fun x : DCI => bigSep Finset.univ fun j : Fin (grid1.bound 1) => dutyTok EB (bcell x.1 x.2.1 (j.castLE hsub1)) 0 x.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  obtain rfl : j = j' := Fin.ext (congrArg Fin.val hj)
  obtain rfl : i = i' := Fin.ext e2
  rfl

omit [FloatOps F] in
theorem bCells_eq (Φ : GSem nD τ sig → sProp 𝕄) : bigSep bCells Φ = bigSep Finset.univ fun x : DCI => Φ (tcell x) := by
  unfold bCells; exact SparseCore.bigSep_image_of_injOn (fun a _ b _ e => tcell_injective e) Φ

/-- What every tile is handed alike: the barrier cells' invariants, and that each has reached round 0. -/
abbrev shared : sProp 𝕄 :=
  iprop((∃ κ : GSem nD τ sig → ℕ, bigSep Finset.univ fun x : DCI => cellInv EB (bRd pl) (κ (tcell x)) (tcell x))
    ∗ bigSep Finset.univ fun x : DCI => reached EB (tcell x) 0)
/-- What each tile is handed of its own: its position, its tokens, its credit. -/
abbrev mine (x : DCI) : sProp 𝕄 :=
  iprop(atPos EB (tcell x) 0 ∅ 0
    ∗ (bigSep Finset.univ fun j : Fin (grid1.bound 1) => dutyTok EB (bcell x.1 x.2.1 (j.castLE hsub1)) 0 x.2.2.val)
    ∗ cred (tallyAt (tcell x) (some 0) (grid1.bound 1)))

theorem kit_intro (x : DCI) : iprop(shared pl ∗ mine x) ⊢ (bkit pl x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (SparseCore.ent (bigSep_of_all (R := bigSep Finset.univ fun x : DCI => cellInv EB (bRd pl) (κ (tcell x)) (tcell x)) fun j =>
      bigSep_elim (Φ := fun x : DCI => (cellInv EB (bRd pl) (κ (tcell x)) (tcell x) : sProp 𝕄)) (Finset.mem_univ (d, c, Fin.castLE hsub1 j))))
    iexact Hinv
  isplitl [Htok]; · iexact Htok
  isplitr
  · iapply (SparseCore.ent (bigSep_of_all (R := bigSep Finset.univ fun x : DCI => reached EB (tcell x) 0) fun j =>
      bigSep_elim (Φ := fun x : DCI => (reached EB (tcell x) 0 : sProp 𝕄)) (Finset.mem_univ (d, c, Fin.castLE hsub1 j))))
    iexact Hr
  isplitl [Hat]; · iexact Hat
  iexact Hcred

theorem Px_T (d : Dev nD) : (bigSep Finset.univ fun q : Fin 1 => (P pl ix xs o0).x q (SparseCore.T d)) = iprop(emp) :=
  bigSep_univ_of_subsingleton (0 : Fin 1)
theorem Px_S (d : Dev nD) (c : Fin τ.nSC) : (bigSep Finset.univ fun q : Fin 1 => (P pl ix xs o0).x q (S d c)) = iprop(emp) :=
  bigSep_univ_of_subsingleton (0 : Fin 1)
theorem Px_V (d : Dev nD) (c : Fin τ.nSC) (i : Fin τ.nSub) :
    (bigSep Finset.univ fun q : Fin 1 => (P pl ix xs o0).x q (V d c i)) = bkit pl d c i :=
  bigSep_univ_of_subsingleton (0 : Fin 1)

/-- Each tile its kit. -/
theorem kits_deal :
    iprop(shared pl ∗ (bigSep Finset.univ fun x : DCI => atPos EB (tcell x) 0 ∅ 0)
        ∗ (bigSep Finset.univ fun x : DCI => bigSep Finset.univ fun j : Fin (grid1.bound 1) => dutyTok EB (bcell x.1 x.2.1 (j.castLE hsub1)) 0 x.2.2.val)
        ∗ (bigSep Finset.univ fun x : DCI => cred (tallyAt (tcell x) (some 0) (grid1.bound 1))))
      ⊢ (bigSep Finset.univ fun thr : Thread nD τ => bigSep Finset.univ fun q : Fin 1 => (P pl ix xs o0).x q thr : sProp 𝕄) := by
  rw [SparseCore.Cfg.bigSep_threads (fun thr : Thread nD τ => bigSep Finset.univ fun q : Fin 1 => (P pl ix xs o0).x q thr)]
  simp only [Px_T, Px_S, Px_V, bigSep_emp']
  iintro ⟨#Hsh, Hat, Htok, Hcred⟩
  isplitr; · iempintro
  isplitr; · iempintro
  iapply (bigSep_share (R := shared pl) (Φ := mine (F := F)) fun x => kit_intro pl x)
  isplitr; · iexact Hsh
  unfold mine
  rw [bigSep_sep', bigSep_sep']
  isplitl [Hat]; · iexact Hat
  isplitl [Htok]; · iexact Htok
  iexact Hcred

/-- The ghost state of the TensorCore call's staging buffers, on device `d`. -/
abbrev gP (d : Dev nD) : sProp 𝕄 := iprop(Pipeline.cellsGhost (nD := nD) (τ := τ) cfgs EP 0 d ∗ Pipeline.toksInit (nD := nD) (τ := τ) cfgs EP 0 d)

omit [FloatOps F] in
/-- There is one TensorCore call. -/
theorem only_call (Φ : Fin 1 → Dev nD → sProp 𝕄) :
    (bigSep Finset.univ fun d : Dev nD => bigSep Finset.univ fun p : Fin 1 => Φ p d) ⊢ bigSep Finset.univ fun d : Dev nD => Φ 0 d :=
  bigSep_mono fun d _ => Entails.of_eq (bigSep_univ_of_subsingleton (0 : Fin 1))

theorem hu₀ : iprop(ownU (u₀ (F := F)) ∗ (P pl ix xs o0).oxCred ∗ (K (F := F)).freeOn (· ∈ bCells))
    ⊢ |={Set.univ}=> iprop(BI.own (EH (initOf (K (F := F)).hsCells (K (F := F)).hsToks)) ∗ (bigSep Finset.univ fun d : Dev nD => gP (F := F) d)
        ∗ (bigSep Finset.univ fun thr : Thread nD τ => bigSep Finset.univ fun q : Fin 1 => (P pl ix xs o0).x q thr) : sProp 𝕄) := by
  unfold u₀
  iintro ⟨Hu, Hcred, Hfree⟩
  ihave H := (ownU_split _ _ _) $$ Hu
  icases H with ⟨HH, HB, HP⟩
  imod (Pipeline.fund_ghost (nD := nD) (τ := τ) cfgs EP cellOf_inj) $$ HP with ⟨Hg, Ht⟩
  imod (Rounds.fund EB (bRd pl) bCells bToks) $$ HB with ⟨Hst, #Hr, Hat, Htok⟩
  ihave Hsems := (sems_b (F := F)) $$ Hfree
  imod (invs_b pl) $$ [Hsems Hst] with ⟨%κ, #Hinv⟩
  · isplitl [Hsems] <;> iassumption
  ihave Hcred' := (creds_b pl ix xs o0) $$ Hcred
  ihave Hinv' := (Entails.of_eq (bCells_eq (F := F) fun g => cellInv EB (bRd pl) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · rw [bigSep_sep']
    isplitl [Hg]
    · iapply (only_call (F := F) fun p d => Pipeline.cellsGhost (nD := nD) (τ := τ) cfgs EP p d); iexact Hg
    · iapply (only_call (F := F) fun p d => Pipeline.toksInit (nD := nD) (τ := τ) cfgs EP p d); iexact Ht
  iapply (kits_deal pl ix xs o0)
  isplitr
  · isplitl; · iexists κ; iexact Hinv'
    iexact Hr'
  isplitl [Hat']; · iexact Hat'
  isplitl [Htok']; · iexact Htok'
  iexact Hcred'

end Cert.Proof.Sc

end
-- ==== Proof.Split.lean ====
module

public import proofs.«01_k».proof.Proof.Deal

/-! The arrays of the SparseCore call, whole, are what its two SparseCores take and bring back. -/

@[expose] public section

set_option maxRecDepth 16384

noncomputable section

namespace Cert.Proof.Sc

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ShareLeaves

variable {F : FTy → Type} [FloatOps F]
local notation "𝕄" => MT nD τ sig (HIx 1) (Elt F) ℕ UU ℕ

variable (pl : ∀ d : Dev nD, Buf (Elt F) (pLoc d)) (ix : ∀ d : Dev nD, Buf (Elt F) (iLoc d)) (xs : ∀ d : Dev nD, Buf (Elt F) (xLoc d))

/-- Which tile, which of its sixteen blocks of rows, and which side of column 128. -/
abbrev WIdx : Type := Fin 2 × Fin 16 × Fin 16 × Fin 2

/-- The cells of one window of the output. -/
def wset : WIdx → Finset S65536x192.Idx
  | (c, i, j, 0) => (oG (coordsV c i) j).view.set
  | (c, i, j, 1) => (oX (coordsV c i) j).view.set

theorem mem_oG (c : Fin 2) (i j : Fin 16) (y : S65536x192.Idx) : y ∈ (oG (coordsV c i) j).view.set
    ↔ (y 0).val / 128 = 32 * i.val + 16 * c.val + j.val ∧ (y 1).val / 128 = 0 := by
  have h : (oG (coordsV c i) j).view.set = _ := View.set_slice_whole _ _
  rw [h, Rect.mem_set_unit]
  have hoff : k1_off3 (coordsV c i) (cOff j) = ![4096 * i.val + 2048 * c.val + 128 * j.val, 0] := k1_off3_eq _ _
  rw [hoff]
  have := col_lt y
  constructor
  · intro h
    have h0 := h 0; have h1 := h 1
    simp at h0 h1
    omega
  · rintro ⟨h0, h1⟩ a
    match a with
    | 0 => simp; omega
    | 1 => simp; omega

theorem mem_oX (c : Fin 2) (i j : Fin 16) (y : S65536x192.Idx) : y ∈ (oX (coordsV c i) j).view.set
    ↔ (y 0).val / 128 = 32 * i.val + 16 * c.val + j.val ∧ (y 1).val / 128 = 1 := by
  have h : (oX (coordsV c i) j).view.set = _ := View.set_slice_whole _ _
  rw [h, Rect.mem_set_unit]
  have hoff : k1_off4 (coordsV c i) (cOff j) = ![4096 * i.val + 2048 * c.val + 128 * j.val, 128] := k1_off4_eq _ _
  rw [hoff]
  have := col_lt y
  constructor
  · intro h
    have h0 := h 0; have h1 := h 1
    simp at h0 h1
    omega
  · rintro ⟨h0, h1⟩ a
    match a with
    | 0 => simp; omega
    | 1 => simp; omega

theorem mem_wset (x : WIdx) (y : S65536x192.Idx) : y ∈ wset x
    ↔ (y 0).val / 128 = 32 * x.2.1.val + 16 * x.1.val + x.2.2.1.val ∧ (y 1).val / 128 = x.2.2.2.val := by
  match x with
  | (c, i, j, 0) => exact mem_oG c i j y
  | (c, i, j, 1) => exact mem_oX c i j y

theorem wset_disj (a b : WIdx) (h : a ≠ b) : Disjoint (wset a) (wset b) := by
  rw [Finset.disjoint_left]
  intro y ha hb
  rw [mem_wset] at ha hb
  obtain ⟨c, i, j, b1⟩ := a; obtain ⟨c', i', j', b2⟩ := b
  simp only at ha hb
  apply h
  have := c.isLt; have := c'.isLt; have := i.isLt; have := i'.isLt; have := j.isLt; have := j'.isLt
  obtain rfl : c = c' := Fin.ext (by omega)
  obtain rfl : i = i' := Fin.ext (by omega)
  obtain rfl : j = j' := Fin.ext (by omega)
  obtain rfl : b1 = b2 := Fin.ext (by omega)
  rfl

theorem wset_cover : (Finset.univ : Finset WIdx).biUnion wset = Finset.univ := by
  refine Finset.eq_univ_iff_forall.mpr fun y => Finset.mem_biUnion.mpr
    ⟨(⟨(y 0).val / 2048 % 2, by omega⟩, ⟨(y 0).val / 4096, by have := row_lt y; omega⟩, ⟨(y 0).val / 128 % 16, by omega⟩,
      ⟨(y 1).val / 128, by have := col_lt y; omega⟩), Finset.mem_univ _, ?_⟩
  rw [mem_wset]
  refine ⟨?_, rfl⟩
  show (y 0).val / 128 = 32 * ((y 0).val / 4096) + 16 * ((y 0).val / 2048 % 2) + (y 0).val / 128 % 16
  omega

/-- The output, whole, is the tiles' windows. -/
theorem out_split (d : Dev nD) (f : Buf (Elt F) (oLoc d)) :
    (oLoc d ↦{fullShare} f : sProp 𝕄) = bigSep Finset.univ fun c : Fin 2 => bigSep Finset.univ fun i : Fin 16 => oPcs d (coordsV c i) f := by
  have h := pointsTo_biUnion (q := fullShare) (f := f) (ℓ := oLoc d) (nD := nD) (Ix := HIx 1) (Name := ℕ) (U := UU) (Lvl := ℕ) (Finset.univ : Finset WIdx) wset fun a _ b _ => wset_disj a b
  rw [wset_cover] at h
  refine h.trans ?_
  rw [bigSep_univ_prod]
  refine congrArg (bigSep Finset.univ) (funext fun c => ?_)
  rw [bigSep_univ_prod]
  refine congrArg (bigSep Finset.univ) (funext fun i => ?_)
  rw [bigSep_univ_prod]
  unfold oPcs
  refine congrArg (bigSep Finset.univ) (funext fun j => ?_)
  exact BI.bigSep_fin_two _

/-- The arrays the call reads and the output, whole, are what the two SparseCores take. -/
theorem st_all (d : Dev nD) (f : Buf (Elt F) (oLoc d)) :
    (bigSep Finset.univ fun c : Fin 2 => stP pl ix xs d c f)
      = iprop(((pLoc d ↦{fullShare} pl d) ∗ (iLoc d ↦{fullShare} ix d) ∗ (xLoc d ↦{fullShare} xs d)) ∗ oLoc d ↦{fullShare} f) := by
  unfold stP
  rw [bigSep_sep', bigSep_sep', bigSep_sep', ← out_split,
    pointsTo_leaves Finset.univ (pl d) 1 fullShare, pointsTo_leaves Finset.univ (ix d) 1 fullShare, pointsTo_leaves Finset.univ (xs d) 1 fullShare]
  rfl

end Cert.Proof.Sc

end
-- ==== Proof.PoolHost.lean ====
module

public import proofs.«01_k».proof.Proof.Sc
public import Idealize.ShloMosaic.Lib.Pipeline.FrameBody
public import Idealize.ShloMosaic.Lib.Pipeline.Value

/-! What the host operations before the pooling call leave: the weights' two slices and the reshapes of the batch numbers
    and of the biases; and each window's block at a grid point. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)
open Idealize.ShloMosaic.SparseCore.Cfg (HIx)
open Cert.Proof.Sc (UU)

variable {F : FTy → Type} [FloatOps F]
variable (m : (ℓ : Loc nD τ sig) → Buf (Elt F) ℓ)

/-- The host operations before the pooling call. -/
abbrev hostOps0 : List (HloOp τ sig (Elt F)) :=
  [ StableHlo.unary main_arg6 main_v0 ((extractStridedSlice S64x64 ![0, 0] · slices_S67x64_S64x64_0_0) : (⟨S67x64, .f32⟩ : BufTy).Contents (Elt F) → (⟨S64x64, .f32⟩ : BufTy).Contents (Elt F)),
    StableHlo.unary main_arg6 main_v1 ((extractStridedSlice S3x64 ![64, 0] · slices_S67x64_S3x64_64_0) : (⟨S67x64, .f32⟩ : BufTy).Contents (Elt F) → (⟨S3x64, .f32⟩ : BufTy).Contents (Elt F)),
    StableHlo.reshape main_arg2 main_v2 (rfl : (.i32 : EltTy) = .i32) shapeCasts_S16384_S128x128,
    StableHlo.reshape main_arg7 main_v3 (rfl : (.f32 : EltTy) = .f32) shapeCasts_S64_S1x64,
    StableHlo.reshape main_arg9 main_v4 (rfl : (.f32 : EltTy) = .f32) shapeCasts_S128_S1x128 ]

theorem hostOps0_sub : (hostOps0 : List (HloOp τ sig (Elt F))).Forall fun op => op.bufs ⊆ StableHlo.tcRefs τ sig :=
  ⟨StableHlo.unary_bufs_sub .., StableHlo.unary_bufs_sub .., StableHlo.reshape_bufs_sub .., StableHlo.reshape_bufs_sub .., StableHlo.reshape_bufs_sub ..⟩

/-- Core `c`'s buffers when the pooling call starts. -/
abbrev V (c : Dev nD) (b : Ref sig .tc) : Buf (Elt F) ((c : Thread nD τ).loc b) := StableHlo.after hostOps0 (fun b => m (c, b)) b

/-- The host operations write five buffers; every other is as launched. -/
theorem V_of_ne (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Body

end
-- ==== Proof.PoolPt.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit.Tiles
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {κ : Kind} {sp : Space}

/-- The grid point is the first. -/
abbrev first (i : grid0.Coords) : Prop := (Scalar.cmpi .ne (Scalar.extui (Scalar.cmpi .eq (BitVec.ofNat 32 (i 0).val) 0#32)) 0#32) = 1#1

/-- The 64 rows of `X` that start where `off` says. -/
def win (X : Vec F S4096x128 .f32) (off : Fin 2 → Nat) : Vec F S64x128 .f32 :=
  fun y => X (fun a => ⟨(off a + (y a).val) % S4096x128.size a, Nat.mod_lt _ (by fin_cases a <;> decide)⟩)

/-- One row of the table of bounds. -/
def brow (b : Vec F S2x16 .i32) (r : Nat) : Vec F S1x16 .i32 :=
  fun y => b (fun a => ⟨((![r, 0] : Fin 2 → Nat) a + (y a).val) % S2x16.size a, Nat.mod_lt _ (by fin_cases a <;> decide)⟩)

/-- One word of the table of bounds. -/
def bword (b : Vec F S2x16 .i32) (r s : Nat) : BitVec 32 :=
  b (fun a => ⟨(![r, s] : Fin 2 → Nat) a % S2x16.size a, Nat.mod_lt _ (by fin_cases a <;> decide)⟩)

/-- A bound, counted from the first row of block `i` and clipped to the block. -/
def clip (i : grid0.Coords) (w : BitVec 32) : BitVec 32 :=
  Scalar.minsi 4096#32 (Scalar.maxsi 0#32 (Scalar.subi w (Scalar.muli (BitVec.ofNat 32 (i 0).val) 4096#32)))

/-- Where the window at the start of the rows of a segment begins. -/
def startLo (lo : BitVec 32) : BitVec 32 := Scalar.minsi lo 4032#32

/-- Where the window at the end of the rows of a segment begins. -/
def startHi (hi : BitVec 32) : BitVec 32 := Scalar.minsi 4032#32 (Scalar.maxsi 0#32 (Scalar.subi hi 64#32))

/-- The maximum of the rows of a window that lie between two bounds. -/
def edge (lo hi start : BitVec 32) (e : Vec F S64x128 .f32) : FVec F S1x128 .f32 :=
  shapeCast S1x128 (multiReduction .maximumf [0] S128 (select (broadcastTo S64x128 (shapeCast S64x1
    (andi (cmpi .sge (addi (iota .tc S64x1 32 [0] iota_S64x1_d0_w32) (broadcast S64x1 start)) (broadcast S64x1 lo))
      (cmpi .slt (addi (iota .tc S64x1 32 [0] iota_S64x1_d0_w32) (broadcast S64x1 start)) (broadcast S64x1 hi)))
    shapeCasts_S64x1_S64x1) broadcasts_S64x1_S64x128) e (broadcast S64x128 (Scalar.ofBits .f32 0xFF800000#32)))
    0xFF800000#32 reduces_S64x128_S128 (.inl rfl) rfl) shapeCasts_S128_S1x128

/-- The maximum of the groups that a column of the mask takes. -/
def groups (g : FVec F S512x128 .f32) (m : IVec S512x16 1) (s : Nat) (hs : S512x16.Slices ![0, s] S512x1) : FVec F S1x128 .f32 :=
  shapeCast S1x128 (multiReduction .maximumf [0] S128 (select (broadcastTo S512x128 (shapeCast S512x1
    (extractStridedSlice S512x1 ![0, s] m hs) shapeCasts_S512x1_S512x1) broadcasts_S512x1_S512x128) g
    (broadcast S512x128 (Scalar.ofBits .f32 0xFF800000#32))) 0xFF800000#32 reduces_S512x128_S128 (.inl rfl) rfl) shapeCasts_S128_S1x128

/-- The maximum over the rows of block `i` that belong to one segment: the groups inside, the two windows at the ends. -/
def segRow (i : grid0.Coords) (H : Vec F S4096x128 .f32) (g : FVec F S512x128 .f32) (m : IVec S512x16 1)
    (b : Vec F S2x16 .i32) (s : Nat) (hs : S512x16.Slices ![0, s] S512x1) : FVec F S1x128 .f32 :=
  maximumf (groups g m s hs)
    (maximumf
      (edge (clip i (bword b 0 s)) (clip i (bword b 1 s)) (startLo (clip i (bword b 0 s)))
        (win H ![(Scalar.indexCast (startLo (clip i (bword b 0 s)))).toNat, 0]))
      (edge (clip i (bword b 0 s)) (clip i (bword b 1 s)) (startHi (clip i (bword b 1 s)))
        (win H ![(Scalar.indexCast (startHi (clip i (bword b 1 s)))).toNat, 0])))

/-- Which groups of block `i` lie inside which segment. -/
def mask (i : grid0.Coords) (b : Vec F S2x16 .i32) : IVec S512x16 1 :=
  k0_pay41 (F := F) (BitVec.ofNat 32 (i 0).val) 4096#32 (brow b 0) (brow b 1)

/-- What a grid point makes of the output: `H` is its block behind the two layers, `b10` and `b11` the bounds. -/
def point (i : grid0.Coords) (H : Vec F S4096x128 .f32) (b10 b11 : Vec F S2x16 .i32) (o : Vec F S16x128 .f32) : Vec F S16x128 .f32 :=
  maximumf o (concatenate S16x128 0 [
    ⟨S1x128, segRow i H (k0_pay40 H) (mask i b10) b11 0 slices_S512x16_o0_0_S512x1⟩,
    ⟨S1x128, segRow i H (k0_pay40 H) (mask i b10) b11 1 slices_S512x16_o0_1_S512x1⟩,
    ⟨S1x128, segRow i H (k0_pay40 H) (mask i b10) b11 2 slices_S512x16_o0_2_S512x1⟩,
    ⟨S1x128, segRow i H (k0_pay40 H) (mask i b10) b11 3 slices_S512x16_o0_3_S512x1⟩,
    ⟨S1x128, segRow i H (k0_pay40 H) (mask i b10) b11 4 slices_S512x16_o0_4_S512x1⟩,
    ⟨S1x128, segRow i H (k0_pay40 H) (mask i b10) b11 5 slices_S512x16_o0_5_S512x1⟩,
    ⟨S1x128, segRow i H (k0_pay40 H) (mask i b10) b11 6 slices_S512x16_o0_6_S512x1⟩,
    ⟨S1x128, segRow i H (k0_pay40 H) (mask i b10) b11 7 slices_S512x16_o0_7_S512x1⟩,
    ⟨S1x128, segRow i H (k0_pay40 H) (mask i b10) b11 8 slices_S512x16_o0_8_S512x1⟩,
    ⟨S1x128, segRow i H (k0_pay40 H) (mask i b10) b11 9 slices_S512x16_o0_9_S512x1⟩,
    ⟨S1x128, segRow i H (k0_pay40 H) (mask i b10) b11 10 slices_S512x16_o0_10_S512x1⟩,
    ⟨S1x128, segRow i H (k0_pay40 H) (mask i b10) b11 11 slices_S512x16_o0_11_S512x1⟩,
    ⟨S1x128, segRow i H (k0_pay40 H) (mask i b10) b11 12 slices_S512x16_o0_12_S512x1⟩,
    ⟨S1x128, segRow i H (k0_pay40 H) (mask i b10) b11 13 slices_S512x16_o0_13_S512x1⟩,
    ⟨S1x128, segRow i H (k0_pay40 H) (mask i b10) b11 14 slices_S512x16_o0_14_S512x1⟩,
    ⟨S1x128, segRow i H (k0_pay40 H) (mask i b10) b11 15 slices_S512x16_o0_15_S512x1⟩] concatenates_S1x128_S1x128_S1x128_S1x128_S1x128_S1x128_S1x128_S1x128_S1x128_S1x128_S1x128_S1x128_S1x128_S1x128_S1x128_S1x128_S16x128_d0)

/-- Reading the rows a rectangle names is reading the window at its offsets. -/
theorem ld_win (X : Vec F S4096x128 .f32) (off : Fin S4096x128.rank → Nat) (h) :
    View.ld X (Rect.unit off (no_index ![64, 128]) h) = win X off := by
  funext y
  refine congrArg X (funext fun a => Fin.ext ?_)
  show off a + 1 * (y a).val = (off a + (y a).val) % S4096x128.size a
  have h1 : off a + S64x128.size a ≤ S4096x128.size a := h a
  have h2 : (y a).val < S64x128.size a := (y a).isLt
  rw [Nat.one_mul, Nat.mod_eq_of_lt (by omega)]

/-- Reading one row of the bounds. -/
theorem ld_brow (b : Vec F S2x16 .i32) (r : Nat) (h) :
    View.ld b (Rect.unit ![r, 0] (no_index ![1, 16]) h) = brow b r := by
  funext y
  refine congrArg b (funext fun a => Fin.ext ?_)
  show (![r, 0] : Fin 2 → Nat) a + 1 * (y a).val = ((![r, 0] : Fin 2 → Nat) a + (y a).val) % S2x16.size a
  have h1 : (![r, 0] : Fin 2 → Nat) a + S1x16.size a ≤ S2x16.size a := h a
  have h2 : (y a).val < S1x16.size a := (y a).isLt
  rw [Nat.one_mul, Nat.mod_eq_of_lt (by omega)]

/-- Reading one word of the bounds. -/
theorem ld_bword (b : Vec F S2x16 .i32) (r s : Nat) (h) :
    View.ld b (Rect.unit ![r, s] (no_index ![1, 1]) h) = fun _ => bword b r s := by
  funext z
  refine congrArg b (funext fun a => Fin.ext ?_)
  show (![r, s] : Fin 2 → Nat) a + 1 * (z a).val = (![r, s] : Fin 2 → Nat) a % S2x16.size a
  have h1 : (![r, s] : Fin 2 → Nat) a + S1x1.size a ≤ S2x16.size a := h a
  have h2 : (z a).val < S1x1.size a := (z a).isLt
  have h3 : S1x1.size a = 1 := by fin_cases a <;> rfl
  rw [Nat.one_mul, Nat.mod_eq_of_lt (by omega)]
  omega

/-- Reading one word of a table that is the bounds. -/
theorem ld_bword_of {b b' : Vec F S2x16 .i32} (hb : b' = b) (r s : Nat) (h) (z) :
    View.ld b' (Rect.unit ![r, s] ![1, 1] h) z = bword b r s := by
  subst hb; exact congrFun (ld_bword b' r s h) z

/-- The row of a segment, from the words and the windows it reads. -/
theorem row_eq (i : grid0.Coords) (H : Vec F S4096x128 .f32) (g : FVec F S512x128 .f32) (m : IVec S512x16 1)
    (b : Vec F S2x16 .i32) (s : Nat) (hs : S512x16.Slices ![0, s] S512x1) (w0 w1 : BitVec 32)
    (hw0 : w0 = bword b 0 s) (hw1 : w1 = bword b 1 s) (E1 E2 : Vec F S64x128 .f32)
    (hE1 : E1 = win H ![(Scalar.indexCast (startLo (clip i w0))).toNat, 0]) (hE2 : E2 = win H ![(Scalar.indexCast (startHi (clip i w1))).toNat, 0]) :
    maximumf (groups g m s hs) (maximumf (edge (clip i w0) (clip i w1) (startLo (clip i w0)) E1)
      (edge (clip i w0) (clip i w1) (startHi (clip i w1)) E2)) = segRow i H g m b s hs := by
  subst hw0 hw1 hE1 hE2; rfl

/-- The row of a segment, from its words and the loads of its windows. -/
theorem row_ld (i : grid0.Coords) (H : Vec F S4096x128 .f32) (g : FVec F S512x128 .f32) (m : IVec S512x16 1)
    (b : Vec F S2x16 .i32) (s : Nat) (hs : S512x16.Slices ![0, s] S512x1) (w0 w1 : BitVec 32)
    (e0 : w0 = bword b 0 s) (e1 : w1 = bword b 1 s) (hA) (hB) :
    maximumf (groups g m s hs) (maximumf
      (edge (Scalar.minsi 4096#32 (Scalar.maxsi 0#32 (Scalar.subi w0 (Scalar.muli (BitVec.ofNat 32 (i 0).val) 4096#32)))) (Scalar.minsi 4096#32 (Scalar.maxsi 0#32 (Scalar.subi w1 (Scalar.muli (BitVec.ofNat 32 (i 0).val) 4096#32)))) (Scalar.minsi (Scalar.minsi 4096#32 (Scalar.maxsi 0#32 (Scalar.subi w0 (Scalar.muli (BitVec.ofNat 32 (i 0).val) 4096#32)))) 4032#32)
        (View.ld H (Rect.unit (s := S4096x128) ![(Scalar.indexCast (Scalar.minsi (Scalar.minsi 4096#32 (Scalar.maxsi 0#32 (Scalar.subi w0 (Scalar.muli (BitVec.ofNat 32 (i 0).val) 4096#32)))) 4032#32)).toNat, 0] S64x128.size hA)))
      (edge (Scalar.minsi 4096#32 (Scalar.maxsi 0#32 (Scalar.subi w0 (Scalar.muli (BitVec.ofNat 32 (i 0).val) 4096#32)))) (Scalar.minsi 4096#32 (Scalar.maxsi 0#32 (Scalar.subi w1 (Scalar.muli (BitVec.ofNat 32 (i 0).val) 4096#32)))) (Scalar.minsi 4032#32 (Scalar.maxsi 0#32 (Scalar.subi (Scalar.minsi 4096#32 (Scalar.maxsi 0#32 (Scalar.subi w1 (Scalar.muli (BitVec.ofNat 32 (i 0).val) 4096#32)))) 64#32)))
        (View.ld H (Rect.unit (s := S4096x128) ![(Scalar.indexCast (Scalar.minsi 4032#32 (Scalar.maxsi 0#32 (Scalar.subi (Scalar.minsi 4096#32 (Scalar.maxsi 0#32 (Scalar.subi w1 (Scalar.muli (BitVec.ofNat 32 (i 0).val) 4096#32)))) 64#32)))).toNat, 0] S64x128.size hB)))) = segRow i H g m b s hs := by
  rw [ld_win, ld_win]
  exact row_eq i H g m b s hs w0 w1 e0 e1 _ _ rfl rfl

/-- Sixteen rows, one under the other, are as their rows are. -/
theorem stack_congr {r0 r1 r2 r3 r4 r5 r6 r7 r8 r9 r10 r11 r12 r13 r14 r15 q0 q1 q2 q3 q4 q5 q6 q7 q8 q9 q10 q11 q12 q13 q14 q15 : FVec F S1x128 .f32} (h0 : r0 = q0) (h1 : r1 = q1) (h2 : r2 = q2) (h3 : r3 = q3) (h4 : r4 = q4) (h5 : r5 = q5) (h6 : r6 = q6) (h7 : r7 = q7) (h8 : r8 = q8) (h9 : r9 = q9) (h10 : r10 = q10) (h11 : r11 = q11) (h12 : r12 = q12) (h13 : r13 = q13) (h14 : r14 = q14) (h15 : r15 = q15) (h) (h') :
    concatenate S16x128 0 [⟨S1x128, r0⟩, ⟨S1x128, r1⟩, ⟨S1x128, r2⟩, ⟨S1x128, r3⟩, ⟨S1x128, r4⟩, ⟨S1x128, r5⟩, ⟨S1x128, r6⟩, ⟨S1x128, r7⟩, ⟨S1x128, r8⟩, ⟨S1x128, r9⟩, ⟨S1x128, r10⟩, ⟨S1x128, r11⟩, ⟨S1x128, r12⟩, ⟨S1x128, r13⟩, ⟨S1x128, r14⟩, ⟨S1x128, r15⟩] h = concatenate S16x128 0 [⟨S1x128, q0⟩, ⟨S1x128, q1⟩, ⟨S1x128, q2⟩, ⟨S1x128, q3⟩, ⟨S1x128, q4⟩, ⟨S1x128, q5⟩, ⟨S1x128, q6⟩, ⟨S1x128, q7⟩, ⟨S1x128, q8⟩, ⟨S1x128, q9⟩, ⟨S1x128, q10⟩, ⟨S1x128, q11⟩, ⟨S1x128, q12⟩, ⟨S1x128, q13⟩, ⟨S1x128, q14⟩, ⟨S1x128, q15⟩] h' := by
  subst h0 h1 h2 h3 h4 h5 h6 h7 h8 h9 h10 h11 h12 h13 h14 h15; rfl

/-- How many ids of the batch lie under `k`. -/
def below (X : Vec F S128x128 .i32) (k : BitVec 32) : BitVec 32 :=
  extractAt ![0, 0, 0] (shapeCast S1x1x1 (multiReductionI .add [1, 2] S1 (shapeCast S1x128x128 (extui 32
    (cmpi .slt (shapeCast S128x128 X shapeCasts_S128x128_S128x128) (broadcast S128x128 k)) natLt_1_32)
    shapeCasts_S128x128_S1x128x128) 0#32 reduces_S1x128x128_S1 rfl) shapeCasts_S1_S1x1x1) inpos_S1x1x1_p0_0_0

/-- The first row of each segment and the row after its last. -/
def bval (X : Vec F S128x128 .i32) (r s : Nat) : BitVec 32 :=
  if r = 0 then (if s = 0 then 0#32 else below X (BitVec.ofNat 32 s))
  else (if s = 15 then 16384#32 else below X (BitVec.ofNat 32 (s + 1)))

/-- The table of bounds. -/
def bounds (X : Vec F S128x128 .i32) : Vec F S2x16 .i32 := fun j => bval X (j 0).val (j 1).val

/-- Every piece of a list of stores holds the bounds. -/
def Good (X : Vec F S128x128 .i32) (L : List (View.Piece (Elt F) S2x16 .i32)) : Prop :=
  ∀ p ∈ L, ∀ x, p.2 x = bounds X (p.1.emb x)

theorem good_nil (X : Vec F S128x128 .i32) : Good X [] := fun _ h => absurd h List.not_mem_nil

theorem good_word (X : Vec F S128x128 .i32) (r s : Nat) (h) (f) (w : BitVec 32) (hf : f = fun _ => w) (hw : w = bval X r s) (L) (hL : Good X L) :
    Good X ((⟨Rect.unit ![r, s] ![1, 1] h, f⟩ : View.Piece (Elt F) S2x16 .i32) :: L) := by
  intro p hp
  rcases List.mem_cons.mp hp with rfl | hp
  · intro x
    subst hf hw
    have h0 : (x 0).val < 1 := (x 0).isLt
    have h1 : (x 1).val < 1 := (x 1).isLt
    show bval X r s = bval X (r + 1 * (x 0).val) (s + 1 * (x 1).val)
    rw [show r + 1 * (x 0).val = r by omega, show s + 1 * (x 1).val = s by omega]
  · exact hL p hp

theorem good_row (X : Vec F S128x128 .i32) (r : Nat) (h) (w : Vec F S1x16 .i32) (hw : ∀ s : Fin 16, w (fun a => ⟨![0, s.val] a, by fin_cases a; exact Nat.zero_lt_one; exact s.isLt⟩) = bval X r s.val) (L) (hL : Good X L) :
    Good X ((⟨Rect.unit ![r, 0] ![1, 16] h, w⟩ : View.Piece (Elt F) S2x16 .i32) :: L) := by
  intro p hp
  rcases List.mem_cons.mp hp with rfl | hp
  · intro x
    have h0 : (x 0).val < 1 := (x 0).isLt
    have hx : x = (fun a => ⟨![0, (x 1).val] a, by fin_cases a; exact Nat.zero_lt_one; exact (x 1).isLt⟩) := by
      funext a; apply Fin.ext; fin_cases a
      · show (x 0).val = 0; omega
      · rfl
    refine (congrArg w hx).trans ((hw (x 1)).trans ?_)
    show bval X r (x 1).val = bval X (r + 1 * (x 0).val) (0 + 1 * (x 1).val)
    rw [show r + 1 * (x 0).val = r by omega, show 0 + 1 * (x 1).val = (x 1).val by omega]
  · exact hL p hp

theorem read_good {σ : RefSig} {v : View σ κ sp S2x16 .i32} (X : Vec F S128x128 .i32) (f) (L) (hL : Good X L) (hc : ∀ y, ∃ p ∈ L, y ∈ p.1.set) :
    v.read (Elt F) (v.writes (Elt F) f L) = bounds X := by
  rw [View.read_writes_eq_canon _ _ _ hc]
  funext y
  exact View.canon_eq_of_allAt L y _ (hc y) (fun p hp x hx => by rw [hL p hp x, hx])

theorem readCov_good {σ : RefSig} {v : View σ κ sp S2x16 .i32} (X : Vec F S128x128 .i32) (L) (hL : Good X L) (hc : ∀ y, ∃ p ∈ L, y ∈ p.1.set) (r : Nat) (h) :
    v.readCov (Val := Elt F) L (Rect.unit ![r, 0] ![1, 16] h).toLoadRect = brow (bounds X) r := by
  rw [View.readCov_eq_canon_ld v L _ hc, show View.canon L = bounds X from funext fun y =>
    View.canon_eq_of_allAt L y _ (hc y) (fun p hp x hx => by rw [hL p hp x, hx]), ld_brow]

/-- Sixteen words, one beside the other. -/
theorem words16 (w : Fin 16 → BitVec 32) (h) (j : S1x16.Idx) :
    concatenate S1x16 1 [⟨S1x1, broadcast S1x1 (w 0)⟩, ⟨S1x1, broadcast S1x1 (w 1)⟩, ⟨S1x1, broadcast S1x1 (w 2)⟩, ⟨S1x1, broadcast S1x1 (w 3)⟩, ⟨S1x1, broadcast S1x1 (w 4)⟩, ⟨S1x1, broadcast S1x1 (w 5)⟩, ⟨S1x1, broadcast S1x1 (w 6)⟩, ⟨S1x1, broadcast S1x1 (w 7)⟩, ⟨S1x1, broadcast S1x1 (w 8)⟩, ⟨S1x1, broadcast S1x1 (w 9)⟩, ⟨S1x1, broadcast S1x1 (w 10)⟩, ⟨S1x1, broadcast S1x1 (w 11)⟩, ⟨S1x1, broadcast S1x1 (w 12)⟩, ⟨S1x1, broadcast S1x1 (w 13)⟩, ⟨S1x1, broadcast S1x1 (w 14)⟩, ⟨S1x1, broadcast S1x1 (w 15)⟩] h j = w (j 1) :=
  concatenate_ofFn_unit_apply (t := S1x16) (s₁ := S1x1) 1 (fun n => broadcast S1x1 (w n)) h rfl rfl j (j 1) rfl
    (fun a => ⟨0, by fin_cases a <;> decide⟩) (by
      intro b hb
      have hb0 : b = 0 := by
        fin_cases b
        · rfl
        · exact absurd rfl hb
      subst hb0
      have : (j 0).val < 1 := (j 0).isLt
      show 0 = (j 0).val
      omega)

/-- A word of the table is the bound it is for. -/
theorem bword_bounds (X : Vec F S128x128 .i32) (r s : Nat) (hr : r < 2) (hs : s < 16) : bword (bounds X) r s = bval X r s := by
  show bval X (r % 2) (s % 16) = bval X r s
  rw [Nat.mod_eq_of_lt hr, Nat.mod_eq_of_lt hs]

end Cert.KernelIdeal.Body

end
-- ==== Proof.PoolDat.lean ====
module

public import proofs.«01_k».proof.Proof.PoolHost
public import proofs.«01_k».proof.Proof.PoolRun
public import Idealize.ShloMosaic.Lib.Pipeline.Value
public import Idealize.ShloMosaic.Lib.Claim

/-! The pooling call over its four grid points: what its buffers hold between the points (the bounds in both tables, the
    running maximum in the output), the run, and the result array. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.SparseCore.Cfg (HIx)
open Cert.Proof.Sc (UU)

local notation "𝕄" => MT nD τ sig (HIx 1) (Elt F) ℕ UU ℕ

variable (m : (ℓ : Loc nD τ sig) → Buf (Elt F) ℓ) (ρ : Dev nD → PrngReg)

theorem first_iff : ∀ t : Fin cfg0.N, first (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    rw [show t.val = 0 ↔ t.val % 4 = 0 by omega]
    simp only [first, e0]
    word_cmp
   : ∀ t : Fin grid0.N, first (grid0.coords t) ↔ t.val = 0)

/-- The bounds the first point computes. -/
def tab (c : Dev nD) : Vec F S2x16 .i32 := bounds (iblk m c 2 t0_0)

/-- The block of point `t` behind the two layers. -/
def hid (c : Dev nD) (t : Fin cfg0.N) : Vec F S4096x128 .f32 :=
  k0_pay37 (iblk m c 0 t) (iblk m c 3 t) (iblk m c 1 t) (iblk m c 4 t) (iblk m c 5 t) (iblk m c 6 t) (iblk m c 7 t)

/-- The running maximum after point `n`. -/
def chain (c : Dev nD) : (n : ℕ) → n < cfg0.N → Vec F S16x128 .f32
  | 0, h => point (grid0.coords ⟨0, h⟩) (hid m c ⟨0, h⟩) (tab m c) (tab m c) k0_pay38
  | n + 1, h => point (grid0.coords ⟨n + 1, h⟩) (hid m c ⟨n + 1, h⟩) (tab m c) (tab m c) (chain c n (Nat.lt_of_succ_lt h))

/-- The memref of each window's block at point `t`. -/
abbrev ms0_0 (t : Fin cfg0.N) : Memref sig .tc .vmem S4096x64 .f32 := win0_0.stage (cfg0.slots t 0)
abbrev ms0_1 (t : Fin cfg0.N) : Memref sig .tc .vmem S4096x3 .f32 := win0_1.stage (cfg0.slots t 1)
abbrev ms0_2 (t : Fin cfg0.N) : Memref sig .tc .vmem S128x128 .i32 := win0_2.stage (cfg0.slots t 2)
abbrev ms0_3 (t : Fin cfg0.N) : Memref sig .tc .vmem S64x64 .f32 := win0_3.stage (cfg0.slots t 3)
abbrev ms0_4 (t : Fin cfg0.N) : Memref sig .tc .vmem S3x64 .f32 := win0_4.stage (cfg0.slots t 4)
abbrev ms0_5 (t : Fin cfg0.N) : Memref sig .tc .vmem S1x64 .f32 := win0_5.stage (cfg0.slots t 5)
abbrev ms0_6 (t : Fin cfg0.N) : Memref sig .tc .vmem S64x128 .f32 := win0_6.stage (cfg0.slots t 6)
abbrev ms0_7 (t : Fin cfg0.N) : Memref sig .tc .vmem S1x128 .f32 := win0_7.stage (cfg0.slots t 7)
abbrev ms0_8 (t : Fin cfg0.N) : Memref sig .tc .vmem S16x128 .f32 := win0_8.stage (cfg0.slots t 8)
/-- The scratch buffers. -/
abbrev scM0_0 : Memref sig .tc .vmem S2x16 .i32 := Memref.whole cc0_scratch0
abbrev scM0_1 : Memref sig .tc .smem S2x16 .i32 := Memref.whole cc0_scratch1
abbrev scM0_2 : Memref sig .tc .vmem S4096x128 .f32 := Memref.whole cc0_scratch2

/-- The call's own buffers and the random number register, at anything. -/
def PhiA (c : Dev nD) : sProp 𝕄 := iprop(Pipeline.scopedRest spec0 c ∗ ∃ r, prngReg c r)

/-- The buffers of the call with anything in them. -/
theorem PhiA0_eq (c : Dev nD) :
    (PhiA (F := F) c)
      = iprop(iprop((∃ d, owns (c : Thread nD τ) scM0_0 fullShare d) ∗ (∃ d, owns (c : Thread nD τ) scM0_2 fullShare d) ∗ (∃ d, owns (c : Thread nD τ) scM0_1 fullShare d)) ∗ (∃ r, prngReg c r)) := by
  unfold PhiA; rw [scopedRest0_eq]; simp only [scM0_0, scM0_1, scM0_2, owns_whole]; try rfl

/-- What holds before point `n`: at first the scratch buffers hold anything, later both tables hold the bounds. -/
def PhiS (c : Dev nD) (n : ℕ) : sProp 𝕄 :=
  if n = 0 then PhiA c
  else iprop(iprop(owns (c : Thread nD τ) scM0_0 fullShare (tab m c) ∗ (∃ d, owns (c : Thread nD τ) scM0_2 fullShare d) ∗ owns (c : Thread nD τ) scM0_1 fullShare (tab m c)) ∗ (∃ r, prngReg c r))

def dats (_ : Fin 1) (c : Dev nD) : Dat τ (Elt F) (HIx 1) ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => chain m c t.val t.isLt
  Φ t := PhiS m c t.val
  q _ := fullShare
  owed _ := (Cert.Proof.Sc.K (F := F)).Otc c 0
  recorded _ := {p | (Cert.Proof.Sc.K (F := F)).lev ((c : Thread nD τ), p.1) p.2 ≤ 0}

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = chain m c t.val t.isLt := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]) t d).trans
    (by unfold Dat.fetched Dat.blockOf iblk; rw [A_eq]; try rfl)
theorem pred_lt {t : Fin cfg0.N} : t.val - 1 < cfg0.N := Nat.lt_of_le_of_lt (Nat.sub_le _ _) t.isLt

theorem before0_8 (c : Dev nD) (t : Fin cfg0.N) (ht : t.val ≠ 0) (d) :
    (dats m 0 c).before 8 t d = chain m c (t.val - 1) pred_lt := by
  rw [Dat.before_out_kept (dats m 0 c) 8 rfl t ht (Bool.eq_false_iff.mpr fun hf => by
    have := (flush0_8 _).mp hf; have hN : cfg0.N = 4 := N_0; have := t.isLt; dsimp only at *; omega) (fun _ => rfl) (fun _ _ => rfl) d, after0_8]

theorem chain_first (c : Dev nD) (t : Fin cfg0.N) (ht : t.val = 0) : chain m c t.val t.isLt
    = point (grid0.coords t) (hid m c t) (bounds (iblk m c 2 t)) (bounds (iblk m c 2 t)) k0_pay38 := by
  obtain rfl : t = t0_0 := Fin.ext ht
  rfl

theorem tab_first (c : Dev nD) (t : Fin cfg0.N) (ht : t.val = 0) : tab m c = bounds (iblk m c 2 t) := by
  obtain rfl : t = t0_0 := Fin.ext ht
  rfl

theorem chain_later (c : Dev nD) (t : Fin cfg0.N) (ht : t.val ≠ 0) : chain m c t.val t.isLt
    = point (grid0.coords t) (hid m c t) (tab m c) (tab m c) (chain m c (t.val - 1) pred_lt) := by
  obtain ⟨n, hn⟩ := t
  cases n with
  | zero => exact absurd rfl ht
  | succ n => rfl

theorem PhiS_zero (c : Dev nD) (n : ℕ) (h : n = 0) : PhiS m c n = PhiA c := if_pos h
theorem PhiS_pos (c : Dev nD) (n : ℕ) (h : n ≠ 0) : PhiS m c n
    = iprop(iprop(owns (c : Thread nD τ) scM0_0 fullShare (tab m c) ∗ (∃ d, owns (c : Thread nD τ) scM0_2 fullShare d) ∗ owns (c : Thread nD τ) scM0_1 fullShare (tab m c)) ∗ (∃ r, prngReg c r)) := if_neg h
theorem Phi_start (c : Dev nD) (t : Fin cfg0.N) : (dats m 0 c).Φ t.castSucc = PhiS m c t.val := by
  dsimp only [dats, Fin.val_castSucc]
theorem Phi_end (c : Dev nD) (t : Fin cfg0.N) : (dats m 0 c).Φ t.succ = PhiS m c (t.val + 1) := by
  dsimp only [dats, Fin.val_succ]

def bodyPre (c : Dev nD) (t : Fin cfg0.N) : sProp 𝕄 :=
  iprop((dats m 0 c).Φ t.castSucc ∗ (dats m 0 c).owesAt none t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt none t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt none t.succ = (dats m 0 c).owesAt none t.castSucc from rfl,
    after0_0, after0_1, after0_2, after0_3, after0_4, after0_5, after0_6, after0_7, after0_8,
    Phi_start, Phi_end, PhiS_pos m c (t.val + 1) (Nat.succ_ne_zero _)]
  by_cases h : t.val = 0
  · rw [PhiS_zero m c t.val h, PhiA0_eq, chain_first m c t h, tab_first m c t h]
    have h0 : first (grid0.coords t) := (first_iff t).mpr h
    iintro ⟨⟨⟨HS0, HS2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_A c (grid0.coords t) _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS2 HS1 Hg]
    · isplitl [HS0 HS2 HS1]
      · isplitl [HS0]
        · iexact HS0
        isplitl [HS2]
        · iexact HS2
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_8 m c t h]
    rw [PhiS_pos m c t.val h, chain_later m c t h]
    have h0 : ¬first (grid0.coords t) := fun hh => h ((first_iff t).mp hh)
    iintro ⟨⟨⟨HS0, HS2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_B c (grid0.coords t) _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (chain m c (t.val - 1) pred_lt) (tab m c) (tab m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS2 HS1 Hg]
    · isplitl [HS0 HS2 HS1]
      · isplitl [HS0]
        · iexact HS0
        isplitl [HS2]
        · iexact HS2
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := rfl

theorem body_obligation (c : Dev nD) : BodyObligation (dats (F := F) m 0 c) (defs₀ (F := F)) Variants.none none Set.univ := fun t => by
  rw [bigSep_W0, bigSep_W0, defs₀_row]
  exact triple_restated (sound_body m c t) rfl .rfl fun _ => .rfl

theorem hin (c : Dev nD) : (PhiA (F := F) c) ⊢ (dats m 0 c).Φ 0 := by
  rw [show (dats m 0 c).Φ 0 = PhiS m c 0 by dsimp only [dats, Fin.val_zero], PhiS_zero m c 0 rfl]

theorem hout (c : Dev nD) : (dats m 0 c).Φ (Fin.last cfg0.N) ⊢ (PhiA (F := F) c) := by
  rw [show (dats m 0 c).Φ (Fin.last cfg0.N) = PhiS m c cfg0.N by dsimp only [dats, Fin.val_last],
    PhiS_pos m c cfg0.N (by rw [show cfg0.N = 4 from N_0]; decide), PhiA0_eq]
  iintro ⟨⟨HS0, HS2, HS1⟩, Hg⟩
  isplitl [HS0 HS2 HS1]
  · isplitl [HS0]
    · iexists _; iexact HS0
    isplitl [HS2]
    · iexact HS2
    iexists _; iexact HS1
  iexact Hg

/-- What the call leaves in its result array. -/
abbrev result (c : Dev nD) : Buf (Elt F) ((c : Thread nD τ).loc main_v5) := chain m c 3 (by rw [show cfg0.N = 4 from N_0]; decide)

theorem flushed_eq (c : Dev nD) (t : Fin cfg0.N) (hf : (cfg0.win 8).flush t = true) :
    (dats m 0 c).flushed 8 t = ((cfg0.win 8).blk t).view.read (Elt F) (result m c) := by
  have hN : cfg0.N = 4 := N_0
  have h3 : t.val = 3 := by have := (flush0_8 t).mp hf; have := t.isLt; omega
  obtain rfl : t = t0_3 := Fin.ext h3
  show (cfg0.win 8).cut (grid0.coords t0_3) ((dats m 0 c).after 8 t0_3) = _
  rw [after0_8]
  have hz' : (fun a => win0_8.index t0_3 a * main_v5.ty.shape.size a) = fun _ => 0 := funext fun a => by fin_cases a <;> decide
  exact (Memref.read_access_unit_zero (Elt F) main_v5 hz' (fun a => by rw [congrFun hz' a]; simp) (result m c)).symm

theorem final_o (c : Dev nD) : (dats m 0 c).arrAt 8 cfg0.N = result m c :=
  (dats m 0 c).arrAt_eq_of_cover 8 (result m c) (flushed_eq m c) fun i =>
    ⟨t0_3, (flush0_8 t0_3).mpr rfl, by
      show i ∈ ((View.whole main_v5).slice (win0_8.rect t0_3)).set
      rw [View.set_slice_whole, Rect.mem_set_unit]
      intro a
      have h0 : (i 0 : Nat) < 16 := (i 0).isLt
      have h1 : (i 1 : Nat) < 128 := (i 1).isLt
      match a with
      | ⟨0, _⟩ => show win0_8.index t0_3 0 * win0_8.size 0 ≤ (i 0 : Nat) ∧ (i 0 : Nat) < win0_8.index t0_3 0 * win0_8.size 0 + win0_8.xsize (grid0.coords t0_3) 0
                  rw [show win0_8.index t0_3 0 * win0_8.size 0 = 0 from by decide +kernel, show win0_8.xsize (grid0.coords t0_3) 0 = 16 from by decide +kernel]; omega
      | ⟨1, _⟩ => show win0_8.index t0_3 1 * win0_8.size 1 ≤ (i 1 : Nat) ∧ (i 1 : Nat) < win0_8.index t0_3 1 * win0_8.size 1 + win0_8.xsize (grid0.coords t0_3) 1
                  rw [show win0_8.index t0_3 1 * win0_8.size 1 = 0 from by decide +kernel, show win0_8.xsize (grid0.coords t0_3) 1 = 128 from by decide +kernel]; omega⟩

end Cert.KernelIdeal.Body

end
-- ==== Proof.PoolCall.lean ====
module

public import proofs.«01_k».proof.Proof.Kits
public import proofs.«01_k».proof.Proof.PoolDat
public import Idealize.ShloMosaic.Lib.Pipeline.RegionArrays

/-! The pooling call as one step of @main: from the arrays as the host operations leave them to the pooled table, with what the
    TensorCore owes the SparseCores untouched. -/

@[expose] public section

set_option maxRecDepth 16384

noncomputable section

namespace Cert.Proof.Sc

open Cert.KernelIdeal Cert.KernelIdeal.Gen

open Idealize.ShloMosaic Idealize.ShloMosaic.TcCoe
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)
open Cert.KernelIdeal.Body (V PhiA PhiS dats result)

variable {F : FTy → Type} [FloatOps F]
local notation "𝕄" => MT nD τ sig (HIx 1) (Elt F) ℕ UU ℕ

variable (m : (ℓ : Loc nD τ sig) → Buf (Elt F) ℓ)

/-- What the TensorCore owes before the SparseCore call, with the pairs it has recorded. -/
abbrev owing (d : Dev nD) : sProp 𝕄 := iprop(∃ W, ⌜(K (F := F)).WBelow (SparseCore.T d) W 0⌝ ∗ owes (SparseCore.T d) ((K (F := F)).Otc d 0) W)

abbrev adm0 : (p : Fin 1) → (pcfgs (F := F) p).Adm := fun q => (cfgs q).toPCfg_adm

abbrev noOwn : Pipeline.OwnSemFacts (spec0) (fun k : PEmpty => k.elim) := Pipeline.OwnSemFacts.none spec0

/-- The call's semaphores that are no staging buffer's. -/
abbrev idle (d : Dev nD) : sProp 𝕄 := Pipeline.idleSems0 cfgs cellOf_inj 0 noOwn d

theorem sems_split (d : Dev nD) : (scopedSems0 (d.tc : Thread nD τ) : sProp 𝕄) = iprop((Pipeline.cellsSems0 cfgs 0 d ∗ Pipeline.ownSems0 (fun k : PEmpty => k.elim) d) ∗ idle (F := F) d) :=
  Pipeline.scopedSems0_split cfgs cellOf_inj 0 winFacts0.to₀ noOwn d

theorem bufs_split (d : Dev nD) : (scopedBufs (d.tc : Thread nD τ) : sProp 𝕄) = iprop(Dat.staging cfg0 d ∗ Pipeline.scopedRest spec0 d) :=
  Pipeline.scopedBufs_split cfgs 0 winFacts0.stage_scoped winFacts0.stage_inj stage_whole0 d

/-- The arrays as the call leaves them. -/
theorem arrays_last (d : Dev nD) : (dats m 0 d).arrays ((dats m 0 d).arrAt · cfg0.N)
    ⊢ iprop(((SparseCore.T d).loc main_arg0 ↦{fullShare} m ((SparseCore.T d).loc main_arg0)) ∗ ((SparseCore.T d).loc main_arg1 ↦{fullShare} m ((SparseCore.T d).loc main_arg1))
      ∗ ((SparseCore.T d).loc main_arg8 ↦{fullShare} m ((SparseCore.T d).loc main_arg8)) ∗ ((SparseCore.T d).loc main_v5 ↦{fullShare} result m d)) := by
  rw [Pipeline.arrays_eq cfgs (dats m) 0 d arr_whole0 (fun w => (dats m 0 d).share_full (fun _ => rfl) w), bigSep_W0]
  have e0 : (dats m 0 d).arrAt 0 cfg0.N = m ((SparseCore.T d).loc main_arg0) := ((dats m 0 d).arrAt_in 0 rfl _).trans (Body.V_of_ne m d main_arg0 (by decide) (by decide) (by decide) (by decide) (by decide))
  have e1 : (dats m 0 d).arrAt 1 cfg0.N = m ((SparseCore.T d).loc main_arg1) := ((dats m 0 d).arrAt_in 1 rfl _).trans (Body.V_of_ne m d main_arg1 (by decide) (by decide) (by decide) (by decide) (by decide))
  have e6 : (dats m 0 d).arrAt 6 cfg0.N = m ((SparseCore.T d).loc main_arg8) := ((dats m 0 d).arrAt_in 6 rfl _).trans (Body.V_of_ne m d main_arg8 (by decide) (by decide) (by decide) (by decide) (by decide))
  have e8 : (dats m 0 d).arrAt 8 cfg0.N = result m d := Body.final_o m d
  rw [e0, e1, e6, e8]
  iintro ⟨H0, H1, -, -, -, -, H6, -, H8⟩
  isplitl [H0]; · iexact H0
  isplitl [H1]; · iexact H1
  isplitl [H6]; · iexact H6
  iexact H8

theorem call_in (d : Dev nD) :
    iprop((∃ r, prngReg d r) ∗ Pipeline.prefHeld (pcfgs (F := F) 0).pre d (fun _ => fullShare) (adm0 (F := F) 0).1 ∗ Pipeline.scopedRest spec0 d) ⊢ (dats m 0 d).Φ 0 := by
  refine BIBase.Entails.trans ?_ (Body.hin m d)
  unfold PhiA
  iintro ⟨HX, -, HR⟩
  isplitl [HR] <;> iassumption

theorem call_out (d : Dev nD) :
    iprop((dats m 0 d).Φ (Fin.last cfg0.N) ∗ Pipeline.cellsSems0 cfgs 0 d ∗ Dat.staging cfg0 d ∗ idle (F := F) d)
      ⊢ iprop((∃ r, prngReg d r) ∗ scopedSems0 (d.tc : Thread nD τ) ∗ scopedBufs (d.tc : Thread nD τ)) := by
  rw [sems_split, bufs_split, Pipeline.ownSems0_none]
  iintro ⟨HΦ, Hcells, Hst, Hidle⟩
  ihave H := (Body.hout m d) $$ HΦ
  unfold PhiA
  icases H with ⟨HR, HX⟩
  isplitl [HX]; · iexact HX
  isplitl [Hcells Hidle]
  · isplitl [Hcells]
    · isplitl [Hcells]; · iexact Hcells
      iempintro
    iexact Hidle
  isplitl [Hst] <;> iassumption

theorem waits (d : Dev nD) : levAts (K (F := F)).L (K (F := F)).lev ⊢ (Pipeline.cellsWaits cfgs (dats m) none 0 d : sProp 𝕄) :=
  Pipeline.cellsWaits_of_cut cfgs (dats m) none 0 d (L := (K (F := F)).L) (lev := (K (F := F)).lev) 0 ((K (F := F)).Otc d 0) (fun _ => rfl)
    (fun _ _ => Finset.mem_univ _) (fun _ _ => le_refl 0)
    fun g i h => ⟨Finset.mem_univ _, Nat.lt_of_lt_of_le (Nat.succ_pos _) (SparseCore.Cfg.lev_of_Otc_pos h)⟩

theorem owing_in (d : Dev nD) : owing (F := F) d ⊢ (dats m 0 d).owesAt none 0 := by
  unfold Dat.owesAt Pipeline.owesWithin
  iintro ⟨%W, %hW, HW⟩
  iexists W
  isplitr
  · ipureintro; exact fun p hp => Or.inl (hW p hp)
  iexact HW

theorem owing_out (d : Dev nD) : (dats m 0 d).owesAt none (Fin.last cfg0.N) ⊢ owing (F := F) d := by
  unfold Dat.owesAt Pipeline.owesWithin
  iintro ⟨%W, %hW, HW⟩
  iexists W
  isplitr
  · ipureintro
    intro p hp
    rcases hW hp with h | ⟨w, s, rfl⟩
    · exact h
    · exact le_refl 0
  iexact HW

/-- The call, in the certificate's own signature. -/
abbrev poolProg : Prog (TpuEff nD τ sig (Elt F) (ΛP (F := F)) Proc.tc) PUnit := Prog.lift (.customCall (Pipeline.entry 0) ())

theorem poolProg_lift : (Prog.lift (.customCall (SparseCore.inner (Pipeline.entry 0)) ()) : Prog (TpuEff nD τ sig (Elt F) (SparseCore.Sig (ΛP (F := F)) 1) Proc.tc) PUnit)
    = SparseCore.liftProg (poolProg (F := F)) := rfl

theorem pool_call [∀ e, Nonempty (Elt F e)] (d : Dev nD) {Φ : PUnit → sProp 𝕄} :
    iprop(levAts (K (F := F)).L (K (F := F)).lev ∗ owing (F := F) d ∗ boundary (SparseCore.T d) ∗ unscopedBufs d (V m d) ∗ (∃ r, prngReg d r) ∗ gP (F := F) d
        ∗ ((owing (F := F) d ∗ boundary (SparseCore.T d) ∗ (((SparseCore.T d).loc main_arg0 ↦{fullShare} m ((SparseCore.T d).loc main_arg0)) ∗ ((SparseCore.T d).loc main_arg1 ↦{fullShare} m ((SparseCore.T d).loc main_arg1))
              ∗ ((SparseCore.T d).loc main_arg8 ↦{fullShare} m ((SparseCore.T d).loc main_arg8)) ∗ ((SparseCore.T d).loc main_v5 ↦{fullShare} result m d))
            ∗ Pipeline.unscopedRest spec0 d (V m d)) -∗ Φ ⟨⟩))
      ⊢ wp frame (wpE ((K (F := F)).defs (D (F := F))) 𝒱 (SparseCore.T d) none) Set.univ (Prog.lift (.customCall (SparseCore.inner (Pipeline.entry 0)) ())) Φ := by
  rw [poolProg_lift]
  refine BIBase.Entails.trans ?_ ((K (F := F)).wp_liftProg (D (F := F)) 𝒱 (SparseCore.T d) Set.univ none (poolProg (F := F)) Φ)
  iintro ⟨Hlev, How, Hb, Hub, HX, ⟨Hg, Ht⟩, Hk⟩
  ihave Hb' := (show boundary (SparseCore.T d) ⊢ iprop(scopedBufs (d.tc : Thread nD τ) ∗ scopedSems0 (d.tc : Thread nD τ) ∗ opIdle (d.tc : Thread nD τ)) from BI.Entails.refl _) $$ Hb
  icases Hb' with ⟨Hsc, Hss, Hidl⟩
  ihave Hss' := (Entails.of_eq (sems_split (F := F) d)) $$ Hss
  icases Hss' with ⟨⟨Hcells, -⟩, Hidle⟩
  ihave Hub' := (Pipeline.arrays_of_unscopedBufs pcfgs adm0 (dats m) (p := 0) winFacts0 arr_whole0 d (fun w => (dats m 0 d).share_full (fun _ => rfl) w) (V m d)
    (fun w => Body.A_eq m d w)) $$ Hub
  icases Hub' with ⟨Harr, Hur⟩
  iapply (fupd_wp frame (wpE (D (F := F)) 𝒱 (SparseCore.T d) none) Set.univ _ _)
  imod (Pipeline.cellsInit_alloc cfgs (dats m) EP cellOf_inj 0 d) $$ [Hcells Hg] with ⟨%κ, -, Hinit⟩
  · isplitl [Hcells] <;> iassumption
  imodintro
  iapply (Pipeline.wp_customCall_entry_frame pcfgs adm0 (dats m) none EP κ cellOf_inj 0 defs₀ 𝒱₀ (fun _ => fullShare) d Set.univ (fun _ _ => Set.mem_univ _)
      (Body.body_obligation m d).loose block_pos0 none (fun u h => nomatch h) (X := iprop(∃ r, prngReg d r)) (Y := iprop(∃ r, prngReg d r))
      (R := Pipeline.scopedRest spec0 d) (I := idle (F := F) d) (Entails.of_eq (bufs_split (F := F) d)) (call_in m d) (call_out m d)) $$ [Hlev How Harr Hinit Ht HX Hidle Hsc]
  · isplitl [Hlev How Harr Hinit Ht]
    · unfold Pipeline.EntryPre Pipeline.PerCore.EntryPre
      isplitl [Harr]; · iexact Harr
      isplitl [How]; · iapply (owing_in m d); iexact How
      isplitl [Hlev]; · iapply (waits m d); iexact Hlev
      isplitl [Hinit] <;> iassumption
    isplitr
    · rw [Pipeline.prefHeld_of_none _ rfl]; iempintro
    isplitl [HX]; · iexact HX
    isplitl [Hidle]; · iexact Hidle
    iexact Hsc
  unfold Pipeline.EntryPost Pipeline.PerCore.EntryPost
  iintro ⟨⟨Ha, Ho⟩, -, Hss, Hsc⟩
  rw [wp_ret]; imodintro
  iapply Hk
  isplitl [Ho]; · iapply (owing_out m d); iexact Ho
  isplitl [Hsc Hss Hidl]
  · iapply (show iprop(scopedBufs (d.tc : Thread nD τ) ∗ scopedSems0 (d.tc : Thread nD τ) ∗ opIdle (d.tc : Thread nD τ)) ⊢ (boundary (SparseCore.T d) : sProp 𝕄) from BI.Entails.refl _)
    isplitl [Hsc]; · iexact Hsc
    isplitl [Hss]; · iexact Hss
    iexact Hidl
  isplitl [Ha]; · iapply (arrays_last m d); iexact Ha
  iexact Hur

end Cert.Proof.Sc

end
-- ==== Proof.Main.lean ====
module

public import proofs.«01_k».proof.Proof.Kits
public import proofs.«01_k».proof.Proof.Split
public import proofs.«01_k».proof.Proof.PoolCall
public import Idealize.ShloMosaic.Lib.Pipeline.Frame

/-! @main on the TensorCore — the layout of the arguments, the pooling call, the reshape of the row numbers, then the SparseCore call —
    and the program's run. -/

@[expose] public section

set_option maxRecDepth 16384

noncomputable section

namespace Cert.Proof.Sc

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic
open Idealize.ShloMosaic.StableHlo (held held_split wp_hlo_within)

variable {F : FTy → Type} [FloatOps F]
local notation "𝕄" => MT nD τ sig (HIx 1) (Elt F) ℕ UU ℕ

variable (m : (ℓ : Loc nD τ sig) → Buf (Elt F) ℓ) (ρ : Dev nD → PrngReg)

/-- The skip positions and the row numbers. -/
abbrev sLoc (d : Dev nD) : Loc nD τ sig := (SparseCore.T d).loc main_arg4
abbrev bLoc (d : Dev nD) : Loc nD τ sig := (SparseCore.T d).loc main_arg5

/-! ## The arrays' contents -/

/-- The pooled table the first call leaves. -/
def plOf (d : Dev nD) : Buf (Elt F) (pLoc d) := Body.result m d
def xsOf (d : Dev nD) : Buf (Elt F) (xLoc d) := m (xLoc d)
def o0Of (d : Dev nD) : Buf (Elt F) (oLoc d) := m (oLoc d)
/-- The row numbers, in rows of 128. -/
def ixOf (d : Dev nD) : Buf (Elt F) (iLoc d) := fun y => (m (bLoc d) : Buf (Elt F) (bLoc d)) (Shape.reshapeEquiv shapeCasts_S65536_S512x128 y)

theorem ixOf_lt (h : ∀ d y, (m (bLoc d) y : BitVec 32).toNat < 16) (d : Dev nD) (y) : (ixOf m d y : BitVec 32).toNat < 16 := h d _

abbrev PM : (K (F := F)).Pay (nD := nD) (Val := Elt F) (Name := ℕ) (U := UU) := P (plOf m) (ixOf m) (xsOf m) (o0Of m)
/-- The output, from the arguments. -/
def outOf (d : Dev nD) : Buf (Elt F) (oLoc d) := OUT d (plOf m d) (ixOf m d) (xsOf m d)

/-! ## @main -/

abbrev b' : DevRef τ sig := Proc.devRef .tc (main_arg5 : Ref sig .tc)
abbrev i' : DevRef τ sig := Proc.devRef .tc (main_v6 : Ref sig .tc)
abbrev opR : HloOp τ sig (Elt F) := StableHlo.reshape main_arg5 main_v6 (rfl : (.i32 : EltTy) = .i32) shapeCasts_S65536_S512x128
abbrev S2 : Finset (DevRef τ sig) := {b', i'}
theorem hR : (opR (F := F)).bufs ⊆ S2 := by rw [StableHlo.reshape_bufs]
/-- The contents before the reshape, where it looks. -/
def V0 (d : Dev nD) : Valuation τ sig (Elt F) := fun b => m (d, b)

omit [FloatOps F] in
theorem held_S2 (d : Dev nD) (W : Valuation τ sig (Elt F)) :
    (held (SparseCore.T d) S2 W : sProp 𝕄) = iprop((bLoc d ↦{fullShare} W b') ∗ (iLoc d ↦{fullShare} W i')) := by
  unfold held S2
  rw [SparseCore.bigSep_insert' (by decide), bigSep_singleton]

theorem held_R (d : Dev nD) :
    (held (SparseCore.T d) S2 ((opR (F := F)).result (V0 m d)) : sProp 𝕄) = iprop((bLoc d ↦{fullShare} m (bLoc d)) ∗ (iLoc d ↦{fullShare} ixOf m d)) := by
  rw [held_S2, show (opR (F := F)).result (V0 m d) b' = m (bLoc d) from StableHlo.reshape_result_ne _ _ _ _ _ _ _ (by decide),
    show (opR (F := F)).result (V0 m d) i' = ixOf m d from StableHlo.reshape_result' _ _ _ _ _]

/-- The arrays the pooling call has no window on are as launched. -/
theorem rest_eq (d : Dev nD) : (Pipeline.unscopedRest spec0 d (Body.V m d) : sProp 𝕄)
    = iprop(((SparseCore.T d).loc main_arg2 ↦{fullShare} m ((SparseCore.T d).loc main_arg2)) ∗ (xLoc d ↦{fullShare} m (xLoc d)) ∗ (sLoc d ↦{fullShare} m (sLoc d)) ∗ (bLoc d ↦{fullShare} m (bLoc d))
      ∗ ((SparseCore.T d).loc main_arg6 ↦{fullShare} m ((SparseCore.T d).loc main_arg6)) ∗ ((SparseCore.T d).loc main_arg7 ↦{fullShare} m ((SparseCore.T d).loc main_arg7)) ∗ ((SparseCore.T d).loc main_arg9 ↦{fullShare} m ((SparseCore.T d).loc main_arg9))
      ∗ (iLoc d ↦{fullShare} m (iLoc d)) ∗ (oLoc d ↦{fullShare} m (oLoc d))) := by
  have e : ∀ b : Ref sig .tc, b ∈ [main_arg2, main_arg3, main_arg4, main_arg5, main_arg6, main_arg7, main_arg9, main_v6, main_v7] → Body.V m d b = m ((SparseCore.T d).loc b) := fun b hb =>
    have h : b ≠ main_v0 ∧ b ≠ main_v1 ∧ b ≠ main_v2 ∧ b ≠ main_v3 ∧ b ≠ main_v4 := by revert b; decide
    Body.V_of_ne m d b h.1 h.2.1 h.2.2.1 h.2.2.2.1 h.2.2.2.2
  rw [unscopedRest0_eq, e main_arg2 (by decide), e main_arg3 (by decide), e main_arg4 (by decide), e main_arg5 (by decide), e main_arg6 (by decide),
    e main_arg7 (by decide), e main_arg9 (by decide), e main_v6 (by decide), e main_v7 (by decide)]

theorem st0_eq (d : Dev nD) : (bigSep Finset.univ fun c : Fin ((K (F := F)).nCore 0) => (PM m).st 0 d c)
    = iprop(((pLoc d ↦{fullShare} plOf m d) ∗ (iLoc d ↦{fullShare} ixOf m d) ∗ (xLoc d ↦{fullShare} m (xLoc d))) ∗ oLoc d ↦{fullShare} m (oLoc d)) :=
  st_all (plOf m) (ixOf m) (xsOf m) d (o0Of m d)

/-- Every tile's barrier semaphore at zero. -/
abbrev allBars (d : Dev nD) : sProp 𝕄 := bigSep Finset.univ fun c : Fin 2 => bars d c

theorem dn0_eq (d : Dev nD) : (bigSep Finset.univ fun c : Fin ((K (F := F)).nCore 0) => (PM m).dn 0 d c)
    = iprop((((pLoc d ↦{fullShare} plOf m d) ∗ (iLoc d ↦{fullShare} ixOf m d) ∗ (xLoc d ↦{fullShare} m (xLoc d))) ∗ oLoc d ↦{fullShare} outOf m d) ∗ allBars d) :=
  (bigSep_sep' (s := (Finset.univ : Finset (Fin 2))) (Φ := fun c => stP (plOf m) (ixOf m) (xsOf m) d c (outOf m d)) (Ψ := fun c => bars d c)).trans
    (congrArg (fun X => iprop(X ∗ allBars d)) (st_all (plOf m) (ixOf m) (xsOf m) d (outOf m d)))

/-- The program's arguments. -/
abbrev argRefs : Finset (Ref sig .tc) := {main_arg0, main_arg1, main_arg2, main_arg3, main_arg4, main_arg5, main_arg6, main_arg7, main_arg8, main_arg9}

/-- What @main leaves the claim: the arguments at their launch contents, the output, the barrier semaphores. -/
abbrev FIN (d : Dev nD) : sProp 𝕄 :=
  iprop((bigSep argRefs fun b => (SparseCore.T d).loc b ↦{fullShare} m ((SparseCore.T d).loc b)) ∗ (oLoc d ↦{fullShare} outOf m d) ∗ allBars d)

theorem args_eq (d : Dev nD) : (bigSep argRefs fun b => (SparseCore.T d).loc b ↦{fullShare} m ((SparseCore.T d).loc b) : sProp 𝕄)
    = iprop(((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ (xLoc d ↦{fullShare} m (xLoc d)) ∗ (sLoc d ↦{fullShare} m (sLoc d)) ∗ (bLoc d ↦{fullShare} m (bLoc d))
      ∗ ((SparseCore.T d).loc main_arg6 ↦{fullShare} m ((SparseCore.T d).loc main_arg6)) ∗ ((SparseCore.T d).loc main_arg7 ↦{fullShare} m ((SparseCore.T d).loc main_arg7))
      ∗ ((SparseCore.T d).loc main_arg8 ↦{fullShare} m ((SparseCore.T d).loc main_arg8)) ∗ ((SparseCore.T d).loc main_arg9 ↦{fullShare} m ((SparseCore.T d).loc main_arg9))) := by
  unfold argRefs
  rw [SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- @main: the layout operations, the pooling call, the reshape, the SparseCore call. -/
theorem main_eq (d : Dev nD) : main (F := F) d = (StableHlo.seq Body.hostOps0 >>= fun _ =>
    (Prog.lift (.customCall (SparseCore.inner (Pipeline.entry 0)) ()) : Prog (TpuEff nD τ sig (Elt F) (SparseCore.Sig (ΛP (F := F)) 1) Proc.tc) PUnit) >>= fun _ =>
      StableHlo.seq [opR] >>= fun _ => (K (F := F)).run d 0) := rfl

theorem hostOps0_fresh : (Body.hostOps0 (F := F)).Forall fun op => op.fresh = ∅ := ⟨rfl, rfl, rfl, rfl, rfl⟩

theorem start_eq (d : Dev nD) : (unscopedBufs d (fun b => m ((SparseCore.T d).loc b)) : sProp 𝕄) = held (SparseCore.T d) (Pipeline.ucRefs τ sig) (V0 m d) :=
  Pipeline.unscopedBufs_held d (V0 m d)

theorem laid_eq (d : Dev nD) : (unscopedBufs d (Body.V m d) : sProp 𝕄) = held (SparseCore.T d) (Pipeline.ucRefs τ sig) (StableHlo.after Body.hostOps0 (V0 m d)) :=
  Pipeline.unscopedBufs_held d (StableHlo.after Body.hostOps0 (V0 m d))

/-- The rest of the TensorCore's state before the SparseCore call. -/
abbrev tcLater (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ (bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1))))

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ gP d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_eq, main_eq]
  iintro ⟨#Hctx, Hst, ⟨Hb, Hu, Hts, Hprng⟩, HG⟩
  iapply (StableHlo.wp_seq 𝒱 none Set.univ d (Pipeline.ucRefs τ sig) _ Body.hostOps0
    (fun op h => Pipeline.sub_ucRefs op ((List.forall_iff_forall_mem.mp Body.hostOps0_sub) op h))
    (fun op h => List.forall_iff_forall_mem.mp (hostOps0_fresh (F := F)) op h) (V0 m d)) $$ [Hb Hu]
  · isplitl [Hb] <;> iassumption
  rw [← laid_eq]
  iintro ⟨Hb, Hu⟩
  rw [wp_bind]
  ihave Hlev := ((K (F := F)).ctx_levAts κ) $$ Hctx
  ihave Hst' := (Entails.of_eq (show (K (F := F)).tcSt EH d 0 = iprop(owing (F := F) d ∗ tcLater d) from rfl)) $$ Hst
  icases Hst' with ⟨How, Hlater⟩
  iapply (pool_call m d)
  isplitl [Hlev]; · iexact Hlev
  isplitl [How]; · iexact How
  isplitl [Hb]; · iexact Hb
  isplitl [Hu]; · iexact Hu
  isplitl [Hprng]; · iexists _; iexact Hprng
  isplitl [HG]; · iexact HG
  rw [rest_eq]
  iintro ⟨How, Hb, ⟨H0, H1, H8, Hp⟩, ⟨H2, Hx, Hs, Hbt, H6, H7, H9, Hi, Ho⟩⟩
  iapply (StableHlo.wp_seq 𝒱 none Set.univ d S2 _ [opR] (fun op h => by rw [List.mem_singleton.mp h]; exact hR)
    (fun op h => by rw [List.mem_singleton.mp h]; rfl) (V0 m d)) $$ [Hb Hbt Hi]
  · isplitl [Hb]; · iexact Hb
    rw [held_S2]
    isplitl [Hbt]; · iexact Hbt
    iexact Hi
  iintro ⟨Hb, Hheld⟩
  ihave Hh := (Entails.of_eq (show held (SparseCore.T d) S2 (StableHlo.after [opR] (V0 m d)) = _ from held_R (F := F) m d)) $$ Hheld
  icases Hh with ⟨Hbt, Hi⟩
  iapply ((K (F := F)).wp_run (D (F := F)) 𝒱 (EH := EH) (P := PM m) κ d 0) $$ [How Hlater H0 H1 H2 H6 H7 H8 H9 Hp Hx Hs Hbt Hi Ho Hb Hts]
  isplitr; · iexact Hctx
  isplitl [How Hlater]
  · iapply (Entails.of_eq (show iprop(owing (F := F) d ∗ tcLater d) = (K (F := F)).tcSt EH d 0 from rfl))
    isplitl [How] <;> iassumption
  isplitl [Hp Hx Hi Ho]
  · rw [st0_eq]
    isplitl [Hp Hx Hi]
    · isplitl [Hp]; · iexact Hp
      isplitl [Hi]; · iexact Hi
      iexact Hx
    iexact Ho
  iintro ⟨Hst, Hdn⟩
  ihave Hdn' := (Entails.of_eq (dn0_eq m d)) $$ Hdn
  icases Hdn' with ⟨⟨⟨-, -, Hx⟩, Ho⟩, Hbars⟩
  isplitl [Hst]; · iexact Hst
  isplitr [Hb Hts]
  · isplitr [Ho Hbars]
    · rw [args_eq]
      isplitl [H0]; · iexact H0
      isplitl [H1]; · iexact H1
      isplitl [H2]; · iexact H2
      isplitl [Hx]; · iexact Hx
      isplitl [Hs]; · iexact Hs
      isplitl [Hbt]; · iexact Hbt
      isplitl [H6]; · iexact H6
      isplitl [H7]; · iexact H7
      isplitl [H8]; · iexact H8
      iexact H9
    isplitl [Ho]; · iexact Ho
    iexact Hbars
  isplitl [Hb] <;> iassumption

/-! ## What the final state reads -/

/-- What the claims read of device `d`'s memory. -/
def got (d : Dev nD) (mem : (ℓ : Loc nD τ sig) → Buf (Elt F) ℓ) : Prop :=
  (∀ b ∈ argRefs, mem ((SparseCore.T d).loc b) = m ((SparseCore.T d).loc b)) ∧ mem (oLoc d) = outOf m d

def fq (d : Dev nD) (s' : Phys nD τ sig (Elt F)) : Prop :=
  got m d s'.mem.mem ∧ ∀ (c : Fin 2) (i : Fin 16), s'.mem.sem (bcell d (cV (coordsV c i)) (jV (coordsV c i))) = 0

omit [FloatOps F] in
theorem hfin_pt (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := fun x hx =>
  have r : ∀ {Q : sProp 𝕄} {φ : Prop}, (FIN m d ⊢ Q) → (iprop(Q ∗ SI s') ⊢ (⌜φ⌝ : sProp 𝕄)) → φ := fun h h' => ((sep_mono_left h).trans h') x hx
  ⟨⟨fun b hb => r (sep_elim_left.trans (SparseCore.ent (bigSep_elim hb))) (hfin_pt _ _ s'), r (sep_elim_right.trans sep_elim_left) (hfin_pt _ _ s')⟩,
    fun c i => r (sep_elim_right.trans (sep_elim_right.trans
      (SparseCore.ent ((bigSep_elim (Finset.mem_univ c)).trans (bigSep_elim (Finset.mem_univ i))))))
      (SparseCore.Cfg.semVal_zero_read _ s')⟩

/-- The barrier cells, taken at the launch, end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 c i

/-! ## The program's run -/

def QC : PUnit × MemSt nD τ sig (Elt F) → Prop := fun r => (∀ d : Dev nD, got m d r.2.mem) ∧ r.2.sem = fun _ => 0

theorem run_main [∀ e, Nonempty (Elt F e)] (hix : ∀ d y, (m (bLoc d) y : BitVec 32).toNat < 16) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (hA := hA m) facts v₀
    (fun q hq => match q with | 0 => nomatch hq)
    (fun q _ => match q with | 0 => tileObl (pl := plOf m) (ix := ixOf m) (xs := xsOf m) (o0 := o0Of m) (ixOf_lt m hix) facts)
    (fun q _ => match q with | 0 => vecSplit (pl := plOf m) (ix := ixOf m) (xs := xsOf m) (o0 := o0Of m))
    m ρ main (fun d => gP (F := F) d) (FIN m) (u₀ (F := F)) (hu₀ (plOf m) (ixOf m) (xsOf m) (o0Of m)) (hmain m ρ) (fq m) (hfin m) (QC m)
    (fun _ h hz => ⟨fun d => (h d).1, hz⟩)

end Cert.Proof.Sc

end
-- ==== Proof.Eq.lean ====
module

public import proofs.«01_k».proof.Proof.Main
public import proofs.«01_k».proof.Proof.Value

/-! The kernel's output is the reference's. -/

@[expose] public section

set_option maxRecDepth 16384

noncomputable section

namespace Cert.Proof.Eq

open Cert.KernelIdeal Cert.KernelIdeal.Gen Cert.Proof.Sc Cert.Proof.Value
open Idealize.ShloMosaic hiding ix1 ix2
open Idealize.ShloMosaic.ValueIdx Idealize.ShloMosaic.Routing

variable (m : (ℓ : Loc nD τ sig) → Buf (Elt Ideal) ℓ)

/-- The row number of skip point `n`, as the call reads it, is the argument's. -/
theorem rowOf_eq (d : Dev nD) (n : ℕ) (hn : n < 65536) : rowOf d (ixOf m d) n hn = (m (bLoc d) (ix1 (⟨n, hn⟩ : Fin 65536)) : BitVec 32).toNat := by
  unfold rowOf ixOf
  refine congrArg (fun y => (m (bLoc d) y : BitVec 32).toNat) ?_
  apply Shape.reshapeEquiv_eq_of_rowMajor
  rw [Shape.rowMajor_val_two, Shape.rowMajor_val_one]
  show n = n / 128 * 128 + n % 128
  omega

theorem out_eq (d : Dev nD) (hp : ∀ i, ∃ r : ℝ, m (sLoc d) i = (r : EReal)) (hi : ∀ n, (m (bLoc d) n : BitVec 32).toNat < 16) :
    outOf m d = refOut (plOf m d) (m (xLoc d)) (m (sLoc d)) (m (bLoc d)) := by
  funext y
  unfold outOf OUT
  by_cases h : (y 1).val < 128
  · rw [dif_pos h, refOut_left (plOf m d) (m (xLoc d)) (m (sLoc d)) (m (bLoc d)) hp hi y ⟨(y 0).val, row_lt y⟩ ⟨(y 1).val, h⟩ rfl rfl]
    refine congrArg (plOf m d) (funext fun a => Fin.ext ?_)
    match a with
    | 0 =>
      show rowOf d (ixOf m d) (y 0).val (row_lt y) % 16 = (m (bLoc d) (ix1 (⟨(y 0).val, row_lt y⟩ : Fin 65536)) : BitVec 32).toNat
      rw [rowOf_eq, Nat.mod_eq_of_lt (hi _)]
    | 1 => rfl
  · rw [dif_neg h, refOut_right (plOf m d) (m (xLoc d)) (m (sLoc d)) (m (bLoc d)) y ⟨(y 0).val, row_lt y⟩ ⟨(y 1).val - 128, by have := col_lt y; omega⟩ rfl (by show 128 + ((y 1).val - 128) = _; omega)]
    refine congrArg (m (xLoc d)) (funext fun a => Fin.ext ?_)
    match a with
    | 0 => rfl
    | 1 => rfl

end Cert.Proof.Eq

end
-- ==== Proof.Pre.lean ====
module

public import proofs.«01_k».proof.Proof.Gen.Pre_in_range
public import proofs.«01_k».proof.Proof.Gen.Pre_sorted_ids
public import proofs.«01_k».proof.Proof.Gen.Pre_sorted_batch
public import Idealize.ShloMosaic.Lib.IdealHost
public import Idealize.ShloMosaic.Lib.ReduceAll
public import Idealize.ShloMosaic.Lib.StableHlo.Predicate
public import Idealize.ShloMosaic.Lib.ValueIdx
public import Idealize.ShloMosaic.Lib.Pointwise

/-! The preconditions, read: every row number is one of the table's sixteen, the segment numbers are among the sixteen and sorted,
    every skip position is of reals. -/

@[expose] public section

set_option maxRecDepth 16384

noncomputable section

namespace Cert.Proof.Pre

open Idealize.ShloMosaic Idealize.ShloMosaic.StableHlo.Predicate

theorem and_one {a b : BitVec 1} (h : IntOp.andi a b = 1#1) : a = 1#1 ∧ b = 1#1 := by
  revert a b; decide

/-- A word at least 0 and below 16, read signed, is below 16 read unsigned. -/
theorem lt_of_signed {x : BitVec 32} (h : IntOp.andi (IntOp.cmpi .sge x 0#32) (IntOp.cmpi .slt x 16#32) = 1#1) : x.toNat < 16 := by
  obtain ⟨h1, h2⟩ := and_one h
  unfold IntOp.cmpi at h1 h2
  rw [ofBool_eq_one_iff] at h1 h2
  have e1 : (0 : Int) ≤ x.toInt := by simpa [BitVec.sle] using h1
  have e2 : x.toInt < 16 := by simpa [BitVec.slt] using h2
  rw [BitVec.toInt_eq_toNat_cond] at e1 e2
  split at e1 <;> omega

theorem in_range_read {F : FTy → Type} [FloatOps F] (a0 a1 a2 a3 a4) (ids : IVec Pre_in_range.S65536 32) (a6 a7 a8 a9)
    (h : Cert.Pre_in_range.fn (F := F) a0 a1 a2 a3 a4 ids a6 a7 a8 a9 = fun _ => 1#1) (n) : (ids n).toNat < 16 := by
  haveI : Subsingleton Pre_in_range.S_.Idx := ⟨fun a b => funext fun k => k.elim0⟩
  exact lt_of_signed (Host.reduce_andi_all _ _ _ _ _ (congrFun h fun k => k.elim0) n)

theorem real_of_abs_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  unfold Ideal.cmp at h
  rw [ofBool_eq_one_iff] at h
  have h' : max x (-x) < ⊤ := by simpa using h
  induction x using EReal.rec with
  | bot => simp at h'
  | coe r => exact ⟨r, rfl⟩
  | top => simp at h'

/-- Of two words below 16, one not above the other read signed is not above it read unsigned. -/
theorem le_of_signed {x y : BitVec 32} (hx : x.toNat < 16) (hy : y.toNat < 16) (h : IntOp.cmpi .sle x y = 1#1) : x.toNat ≤ y.toNat := by
  unfold IntOp.cmpi at h
  rw [ofBool_eq_one_iff] at h
  have e : x.toInt ≤ y.toInt := by simpa [BitVec.sle] using h
  rw [BitVec.toInt_eq_toNat_cond, BitVec.toInt_eq_toNat_cond, if_pos (by omega), if_pos (by omega)] at e
  omega

/-- Segment numbers among the sixteen, each not above the next one read signed, are sorted. -/
theorem mono_of_steps (ids : IVec Pre_sorted_ids.S16384 32) (hr : ∀ n : Fin 16384, (ids (ix1 n)).toNat < 16)
    (hs : ∀ n : Fin 16383, IntOp.cmpi .sle (ids (ix1 n.castSucc)) (ids (ix1 n.succ)) = 1#1) : Monotone fun n : Fin 16384 => (ids (ix1 n)).toNat :=
  (Fin.monotone_iff_le_succ (n := 16383)).mpr fun n => le_of_signed (hr _) (hr _) (hs n)

/-- A slice of the segment numbers, read. -/
theorem slice_at (ids : IVec Pre_sorted_ids.S16384 32) (k : Fin 16384) (i : Pre_sorted_ids.S16384.Idx) (hi : (i 0).val = k.val) : ids i = ids (ix1 k) :=
  congrArg ids (funext fun a => by fin_cases a; exact Fin.ext hi)

/-- The comparison of the two slices, read as a step from each number to the next. -/
theorem step_of_slices (ids : IVec Pre_sorted_ids.S16384 32) (n : Fin 16383)
    (h : IntOp.cmpi .sle (ids fun a => ⟨![0] a + (ix1 n a).val, by fin_cases a; have := n.isLt; show 0 + n.val < 16384; omega⟩)
      (ids fun a => ⟨![1] a + (ix1 n a).val, by fin_cases a; have := n.isLt; show 1 + n.val < 16384; omega⟩) = 1#1) :
    IntOp.cmpi .sle (ids (ix1 n.castSucc)) (ids (ix1 n.succ)) = 1#1 := by
  have i0 := slice_at ids n.castSucc (fun a => ⟨![0] a + (ix1 n a).val, by fin_cases a; have := n.isLt; show 0 + n.val < 16384; omega⟩) (by show 0 + n.val = n.val; omega)
  have i1 := slice_at ids n.succ (fun a => ⟨![1] a + (ix1 n a).val, by fin_cases a; have := n.isLt; show 1 + n.val < 16384; omega⟩) (by show 1 + n.val = n.val + 1; omega)
  rw [← i0, ← i1]
  exact h

/-- The precondition of the whole kernel's value claim: the skip points' row numbers, the skip positions, the points' segments and their order. -/
theorem sorted_ids_read (a0 a1) (ids : IVec Pre_sorted_ids.S16384 32) (a3) (pos : FVec Ideal Pre_sorted_ids.S65536x3 .f32) (rows : IVec Pre_sorted_ids.S65536 32) (a6 a7 a8 a9)
    (h : Cert.Pre_sorted_ids.fn (F := Ideal) a0 a1 ids a3 pos rows a6 a7 a8 a9 = fun _ => 1#1) :
    (∀ n, (rows n).toNat < 16) ∧ (∀ i, ∃ r : ℝ, pos i = (r : EReal))
      ∧ (∀ n : Fin 16384, (ids (ix1 n)).toNat < 16) ∧ Monotone fun n : Fin 16384 => (ids (ix1 n)).toNat := by
  haveI : Subsingleton Pre_sorted_ids.S_.Idx := ⟨fun a b => funext fun k => k.elim0⟩
  obtain ⟨h012, h3⟩ := and_one (congrFun h fun k => k.elim0)
  obtain ⟨h01, h2⟩ := and_one h012
  obtain ⟨h0, h1⟩ := and_one h01
  have hr : ∀ n : Fin 16384, (ids (ix1 n)).toNat < 16 := fun n => lt_of_signed (Host.reduce_andi_all _ _ _ _ _ h1 (ix1 n))
  exact ⟨fun n => lt_of_signed (Host.reduce_andi_all _ _ _ _ _ h0 n), fun i => real_of_abs_lt (Host.reduce_andi_all _ _ _ _ _ h3 i), hr,
    mono_of_steps ids hr fun n => step_of_slices ids n (Host.reduce_andi_all _ _ _ _ _ h2 (ix1 n))⟩

/-- The precondition of the pooling call's value claim: the points' segments and their order. -/
theorem sorted_batch_read (a0 a1) (ids : IVec Pre_sorted_batch.S16384 32) (a3 a4 a5 a6)
    (h : Cert.Pre_sorted_batch.fn (F := Ideal) a0 a1 ids a3 a4 a5 a6 = fun _ => 1#1) :
    (∀ n : Fin 16384, (ids (ix1 n)).toNat < 16) ∧ Monotone fun n : Fin 16384 => (ids (ix1 n)).toNat := by
  haveI : Subsingleton Pre_sorted_batch.S_.Idx := ⟨fun a b => funext fun k => k.elim0⟩
  obtain ⟨h1, h2⟩ := and_one (congrFun h fun k => k.elim0)
  have hr : ∀ n : Fin 16384, (ids (ix1 n)).toNat < 16 := fun n => lt_of_signed (Host.reduce_andi_all _ _ _ _ _ h1 (ix1 n))
  exact ⟨hr, mono_of_steps ids hr fun n => step_of_slices ids n (Host.reduce_andi_all _ _ _ _ _ h2 (ix1 n))⟩

end Cert.Proof.Pre

end
-- ==== Proof.Same.lean ====
module

public import proofs.«01_k».proof.Defs
public import proofs.«01_k».proof.Proof.Gen.Kernel
public import proofs.«01_k».proof.Proof.Gen.KernelIdeal

/-! The kernel and its idealization are the same text: their body tables and their threads agree. -/

@[expose] public section

set_option maxRecDepth 16384
set_option maxHeartbeats 2000000

noncomputable section

namespace Cert.Proof

open Idealize.ShloMosaic Idealize.SL.Sem

theorem same_main : Kernel.main (F := Bits) = KernelIdeal.main (F := Bits) := rfl

theorem same_bodies : Kernel.defs₀ (F := Bits) = KernelIdeal.defs₀ (F := Bits) := by
  funext k l a
  match k, l, a with
  | .tc, 0, (t, s) => rfl
  | .scVector c s, 1, _ => rfl
  | .tc, 1, _ => rfl
  | .scVector c s, 0, _ => rfl
  | .scScalar _, 0, _ => rfl
  | .scScalar _, 1, _ => rfl

theorem same_defs : Kernel.defs (F := Bits) = KernelIdeal.defs (F := Bits) :=
  congrArg (fun b => KernelIdeal.sc.defs (Pipeline.defs KernelIdeal.pcfgs b)) same_bodies

theorem same_threads : Kernel.threads (F := Bits) = KernelIdeal.threads (F := Bits) := rfl

end Cert.Proof

end
-- ==== Proof.PoolMax.lean ====
module

public import proofs.«01_k».proof.Proof.PoolPt
public import Idealize.ShloMosaic.Lib.Pipeline.ValueKit
public import Idealize.ShloMosaic.Lib.Pointwise
public import Idealize.ShloMosaic.Lib.ValueIdx
public import Idealize.ShloMosaic.Lib.IdealHost
public import Idealize.ShloMosaic.Lib.WordArith
public import Idealize.ShloMosaic.Lib.Pipeline.Value

/-! The maxima of a grid point, over the extended reals: a segment's entry of the point is below a bound exactly when the
    rows of the block between the segment's two bounds are. -/

@[expose] public section

set_option maxRecDepth 16384

noncomputable section

namespace Cert.KernelIdeal.Max

open Cert.KernelIdeal Cert.KernelIdeal.Gen Cert.KernelIdeal.Body
open Idealize.ShloMosaic

theorem bot : Ideal.ofBits .f32 0xFF800000#32 = (⊥ : EReal) := by
  simp [Ideal.ofBits, Ideal.ieee]

/-! ## Words -/

theorem sle_iff (a b : Nat) (ha : a < 2 ^ 31) (hb : b < 2 ^ 31) :
    (BitVec.ofNat 32 a).sle (BitVec.ofNat 32 b) = true ↔ a ≤ b := by
  rw [BitVec.sle_iff_toInt_le, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  omega

theorem slt_iff (a b : Nat) (ha : a < 2 ^ 31) (hb : b < 2 ^ 31) :
    (BitVec.ofNat 32 a).slt (BitVec.ofNat 32 b) = true ↔ a < b := by
  rw [BitVec.slt_iff_toInt_lt, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  omega

theorem sge_one (a b : Nat) (ha : a < 2 ^ 31) (hb : b < 2 ^ 31) :
    IntOp.cmpi .sge (BitVec.ofNat 32 a) (BitVec.ofNat 32 b) = 1#1 ↔ b ≤ a := by
  rw [← sle_iff b a hb ha]
  show BitVec.ofBool ((BitVec.ofNat 32 b).sle (BitVec.ofNat 32 a)) = 1#1 ↔ _
  cases (BitVec.ofNat 32 b).sle (BitVec.ofNat 32 a) <;> decide

theorem slt_one (a b : Nat) (ha : a < 2 ^ 31) (hb : b < 2 ^ 31) :
    IntOp.cmpi .slt (BitVec.ofNat 32 a) (BitVec.ofNat 32 b) = 1#1 ↔ a < b := by
  rw [← slt_iff a b ha hb]
  show BitVec.ofBool ((BitVec.ofNat 32 a).slt (BitVec.ofNat 32 b)) = 1#1 ↔ _
  cases (BitVec.ofNat 32 a).slt (BitVec.ofNat 32 b) <;> decide

theorem and_one : ∀ p q : BitVec 1, IntOp.andi p q = 1#1 ↔ p = 1#1 ∧ q = 1#1 := by decide

theorem sel {α : Type} (c : BitVec 1) (a b : α) : Scalar.select c a b = if c = 1#1 then a else b := rfl

/-- A bound counted from the first row of a block and clipped to the block. -/
theorem clip_eq (i : grid0.Coords) (n : Nat) (hn : n ≤ 16384) :
    clip i (BitVec.ofNat 32 n) = BitVec.ofNat 32 (min 4096 (n - 4096 * (i 0).val)) := by
  have hk : (i 0).val < 4 := (i 0).isLt
  unfold clip
  generalize (i 0).val = k at hk
  apply BitVec.eq_of_toNat_eq
  have e := WordArith.toNat_maxsi_zero (Scalar.subi (BitVec.ofNat 32 n) (Scalar.muli (BitVec.ofNat 32 k) 4096#32))
  have e2 : (Scalar.subi (BitVec.ofNat 32 n) (Scalar.muli (BitVec.ofNat 32 k) 4096#32)).toInt = (n : Int) - 4096 * k := by
    show (BitVec.ofNat 32 n - BitVec.ofNat 32 k * 4096#32).toInt = _
    rw [BitVec.toInt_eq_toNat_cond, BitVec.toNat_sub, BitVec.toNat_mul]
    simp only [BitVec.toNat_ofNat]
    interval_cases k <;> split <;> omega
  rw [e2] at e
  have e3 := WordArith.toNat_minsi_of_lt 4096#32 (IntOp.maxsi 0#32 (Scalar.subi (BitVec.ofNat 32 n) (Scalar.muli (BitVec.ofNat 32 k) 4096#32))) (by decide) (by rw [e]; omega)
  rw [e] at e3
  refine e3.trans ?_
  simp only [BitVec.toNat_ofNat]
  omega

theorem startLo_eq (a : Nat) (ha : a ≤ 4096) : startLo (BitVec.ofNat 32 a) = BitVec.ofNat 32 (min a 4032) := by
  apply BitVec.eq_of_toNat_eq
  refine (WordArith.toNat_minsi_of_lt (BitVec.ofNat 32 a) 4032#32 (by rw [BitVec.toNat_ofNat]; omega) (by decide)).trans ?_
  simp only [BitVec.toNat_ofNat]
  omega

theorem startHi_eq (c : Nat) (hc : c ≤ 4096) : startHi (BitVec.ofNat 32 c) = BitVec.ofNat 32 (min 4032 (c - 64)) := by
  apply BitVec.eq_of_toNat_eq
  have e := WordArith.toNat_maxsi_zero (Scalar.subi (BitVec.ofNat 32 c) 64#32)
  have e2 : (Scalar.subi (BitVec.ofNat 32 c) 64#32).toInt = (c : Int) - 64 := by
    show (BitVec.ofNat 32 c - 64#32).toInt = _
    rw [BitVec.toInt_eq_toNat_cond, BitVec.toNat_sub]
    simp only [BitVec.toNat_ofNat]
    split <;> omega
  rw [e2] at e
  have e3 := WordArith.toNat_minsi_of_lt 4032#32 (IntOp.maxsi 0#32 (Scalar.subi (BitVec.ofNat 32 c) 64#32)) (by decide) (by rw [e]; omega)
  rw [e] at e3
  refine e3.trans ?_
  simp only [BitVec.toNat_ofNat]
  omega

theorem glo_word : ∀ a : Fin 4097, IntOp.shli .vector (IntOp.shrsi .vector (IntOp.addi (BitVec.ofNat 32 a.val) 63#32) 6#32) 3#32
    = BitVec.ofNat 32 ((a.val + 63) / 64 * 8) := by decide +kernel

theorem ghi_word : ∀ a : Fin 4097, IntOp.shli .vector (IntOp.shrsi .vector (BitVec.ofNat 32 a.val) 6#32) 3#32
    = BitVec.ofNat 32 (a.val / 64 * 8) := by decide +kernel

/-! ## The three kinds of maximum -/

theorem edge_le (a c st : Nat) (ha : a ≤ 4096) (hc : c ≤ 4096) (hst : st ≤ 4032) (e : Vec Ideal S64x128 .f32) (d : Fin 128) (z : EReal) :
    edge (F := Ideal) (BitVec.ofNat 32 a) (BitVec.ofNat 32 c) (BitVec.ofNat 32 st) e (ix2 0 d) ≤ z
      ↔ ∀ r : Fin 64, a ≤ r.val + st → r.val + st < c → e (ix2 r d) ≤ z := by
  unfold edge
  pointwise
  rw [Finset.fold_max_le, bot]
  refine (and_iff_right bot_le).trans ⟨fun h r h1 h2 => ?_, fun h r _ => ?_⟩
  · have := h r (Finset.mem_univ r)
    rwa [show IntOp.addi (BitVec.ofNat 32 r.val) (BitVec.ofNat 32 st) = BitVec.ofNat 32 (r.val + st) from (BitVec.ofNat_add ..).symm,
      sel, if_pos ((and_one _ _).mpr ⟨(sge_one _ _ (by omega) (by omega)).mpr h1, (slt_one _ _ (by omega) (by omega)).mpr h2⟩)] at this
  · rw [show IntOp.addi (BitVec.ofNat 32 r.val) (BitVec.ofNat 32 st) = BitVec.ofNat 32 (r.val + st) from (BitVec.ofNat_add ..).symm, sel]
    split
    · rename_i hh
      obtain ⟨h1, h2⟩ := (and_one _ _).mp hh
      exact h r ((sge_one _ _ (by omega) (by omega)).mp h1) ((slt_one _ _ (by omega) (by omega)).mp h2)
    · exact bot_le

theorem groups_le (g : FVec Ideal S512x128 .f32) (M : IVec S512x16 1) (s : Fin 16) (hs) (d : Fin 128) (z : EReal) :
    groups (F := Ideal) g M s.val hs (ix2 0 d) ≤ z ↔ ∀ q : Fin 512, M (ix2 q s) = 1#1 → g (ix2 q d) ≤ z := by
  unfold groups
  pointwise
  rw [Finset.fold_max_le, bot]
  refine (and_iff_right bot_le).trans ⟨fun h q h1 => ?_, fun h q _ => ?_⟩
  · have := h q (Finset.mem_univ q)
    rwa [sel, if_pos h1] at this
  · rw [sel]
    split
    · rename_i hh; exact h q hh
    · exact bot_le

theorem pay40_le (H : Vec Ideal S4096x128 .f32) (q : Fin 512) (d : Fin 128) (z : EReal) :
    k0_pay40 (F := Ideal) H (ix2 q d) ≤ z ↔ ∀ k : Fin 8, H (ix2 ⟨q.val / 8 * 64 + k.val * 8 + q.val % 8, by omega⟩ d) ≤ z := by
  unfold k0_pay40
  pointwise
  exact (Finset.fold_max_le z).trans ⟨fun h k => h.2 k (Finset.mem_univ k), fun h => ⟨bot.le.trans bot_le, fun k _ => h k⟩⟩

theorem mask_at (i : grid0.Coords) (b : Vec Ideal S2x16 .i32) (q : Fin 512) (s : Fin 16) (n0 n1 : Nat) (h0 : n0 ≤ 16384) (h1 : n1 ≤ 16384)
    (e0 : bword b 0 s.val = BitVec.ofNat 32 n0) (e1 : bword b 1 s.val = BitVec.ofNat 32 n1) :
    mask (F := Ideal) i b (ix2 q s) = 1#1
      ↔ (min 4096 (n0 - 4096 * (i 0).val) + 63) / 64 * 8 ≤ q.val ∧ q.val < min 4096 (n1 - 4096 * (i 0).val) / 64 * 8 := by
  unfold mask k0_pay41
  pointwise
  have w0 : brow b 0 (ix2 0 s) = BitVec.ofNat 32 n0 := by
    rw [← e0]; refine congrArg b (funext fun a => Fin.ext ?_); fin_cases a
    · rfl
    · show (0 + s.val) % 16 = s.val % 16; rw [Nat.zero_add]
  have w1 : brow b 1 (ix2 0 s) = BitVec.ofNat 32 n1 := by
    rw [← e1]; refine congrArg b (funext fun a => Fin.ext ?_); fin_cases a
    · rfl
    · show (0 + s.val) % 16 = s.val % 16; rw [Nat.zero_add]
  have c0 := clip_eq i n0 h0
  have c1 := clip_eq i n1 h1
  have g0 := glo_word ⟨min 4096 (n0 - 4096 * (i 0).val), by omega⟩
  have g1 := ghi_word ⟨min 4096 (n1 - 4096 * (i 0).val), by omega⟩
  dsimp only at g0 g1
  rw [← c0] at g0
  rw [← c1] at g1
  rw [w0, w1]
  refine (and_one _ _).trans (and_congr ?_ ?_)
  · refine Iff.trans (Eq.to_iff (congrArg (fun w => IntOp.cmpi .sge (BitVec.ofNat 32 q.val) w = 1#1) g0)) ?_
    exact sge_one _ _ (by omega) (by omega)
  · refine Iff.trans (Eq.to_iff (congrArg (fun w => IntOp.cmpi .slt (BitVec.ofNat 32 q.val) w = 1#1) g1)) ?_
    exact slt_one _ _ (by omega) (by omega)

theorem win_at (X : Vec Ideal S4096x128 .f32) (st : Nat) (hst : st ≤ 4032) (r : Fin 64) (d : Fin 128) :
    win X ![(Scalar.indexCast (BitVec.ofNat 32 st)).toNat, 0] (ix2 r d) = X (ix2 ⟨st + r.val, by omega⟩ d) := by
  refine congrArg X (funext fun a => Fin.ext ?_); fin_cases a
  · show ((BitVec.ofNat 32 st).toNat + r.val) % 4096 = st + r.val
    rw [BitVec.toNat_ofNat]; omega
  · show (0 + d.val) % 128 = d.val
    omega

/-- A segment's row of a point: the maximum of the rows of the block between its two bounds. -/
theorem segRow_le (i : grid0.Coords) (H : Vec Ideal S4096x128 .f32) (b10 b11 : Vec Ideal S2x16 .i32) (s : Fin 16) (hs) (n0 n1 : Nat)
    (h0 : n0 ≤ 16384) (h1 : n1 ≤ 16384)
    (e0 : bword b10 0 s.val = BitVec.ofNat 32 n0) (e1 : bword b10 1 s.val = BitVec.ofNat 32 n1)
    (f0 : bword b11 0 s.val = BitVec.ofNat 32 n0) (f1 : bword b11 1 s.val = BitVec.ofNat 32 n1) (d : Fin 128) (z : EReal) :
    segRow (F := Ideal) i H (k0_pay40 H) (mask i b10) b11 s.val hs (ix2 0 d) ≤ z
      ↔ ∀ r : Fin 4096, n0 ≤ 4096 * (i 0).val + r.val → 4096 * (i 0).val + r.val < n1 → H (ix2 r d) ≤ z := by
  unfold segRow
  rw [f0, f1, clip_eq i n0 h0, clip_eq i n1 h1, startLo_eq _ (by omega), startHi_eq _ (by omega)]
  show max _ (max _ _) ≤ z ↔ _
  rw [max_le_iff, max_le_iff, groups_le, edge_le _ _ _ (by omega) (by omega) (by omega), edge_le _ _ _ (by omega) (by omega) (by omega)]
  simp only [mask_at i b10 _ s n0 n1 h0 h1 e0 e1, pay40_le, win_at H _ (show min (min 4096 (n0 - 4096 * (i 0).val)) 4032 ≤ 4032 by omega),
    win_at H _ (show min 4032 (min 4096 (n1 - 4096 * (i 0).val) - 64) ≤ 4032 by omega)]
  constructor
  · rintro ⟨hg, hl, hh⟩ r hr0 hr1
    by_cases c1 : r.val < min (min 4096 (n0 - 4096 * (i 0).val)) 4032 + 64
    · have := hl ⟨r.val - min (min 4096 (n0 - 4096 * (i 0).val)) 4032, by omega⟩ (by dsimp only; omega) (by dsimp only; omega)
      refine le_of_eq_of_le (congrArg (fun r => H (ix2 r d)) (Fin.ext ?_)) this
      dsimp only; omega
    by_cases c2 : min 4032 (min 4096 (n1 - 4096 * (i 0).val) - 64) ≤ r.val
    · have := hh ⟨r.val - min 4032 (min 4096 (n1 - 4096 * (i 0).val) - 64), by omega⟩ (by dsimp only; omega) (by dsimp only; omega)
      refine le_of_eq_of_le (congrArg (fun r => H (ix2 r d)) (Fin.ext ?_)) this
      dsimp only; omega
    · have := hg ⟨r.val / 64 * 8 + r.val % 8, by omega⟩ (by dsimp only; omega) ⟨r.val / 8 % 8, by omega⟩
      refine le_of_eq_of_le (congrArg (fun r => H (ix2 r d)) (Fin.ext ?_)) this
      dsimp only; omega
  · intro h
    refine ⟨fun q hq k' => h _ ?_ ?_, fun r hr0 hr1 => h _ ?_ ?_, fun r hr0 hr1 => h _ ?_ ?_⟩ <;> (dsimp only; omega)

theorem slices_col : ∀ n : Fin 16, S512x16.Slices ![0, n.val] S512x1 := by decide

/-- Sixteen rows, one below the other. -/
theorem rows16 (w : Fin 16 → FVec Ideal S1x128 .f32) (h) (s : Fin 16) (d : Fin 128) :
    concatenate S16x128 0 [⟨S1x128, w 0⟩, ⟨S1x128, w 1⟩, ⟨S1x128, w 2⟩, ⟨S1x128, w 3⟩, ⟨S1x128, w 4⟩, ⟨S1x128, w 5⟩, ⟨S1x128, w 6⟩, ⟨S1x128, w 7⟩, ⟨S1x128, w 8⟩, ⟨S1x128, w 9⟩, ⟨S1x128, w 10⟩, ⟨S1x128, w 11⟩, ⟨S1x128, w 12⟩, ⟨S1x128, w 13⟩, ⟨S1x128, w 14⟩, ⟨S1x128, w 15⟩] h (ix2 s d) = w s (ix2 0 d) :=
  concatenate_ofFn_unit_apply (t := S16x128) (s₁ := S1x128) 0 w h rfl rfl (ix2 s d) s rfl
    (ix2 0 d) (by
      intro b hb
      have hb0 : b = 1 := by
        fin_cases b
        · exact absurd rfl hb
        · rfl
      subst hb0
      rfl)

theorem point_le (i : grid0.Coords) (H : Vec Ideal S4096x128 .f32) (b : Vec Ideal S2x16 .i32) (o : Vec Ideal S16x128 .f32)
    (s : Fin 16) (n0 n1 : Nat) (h0 : n0 ≤ 16384) (h1 : n1 ≤ 16384)
    (e0 : bword b 0 s.val = BitVec.ofNat 32 n0) (e1 : bword b 1 s.val = BitVec.ofNat 32 n1) (d : Fin 128) (z : EReal) :
    point i H b b o (ix2 s d) ≤ z ↔ o (ix2 s d) ≤ z ∧ ∀ r : Fin 4096, n0 ≤ 4096 * (i 0).val + r.val → 4096 * (i 0).val + r.val < n1 → H (ix2 r d) ≤ z := by
  rw [show point i H b b o (ix2 s d) = max (o (ix2 s d)) (segRow i H (k0_pay40 H) (mask i b) b s.val (slices_col s) (ix2 0 d)) from
      congrArg (max (o (ix2 s d))) (rows16 (fun n => segRow i H (k0_pay40 H) (mask i b) b n.val (slices_col n)) _ s d),
    max_le_iff, segRow_le i H b b s (slices_col s) n0 n1 h0 h1 e0 e1 e0 e1 d z]

end Cert.KernelIdeal.Max

end
-- ==== Proof.PoolVal.lean ====
module

public import proofs.«01_k».proof.Proof.PoolDat
public import proofs.«01_k».proof.Proof.PoolMax

/-! What the four grid points make of the output, over the extended reals: an entry is below a bound exactly when the
    rows between its segment's two bounds are. -/

@[expose] public section

set_option maxRecDepth 16384

noncomputable section

namespace Cert.KernelIdeal.Max

open Cert.KernelIdeal Cert.KernelIdeal.Gen Cert.KernelIdeal.Body
open Idealize.ShloMosaic

theorem coord_eq : ∀ t : Fin cfg0.N, (grid0.coords t 0).val = t.val :=
  (by decide +kernel : ∀ t : Fin grid0.N, (grid0.coords t 0).val = t.val)

theorem chain_le (m) (c : Dev nD) (s : Fin 16) (n0 n1 : Nat) (h0 : n0 ≤ 16384) (h1 : n1 ≤ 16384)
    (e0 : bword (tab (F := Ideal) m c) 0 s.val = BitVec.ofNat 32 n0) (e1 : bword (tab m c) 1 s.val = BitVec.ofNat 32 n1)
    (d : Fin 128) (z : EReal) : ∀ (n : Nat) (h : n < cfg0.N), chain m c n h (ix2 s d) ≤ z ↔
      ∀ t : Fin cfg0.N, t.val ≤ n → ∀ r : Fin 4096, n0 ≤ 4096 * t.val + r.val → 4096 * t.val + r.val < n1 → hid m c t (ix2 r d) ≤ z
  | 0, h => by
    show point (F := Ideal) (grid0.coords ⟨0, h⟩) (hid m c ⟨0, h⟩) (tab m c) (tab m c) (k0_pay38 (F := Ideal)) (ix2 s d) ≤ z ↔ _
    rw [point_le (grid0.coords ⟨0, h⟩) (hid m c ⟨0, h⟩) (tab m c) (k0_pay38 (F := Ideal)) s n0 n1 h0 h1 e0 e1 d z, coord_eq]
    have hb : (k0_pay38 (F := Ideal)) (ix2 s d) ≤ z := by
      rw [show (k0_pay38 (F := Ideal)) (ix2 s d) = (⊥ : EReal) from bot]
      exact bot_le
    constructor
    · rintro ⟨-, hr⟩ t ht
      obtain rfl : t = ⟨0, h⟩ := Fin.ext (Nat.le_zero.mp ht)
      exact hr
    · exact fun H => ⟨hb, H ⟨0, h⟩ (Nat.le_refl 0)⟩
  | n + 1, h => by
    show point (F := Ideal) (grid0.coords ⟨n + 1, h⟩) (hid m c ⟨n + 1, h⟩) (tab m c) (tab m c) (chain m c n (Nat.lt_of_succ_lt h)) (ix2 s d) ≤ z ↔ _
    rw [point_le (grid0.coords ⟨n + 1, h⟩) (hid m c ⟨n + 1, h⟩) (tab m c) (chain m c n (Nat.lt_of_succ_lt h)) s n0 n1 h0 h1 e0 e1 d z, coord_eq, chain_le m c s n0 n1 h0 h1 e0 e1 d z n]
    constructor
    · rintro ⟨hl, hr⟩ t ht
      by_cases hn : t.val ≤ n
      · exact hl t hn
      · obtain rfl : t = ⟨n + 1, h⟩ := Fin.ext (by show t.val = n + 1; omega)
        exact hr
    · exact fun H => ⟨fun t ht => H t (Nat.le_succ_of_le ht), H ⟨n + 1, h⟩ (Nat.le_refl _)⟩

end Cert.KernelIdeal.Max

end
-- ==== Proof.PoolCount.lean ====
module

public import proofs.«01_k».proof.Proof.PoolPt
public import Idealize.ShloMosaic.Lib.WordSum
public import Idealize.ShloMosaic.Lib.Pointwise
public import Idealize.ShloMosaic.Lib.ValueIdx

/-! The bounds of the segments. The kernel counts the ids below a segment's number; where the ids are sorted, a row is
    before that count exactly when its id is below the number. -/

@[expose] public section

set_option maxRecDepth 16384

noncomputable section

namespace Cert.KernelIdeal.Count

open Cert.KernelIdeal Cert.KernelIdeal.Gen Cert.KernelIdeal.Body
open Idealize.ShloMosaic

/-- In a sorted list the entries below `k` are the first ones, as many as there are. -/
theorem lt_count_iff {N : Nat} (f : Fin N → Nat) (hf : Monotone f) (k : Nat) (n : Fin N) :
    n.val < (Finset.univ.filter fun i => f i < k).card ↔ f n < k := by
  constructor
  · intro h
    by_contra hk
    have hs : (Finset.univ.filter fun i => f i < k) ⊆ Finset.Iio n := by
      intro i hi
      rw [Finset.mem_Iio]
      by_contra hni
      exact hk (Nat.lt_of_le_of_lt (hf (not_lt.mp hni)) (Finset.mem_filter.mp hi).2)
    have := Finset.card_le_card hs
    rw [Fin.card_Iio] at this
    omega
  · intro h
    have hs : Finset.Iic n ⊆ Finset.univ.filter fun i => f i < k := by
      intro i hi
      exact Finset.mem_filter.mpr ⟨Finset.mem_univ _, Nat.lt_of_le_of_lt (hf (Finset.mem_Iic.mp hi)) h⟩
    have := Finset.card_le_card hs
    rw [Fin.card_Iic] at this
    omega

variable (B : IVec S16384 32)

/-- How many ids are below a number. -/
def cnt (k : Nat) : Nat := (Finset.univ.filter fun n : Fin 16384 => (B (ix1 n)).toNat < k).card

theorem cnt_le (k : Nat) : cnt B k ≤ 16384 :=
  (Finset.card_le_univ _).trans (le_of_eq (Fintype.card_fin _))

/-- Below a small number, read signed, is below it read unsigned, for an id that is one of the sixteen. -/
theorem slt_word (x : BitVec 32) (hx : x.toNat < 16) (k : Nat) (hk : k ≤ 16) :
    (IntOp.cmpi .slt x (BitVec.ofNat 32 k)).toNat = if x.toNat < k then 1 else 0 := by
  have e : x.slt (BitVec.ofNat 32 k) = true ↔ x.toNat < k := by
    rw [BitVec.slt_iff_toInt_lt, BitVec.toInt_eq_toNat_cond, BitVec.toInt_eq_toNat_cond, BitVec.toNat_ofNat,
      Nat.mod_eq_of_lt (by omega), if_pos (by omega), if_pos (by omega)]
    omega
  show (BitVec.ofBool (x.slt (BitVec.ofNat 32 k))).toNat = _
  by_cases h : x.toNat < k
  · rw [if_pos h, e.mpr h]; rfl
  · rw [if_neg h, Bool.eq_false_iff.mpr (fun q => h (e.mp q))]; rfl

theorem below_eq (hB : ∀ n, (B (ix1 n)).toNat < 16) (k : Nat) (hk : k ≤ 16) (hc : S16384.ShapeCasts S128x128) :
    below (F := Ideal) (shapeCast S128x128 B hc) (BitVec.ofNat 32 k) = BitVec.ofNat 32 (cnt B k) := by
  have hB' : ∀ i, (B i).toNat < 16 := fun i => by
    have e : B (ix1 (i 0)) = B i := congrArg B (funext fun a => by fin_cases a; rfl)
    exact e ▸ hB (i 0)
  let e : S1x128x128.Idx ≃ S16384.Idx :=
    ((Shape.reshapeEquiv shapeCasts_S128x128_S1x128x128).trans (Shape.reshapeEquiv shapeCasts_S128x128_S128x128)).trans (Shape.reshapeEquiv hc)
  let e1 : Fin 16384 ≃ S16384.Idx := ⟨fun n => ix1 n, fun i => i 0, fun n => rfl, fun i => funext fun a => by fin_cases a; rfl⟩
  let src : IVec S1x128x128 32 := shapeCast S1x128x128 (extui 32
    (cmpi .slt (shapeCast S128x128 (shapeCast S128x128 B hc) shapeCasts_S128x128_S128x128) (broadcast S128x128 (BitVec.ofNat 32 k))) natLt_1_32)
    shapeCasts_S128x128_S1x128x128
  have hsrc : ∀ i, (src i).toNat = if (B (e i)).toNat < k then 1 else 0 := fun i => by
    show ((IntOp.cmpi .slt (B (e i)) (BitVec.ofNat 32 k)).setWidth 32).toNat = _
    rw [BitVec.toNat_setWidth, slt_word _ (hB' _) k hk]
    split <;> rfl
  have hsum : ∑ i, (src i).toNat = cnt B k := by
    rw [Finset.sum_congr rfl fun i _ => hsrc i, Equiv.sum_comp e (fun i => if (B i).toNat < k then 1 else 0),
      ← Equiv.sum_comp e1 (fun i => if (B i).toNat < k then 1 else 0), cnt, Finset.card_filter]
    rfl
  haveI : Subsingleton S1.Idx := ⟨fun a b => funext fun q => by fin_cases q; exact Subsingleton.elim (α := Fin 1) _ _⟩
  have hall : ∀ j : S1.Idx, (Finset.univ.filter fun i => reduces_S1x128x128_S1.drop i = j) = Finset.univ := fun j =>
    Finset.filter_true_of_mem fun i _ => Subsingleton.elim _ _
  have hle := cnt_le B k
  have hw : ∀ j : S1.Idx, (multiReductionI .add [1, 2] S1 src 0#32 reduces_S1x128x128_S1 rfl j).toNat = cnt B k := fun j => by
    rw [WordSum.toNat_multiReductionI_add src reduces_S1x128x128_S1 rfl j (by rw [hall, hsum]; omega), hall, hsum]
  apply BitVec.eq_of_toNat_eq
  rw [BitVec.toNat_ofNat, Nat.mod_eq_of_lt (by omega)]
  have hb : below (F := Ideal) (shapeCast S128x128 B hc) (BitVec.ofNat 32 k) = multiReductionI .add [1, 2] S1 src 0#32 reduces_S1x128x128_S1 rfl
      (Shape.reshapeEquiv shapeCasts_S1_S1x1x1 fun a => ⟨(![0, 0, 0] : Fin 3 → Nat) a, inpos_S1x1x1_p0_0_0 a⟩) := by
    unfold below extractAt
    rw [shapeCast]
  rw [hb, hw]

/-- The first row of a segment, and the row after its last. -/
def lo (s : Nat) : Nat := if s = 0 then 0 else cnt B s
def hi (s : Nat) : Nat := if s = 15 then 16384 else cnt B (s + 1)

theorem lo_le (s : Nat) : lo B s ≤ 16384 := by unfold lo; split; omega; exact cnt_le B s
theorem hi_le (s : Nat) : hi B s ≤ 16384 := by unfold hi; split; omega; exact cnt_le B _

theorem bword_lo (hB : ∀ n, (B (ix1 n)).toNat < 16) (s : Fin 16) (hc) :
    bword (F := Ideal) (bounds (shapeCast S128x128 B hc)) 0 s.val = BitVec.ofNat 32 (lo B s.val) := by
  rw [bword_bounds _ 0 s.val (by omega) s.isLt, bval, if_pos rfl, lo]
  split
  · rfl
  · exact below_eq B hB s.val (by omega) hc

theorem bword_hi (hB : ∀ n, (B (ix1 n)).toNat < 16) (s : Fin 16) (hc) :
    bword (F := Ideal) (bounds (shapeCast S128x128 B hc)) 1 s.val = BitVec.ofNat 32 (hi B s.val) := by
  rw [bword_bounds _ 1 s.val (by omega) s.isLt, bval, if_neg (by omega), hi]
  split
  · rfl
  · exact below_eq B hB (s.val + 1) (by omega) hc

/-- Where the ids are sorted, the rows between a segment's bounds are the rows with its number. -/
theorem mem_iff (hB : ∀ n, (B (ix1 n)).toNat < 16) (hm : Monotone fun n : Fin 16384 => (B (ix1 n)).toNat) (s : Fin 16) (n : Fin 16384) :
    (lo B s.val ≤ n.val ∧ n.val < hi B s.val) ↔ (B (ix1 n)).toNat = s.val := by
  have h0 : lo B s.val ≤ n.val ↔ s.val ≤ (B (ix1 n)).toNat := by
    unfold lo
    split
    · omega
    · have := lt_count_iff _ hm s.val n
      rw [← not_lt, ← not_lt]
      exact not_congr this
  have h1 : n.val < hi B s.val ↔ (B (ix1 n)).toNat < s.val + 1 := by
    unfold hi
    split
    · have := hB n; omega
    · exact lt_count_iff _ hm (s.val + 1) n
  rw [h0, h1]
  omega

theorem word_iff {x : BitVec 32} {s : Nat} (hs : s < 16) : x = BitVec.ofNat 32 s ↔ x.toNat = s := by
  rw [← BitVec.toNat_inj, BitVec.toNat_ofNat, Nat.mod_eq_of_lt (by omega)]

end Cert.KernelIdeal.Count

end
-- ==== Proof.PoolHid.lean ====
module

public import proofs.«01_k».proof.Proof.PoolDat
public import proofs.«01_k».proof.Proof.PoolRef
public import Idealize.ShloMosaic.Lib.Pipeline.ValueKit
public import Idealize.ShloMosaic.Lib.Pointwise
public import Idealize.ShloMosaic.Lib.ValueIdx
public import Idealize.ShloMosaic.Lib.IdealHost
public import Idealize.ShloMosaic.Lib.Claim

/-! The two layers: a row of a grid point's block behind them is the reference's row of the whole input. -/

@[expose] public section

set_option maxRecDepth 16384

noncomputable section

namespace Cert.KernelIdeal.Hid

open Cert.KernelIdeal Cert.KernelIdeal.Gen Cert.KernelIdeal.Body
open Cert.ReferenceIdeal.Pool (layers)
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The table of bounds is of the ids. -/
theorem tab_eq (c : Dev nD) : tab m c = bounds (F := Ideal) (shapeCast S128x128 (m ((c : Thread nD τ).loc main_arg2)) shapeCasts_S16384_S128x128) := by
  unfold tab
  congr 1
  funext j
  unfold iblk
  entry_read
  blk_simp [idx t0_0]
  refine congrArg (shapeCast S128x128 (m ((c : Thread nD τ).loc main_arg2)) shapeCasts_S16384_S128x128) (?_ : (win0_2.blk t0_0).view.emb j = j)
  funext a
  apply Fin.ext
  fin_cases a
  · blk_simp [idx t0_0]
  · blk_simp [idx t0_0]

theorem hid_eq (c : Dev nD) (t : Fin cfg0.N) (r : Fin 4096) (d : Fin 128) (n : Fin 16384) (hn : n.val = 4096 * t.val + r.val) :
    hid m c t (ix2 r d) = layers (m ((c : Thread nD τ).loc main_arg0)) (m ((c : Thread nD τ).loc main_arg1)) (m ((c : Thread nD τ).loc main_arg6))
      (m ((c : Thread nD τ).loc main_arg7)) (m ((c : Thread nD τ).loc main_arg8)) (m ((c : Thread nD τ).loc main_arg9)) (ix2 n d) := by
  unfold hid
  pointwise [k0_pay37, layers]
  blk_point [iblk, V, idx t]

end Cert.KernelIdeal.Hid

end
-- ==== Proof.PoolEq.lean ====
module

public import proofs.«01_k».proof.Proof.PoolVal
public import proofs.«01_k».proof.Proof.PoolCount
public import proofs.«01_k».proof.Proof.PoolHid

/-! The pooled output of the call is the reference's, for ids among the sixteen segments and sorted. -/

@[expose] public section

set_option maxRecDepth 16384

noncomputable section

namespace Cert.KernelIdeal.Eq

open Cert.KernelIdeal Cert.KernelIdeal.Gen Cert.KernelIdeal.Body Cert.KernelIdeal.Max Cert.KernelIdeal.Count Cert.KernelIdeal.Hid
open Cert.ReferenceIdeal.Pool (layers pooled pooled_le)
open Idealize.ShloMosaic Idealize.ShloMosaic.TcCoe Idealize.SL.Sem

variable (m : (ℓ : Loc nD τ sig) → Buf (Elt Ideal) ℓ)

theorem points : ∀ t : Fin cfg0.N, t.val ≤ 3 := (by decide +kernel : ∀ t : Fin grid0.N, t.val ≤ 3)

theorem result_eq (c : Dev nD) (B : IVec S16384 32) (hA : B = m ((c : Thread nD τ).loc main_arg2))
    (hB : ∀ n : Fin 16384, (B (ix1 n)).toNat < 16) (hm : Monotone fun n : Fin 16384 => (B (ix1 n)).toNat) :
    result m c = pooled B (layers (m ((c : Thread nD τ).loc main_arg0)) (m ((c : Thread nD τ).loc main_arg1)) (m ((c : Thread nD τ).loc main_arg6))
      (m ((c : Thread nD τ).loc main_arg7)) (m ((c : Thread nD τ).loc main_arg8)) (m ((c : Thread nD τ).loc main_arg9))) := by
  funext j
  obtain ⟨s, d, rfl⟩ : ∃ (s : Fin 16) (d : Fin 128), j = ix2 s d := ⟨j 0, j 1, funext fun a => by fin_cases a <;> rfl⟩
  refine eq_of_forall_ge_iff (α := EReal) fun z => ?_
  have ht := tab_eq m c
  rw [← hA] at ht
  rw [pooled_le, result, chain_le m c s (lo B s.val) (hi B s.val) (lo_le B _) (hi_le B _) (by rw [ht]; exact bword_lo B hB s _)
    (by rw [ht]; exact bword_hi B hB s _) d z]
  constructor
  · intro H n hn
    have hr := (mem_iff B hB hm s n).mpr ((word_iff s.isLt).mp hn)
    have e : 4096 * (n.val / 4096) + n.val % 4096 = n.val := Nat.div_add_mod _ _
    have hN : n.val / 4096 < cfg0.N := lt_of_lt_of_eq (by have := n.isLt; omega) (by decide +kernel : 4 = grid0.N)
    rw [← hid_eq m c ⟨n.val / 4096, hN⟩ ⟨n.val % 4096, Nat.mod_lt _ (by omega)⟩ d n e.symm]
    exact H ⟨n.val / 4096, hN⟩ (points _) ⟨n.val % 4096, Nat.mod_lt _ (by omega)⟩ (le_of_le_of_eq hr.1 e.symm) (lt_of_eq_of_lt e hr.2)
  · intro H t _ r h0 h1
    have hn : 4096 * t.val + r.val < 16384 := by have := points t; have := r.isLt; omega
    rw [hid_eq m c t r d ⟨_, hn⟩ rfl]
    exact H ⟨_, hn⟩ ((word_iff s.isLt).mpr ((mem_iff B hB hm s ⟨_, hn⟩).mp ⟨h0, h1⟩))

end Cert.KernelIdeal.Eq

end
-- ==== Proof.AloneSame.lean ====
module

public import proofs.«01_k».proof.Defs
public import proofs.«01_k».proof.Proof.Gen.Pool
public import proofs.«01_k».proof.Proof.Gen.PoolIdeal

/-! The pooling call by itself, without the call after it. The pool call and its idealization are the same text: their body tables agree. -/

@[expose] public section

set_option maxRecDepth 16384
set_option maxHeartbeats 1000000

noncomputable section

namespace Cert.Proof

open Idealize.ShloMosaic Idealize.SL.Sem

theorem pool_bodies : Pool.defs₀ (F := Bits) = PoolIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

theorem pool_defs : Pool.defs (F := Bits) = PoolIdeal.defs (F := Bits) := congrArg (Pipeline.defs PoolIdeal.pcfgs) pool_bodies

end Cert.Proof

end
-- ==== Proof.AloneRun.lean ====
module

public import proofs.«01_k».proof.Proof.Gen.PoolIdeal.Skeleton
public import proofs.«01_k».proof.Proof.Gen.PoolIdeal.Launch
public import proofs.«01_k».proof.Proof.Gen.PoolIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value
public import Idealize.ShloMosaic.Lib.Pipeline.ValueKit.Basic
public import proofs.«01_k».proof.Proof.PoolPt

/-! The pooling call by itself, without the call after it: the body at a grid point. -/

@[expose] public section

set_option maxRecDepth 16384

noncomputable section

namespace Cert.PoolIdeal.Body

open Cert.PoolIdeal Cert.PoolIdeal.Gen
open Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1360000 in
theorem run_B (c : Dev nD) (i : grid0.Coords) (arg1 : Memref sig .tc .vmem S4096x64 .f32) (harg1 : arg1.IsWhole) (arg2 : Memref sig .tc .vmem S4096x3 .f32) (harg2 : arg2.IsWhole) (arg3 : Memref sig .tc .vmem S128x128 .i32) (harg3 : arg3.IsWhole) (arg4 : Memref sig .tc .vmem S64x64 .f32) (harg4 : arg4.IsWhole) (arg5 : Memref sig .tc .vmem S3x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S16x128 .f32) (harg9 : arg9.IsWhole) (arg10 : Memref sig .tc .vmem S2x16 .i32) (harg10 : arg10.IsWhole) (arg11 : Memref sig .tc .smem S2x16 .i32) (harg11 : arg11.IsWhole) (arg12 : Memref sig .tc .vmem S4096x128 .f32) (harg12 : arg12.IsWhole) (hc0 : ¬first i)
    (x0 : Vec F S4096x64 .f32) (x1 : Vec F S4096x3 .f32) (x2 : Vec F S128x128 .i32) (x3 : Vec F S64x64 .f32) (x4 : Vec F S3x64 .f32) (x5 : Vec F S1x64 .f32) (x6 : Vec F S64x128 .f32) (x7 : Vec F S1x128 .f32) (o : Vec F S16x128 .f32) (b10 b11 : Vec F S2x16 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare o ∗ owns (c : Thread nD τ) arg10 fullShare b10 ∗ owns (c : Thread nD τ) arg11 fullShare b11 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (point i (k0_pay37 x0 x3 x1 x4 x5 x6 x7) b10 b11 o) ∗ owns (c : Thread nD τ) arg10 fullShare b10 ∗ owns (c : Thread nD τ) arg11 fullShare b11 ∗ (∃ d, owns (c : Thread nD τ) arg12 fullShare d)) -∗ K ⟨⟩))
          ⊢ wp frame (wpE (defs₀ (F := F)) Variants.none c none) E (cc0__mlp_segmax_body i arg1 harg1 arg2 harg2 arg3 harg3 arg4 harg4 arg5 harg5 arg6 harg6 arg7 harg7 arg8 harg8 arg9 harg9 arg10 harg10 arg11 harg11 arg12 harg12) K := by
    intro E K
    simp only [cc0__mlp_segmax_body_eq_skeleton]; unfold cc0__mlp_segmax_body_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      refine (View.read_writes_full _ _ _ _ _).trans ?_
      sl_unfold_words
      have hz : (![0, 0] : Fin 2 → Nat) = fun _ => 0 := by funext a; fin_cases a <;> rfl
      unfold k0_pay2
      refine congrArg₂ maximumf ?_ (stack_congr ?_ ?_ ?_ ?_ ?_ ?_ ?_ ?_ ?_ ?_ ?_ ?_ ?_ ?_ ?_ ?_ _ _)
      · simp only [View.readAt_eq_ld, View.read_writes_full (s := S4096x128), harg1.read_unread, harg2.read_unread, harg4.read_unread, harg5.read_unread, harg6.read_unread, harg7.read_unread, harg8.read_unread, harg9.read_unread, harg10.read_unread,
        View.ld_unit_zero (S := S4096x64) hz, View.ld_unit_zero (S := S64x64) hz, View.ld_unit_zero (S := S4096x3) hz, View.ld_unit_zero (S := S3x64) hz, View.ld_unit_zero (S := S1x64) hz, View.ld_unit_zero (S := S64x128) hz, View.ld_unit_zero (S := S1x128) hz, View.ld_unit_zero (S := S16x128) hz, k0_pay39, shapeCast_self, ld_brow]
      all_goals
        simp only [View.readAt_eq_ld, View.read_writes_full (s := S4096x128), harg1.read_unread, harg2.read_unread, harg4.read_unread, harg5.read_unread, harg6.read_unread, harg7.read_unread, harg8.read_unread, harg9.read_unread, harg10.read_unread,
        View.ld_unit_zero (S := S4096x64) hz, View.ld_unit_zero (S := S64x64) hz, View.ld_unit_zero (S := S4096x3) hz, View.ld_unit_zero (S := S3x64) hz, View.ld_unit_zero (S := S1x64) hz, View.ld_unit_zero (S := S64x128) hz, View.ld_unit_zero (S := S1x128) hz, View.ld_unit_zero (S := S16x128) hz, k0_pay39, shapeCast_self, ld_brow]
        exact row_ld i _ _ _ b11 _ _ _ _ (ld_bword_of (harg11.read_unread b11) _ _ _ _) (ld_bword_of (harg11.read_unread b11) _ _ _ _) _ _
    isplitl [HS0]
    · iexists _; isplitr; · ipureintro; exact harg10.read_unread _
      iexact HS0
    isplitl [HS1]
    · iexists _; isplitr; · ipureintro; exact harg11.read_unread _
      iexact HS1
    iexists _; iexists _; isplitr; swap; · iexact HS2
    ipureintro; rfl

instance (i : grid0.Coords) (w : BitVec 32) : ClosedOff (k0_off1 i w) := ⟨![(Scalar.indexCast (startLo (clip i w))).toNat, 0], rfl⟩
instance (i : grid0.Coords) (w : BitVec 32) : ClosedOff (k0_off32 i w) := ⟨![(Scalar.indexCast (startHi (clip i w))).toNat, 0], rfl⟩

set_option maxHeartbeats 1360000 in
theorem run_A (c : Dev nD) (i : grid0.Coords) (arg1 : Memref sig .tc .vmem S4096x64 .f32) (harg1 : arg1.IsWhole) (arg2 : Memref sig .tc .vmem S4096x3 .f32) (harg2 : arg2.IsWhole) (arg3 : Memref sig .tc .vmem S128x128 .i32) (harg3 : arg3.IsWhole) (arg4 : Memref sig .tc .vmem S64x64 .f32) (harg4 : arg4.IsWhole) (arg5 : Memref sig .tc .vmem S3x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S16x128 .f32) (harg9 : arg9.IsWhole) (arg10 : Memref sig .tc .vmem S2x16 .i32) (harg10 : arg10.IsWhole) (arg11 : Memref sig .tc .smem S2x16 .i32) (harg11 : arg11.IsWhole) (arg12 : Memref sig .tc .vmem S4096x128 .f32) (harg12 : arg12.IsWhole) (hc0 : first i)
    (x0 : Vec F S4096x64 .f32) (x1 : Vec F S4096x3 .f32) (x2 : Vec F S128x128 .i32) (x3 : Vec F S64x64 .f32) (x4 : Vec F S3x64 .f32) (x5 : Vec F S1x64 .f32) (x6 : Vec F S64x128 .f32) (x7 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (point i (k0_pay37 x0 x3 x1 x4 x5 x6 x7) (bounds x2) (bounds x2) k0_pay38) ∗ owns (c : Thread nD τ) arg10 fullShare (bounds x2) ∗ owns (c : Thread nD τ) arg11 fullShare (bounds x2) ∗ (∃ d, owns (c : Thread nD τ) arg12 fullShare d)) -∗ K ⟨⟩))
          ⊢ wp frame (wpE (defs₀ (F := F)) Variants.none c none) E (cc0__mlp_segmax_body i arg1 harg1 arg2 harg2 arg3 harg3 arg4 harg4 arg5 harg5 arg6 harg6 arg7 harg7 arg8 harg8 arg9 harg9 arg10 harg10 arg11 harg11 arg12 harg12) K := by
    intro E K
    simp only [cc0__mlp_segmax_body_eq_skeleton]; unfold cc0__mlp_segmax_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    have hz : (![0, 0] : Fin 2 → Nat) = fun _ => 0 := by funext a; fin_cases a <;> rfl
    have hs1 : ∀ (x : FVec F S4096x128 .f32) (h), shapeCast S4096x128 x h = x := fun x h => shapeCast_self x h
    have hs2 : ∀ (x : FVec F S16x128 .f32) (h), shapeCast S16x128 x h = x := fun x h => shapeCast_self x h
    have hX : View.readAt (Elt F) arg3.view (Rect.unit ![0, 0] S128x128.size inb_S128x128_S128x128_0_0).toLoadRect (harg3.unread x2) = x2 := by
      rw [View.readAt_eq_ld, harg3.read_unread, View.ld_unit_zero (S := S128x128) hz]
    have hG0 : Good (F := F) (View.readAt (Elt F) arg3.view (Rect.unit ![0, 0] S128x128.size inb_S128x128_S128x128_0_0).toLoadRect (harg3.unread x2)) (run_A.sl.HS0_2 c arg3 harg3 x2) :=
      good_row _ 1 _ _ (fun s => (congrFun (shapeCast_self _ _) _).trans (words16 (fun n => bval _ 1 n.val) _ _)) _ (good_row _ 0 _ _ (fun s => (congrFun (shapeCast_self _ _) _).trans (words16 (fun n => bval _ 0 n.val) _ _)) _ (good_nil _))
    have hC0 : ∀ y, ∃ p ∈ run_A.sl.HS0_2 (F := F) c arg3 harg3 x2, y ∈ p.1.set := View.cover_of_tiled _ ![1, 16] rfl
    have hv37 : run_A.sl.v37 c arg3 harg3 arg10 x2 = brow (bounds _) 0 := readCov_good _ _ hG0 hC0 0 _
    have hv44 : run_A.sl.v44 c arg3 harg3 arg10 x2 = brow (bounds _) 1 := readCov_good _ _ hG0 hC0 1 _
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      refine (View.read_writes_full _ _ _ _ _).trans ?_
      sl_unfold_words
      refine Eq.trans ?_ (congrArg (fun X => point i (k0_pay37 x0 x3 x1 x4 x5 x6 x7) (bounds X) (bounds X) k0_pay38) hX)
      unfold k0_pay2
      refine congrArg₂ maximumf ?_ (stack_congr ?_ ?_ ?_ ?_ ?_ ?_ ?_ ?_ ?_ ?_ ?_ ?_ ?_ ?_ ?_ ?_ _ _)
      · simp only [View.readAt_eq_ld, View.read_writes_full (s := S4096x128), harg1.read_unread, harg2.read_unread, harg4.read_unread, harg5.read_unread, harg6.read_unread, harg7.read_unread, harg8.read_unread, View.readCov_full (s := S16x128), View.read_writes_full (s := S16x128),
        View.ld_unit_zero (S := S4096x64) hz, View.ld_unit_zero (S := S64x64) hz, View.ld_unit_zero (S := S4096x3) hz, View.ld_unit_zero (S := S3x64) hz, View.ld_unit_zero (S := S1x64) hz, View.ld_unit_zero (S := S64x128) hz, View.ld_unit_zero (S := S1x128) hz, View.ld_unit_zero (S := S16x128) hz, k0_pay39, hs1, hs2, ld_brow]
      all_goals
        simp only [View.readAt_eq_ld, View.read_writes_full (s := S4096x128), harg1.read_unread, harg2.read_unread, harg4.read_unread, harg5.read_unread, harg6.read_unread, harg7.read_unread, harg8.read_unread, View.readCov_full (s := S16x128), View.read_writes_full (s := S16x128),
        View.ld_unit_zero (S := S4096x64) hz, View.ld_unit_zero (S := S64x64) hz, View.ld_unit_zero (S := S4096x3) hz, View.ld_unit_zero (S := S3x64) hz, View.ld_unit_zero (S := S1x64) hz, View.ld_unit_zero (S := S64x128) hz, View.ld_unit_zero (S := S1x128) hz, View.ld_unit_zero (S := S16x128) hz, k0_pay39, hs1, hs2, ld_brow]
        refine Eq.trans (row_ld i _ _ _ (bounds _) _ _ _ _ ?_ ?_ _ _) (congrArg (fun m => segRow i _ _ m _ _ _) (congrArg₂ (k0_pay41 (F := F) (BitVec.ofNat 32 (i 0).val) 4096#32) hv37 hv44))
        all_goals (refine (Eq.trans (bword_bounds _ _ _ ?_ ?_) ?_).symm; decide; decide; rfl)
    isplitl [HS0]
    · iexists _; isplitr; swap; · iexact HS0
      ipureintro
      exact (read_good _ _ _ hG0 hC0).trans (congrArg bounds hX)
    isplitl [HS1]
    · iexists _; isplitr; swap; · iexact HS1
      ipureintro
      refine (read_good _ _ _ (?_ : Good (View.readAt (Elt F) arg3.view (Rect.unit ![0, 0] S128x128.size inb_S128x128_S128x128_0_0).toLoadRect (harg3.unread x2)) _) (View.cover_of_tiled _ ![1, 1] rfl)).trans (congrArg bounds hX)
      repeat refine good_word _ _ _ _ _ _ rfl rfl _ ?_
      exact good_nil _
    iexists _; iexists _; isplitr; swap; · iexact HS2
    ipureintro; rfl

end Cert.PoolIdeal.Body

end
-- ==== Proof.AloneDat.lean ====
module

public import proofs.«01_k».proof.Proof.Gen.PoolIdeal.Frame
public import proofs.«01_k».proof.Proof.AloneRun
public import Idealize.ShloMosaic.Lib.Pipeline.Value
public import Idealize.ShloMosaic.Lib.Claim

/-! The pooling call by itself, without the call after it. The pooling call over its four grid points: what its buffers hold between the points (the bounds in both tables, the
    running maximum in the output), the run, and the result array. -/

@[expose] public section

set_option maxRecDepth 16384

noncomputable section

namespace Cert.PoolIdeal.Body

open Cert.PoolIdeal Cert.PoolIdeal.Gen
open Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, first (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    rw [show t.val = 0 ↔ t.val % 4 = 0 by omega]
    simp only [first, e0]
    word_cmp
   : ∀ t : Fin grid0.N, first (grid0.coords t) ↔ t.val = 0)

/-- The bounds the first point computes. -/
def tab (c : Dev nD) : Vec F S2x16 .i32 := bounds (iblk m c 2 t0_0)

/-- The block of point `t` behind the two layers. -/
def hid (c : Dev nD) (t : Fin cfg0.N) : Vec F S4096x128 .f32 :=
  k0_pay37 (iblk m c 0 t) (iblk m c 3 t) (iblk m c 1 t) (iblk m c 4 t) (iblk m c 5 t) (iblk m c 6 t) (iblk m c 7 t)

/-- The running maximum after point `n`. -/
def chain (c : Dev nD) : (n : ℕ) → n < cfg0.N → Vec F S16x128 .f32
  | 0, h => point (grid0.coords ⟨0, h⟩) (hid m c ⟨0, h⟩) (tab m c) (tab m c) k0_pay38
  | n + 1, h => point (grid0.coords ⟨n + 1, h⟩) (hid m c ⟨n + 1, h⟩) (tab m c) (tab m c) (chain c n (Nat.lt_of_succ_lt h))

/-- The memref of each window's block at point `t`. -/
abbrev ms0_0 (t : Fin cfg0.N) : Memref sig .tc .vmem S4096x64 .f32 := win0_0.stage (cfg0.slots t 0)
abbrev ms0_1 (t : Fin cfg0.N) : Memref sig .tc .vmem S4096x3 .f32 := win0_1.stage (cfg0.slots t 1)
abbrev ms0_2 (t : Fin cfg0.N) : Memref sig .tc .vmem S128x128 .i32 := win0_2.stage (cfg0.slots t 2)
abbrev ms0_3 (t : Fin cfg0.N) : Memref sig .tc .vmem S64x64 .f32 := win0_3.stage (cfg0.slots t 3)
abbrev ms0_4 (t : Fin cfg0.N) : Memref sig .tc .vmem S3x64 .f32 := win0_4.stage (cfg0.slots t 4)
abbrev ms0_5 (t : Fin cfg0.N) : Memref sig .tc .vmem S1x64 .f32 := win0_5.stage (cfg0.slots t 5)
abbrev ms0_6 (t : Fin cfg0.N) : Memref sig .tc .vmem S64x128 .f32 := win0_6.stage (cfg0.slots t 6)
abbrev ms0_7 (t : Fin cfg0.N) : Memref sig .tc .vmem S1x128 .f32 := win0_7.stage (cfg0.slots t 7)
abbrev ms0_8 (t : Fin cfg0.N) : Memref sig .tc .vmem S16x128 .f32 := win0_8.stage (cfg0.slots t 8)
/-- The scratch buffers. -/
abbrev scM0_0 : Memref sig .tc .vmem S2x16 .i32 := Memref.whole cc0_scratch0
abbrev scM0_1 : Memref sig .tc .smem S2x16 .i32 := Memref.whole cc0_scratch1
abbrev scM0_2 : Memref sig .tc .vmem S4096x128 .f32 := Memref.whole cc0_scratch2

/-- The buffers of the call with anything in them. -/
theorem PhiA0_eq (c : Dev nD) :
    (Pipeline.ΦA spec0 c : sProp 𝕄)
      = iprop(iprop((∃ d, owns (c : Thread nD τ) scM0_0 fullShare d) ∗ (∃ d, owns (c : Thread nD τ) scM0_2 fullShare d) ∗ (∃ d, owns (c : Thread nD τ) scM0_1 fullShare d)) ∗ (∃ r, prngReg c r)) := by
  unfold Pipeline.ΦA; rw [scopedRest0_eq]; simp only [scM0_0, scM0_1, scM0_2, owns_whole]; try rfl

/-- What holds before point `n`: at first the scratch buffers hold anything, later both tables hold the bounds. -/
def PhiS (c : Dev nD) (n : ℕ) : sProp 𝕄 :=
  if n = 0 then Pipeline.ΦA spec0 c
  else iprop(iprop(owns (c : Thread nD τ) scM0_0 fullShare (tab m c) ∗ (∃ d, owns (c : Thread nD τ) scM0_2 fullShare d) ∗ owns (c : Thread nD τ) scM0_1 fullShare (tab m c)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => chain m c t.val t.isLt
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = chain m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem pred_lt {t : Fin cfg0.N} : t.val - 1 < cfg0.N := Nat.lt_of_le_of_lt (Nat.sub_le _ _) t.isLt

theorem before0_8 (c : Dev nD) (t : Fin cfg0.N) (ht : t.val ≠ 0) (d) :
    (dats m 0 c).before 8 t d = chain m c (t.val - 1) pred_lt := by
  rw [Dat.before_out_kept (dats m 0 c) 8 rfl t ht (Bool.eq_false_iff.mpr fun hf => by
    have := (flush0_8 _).mp hf; have hN : cfg0.N = 4 := N_0; have := t.isLt; dsimp only at *; omega) (fun _ => rfl) (fun _ _ => rfl) d, after0_8]

theorem chain_first (c : Dev nD) (t : Fin cfg0.N) (ht : t.val = 0) : chain m c t.val t.isLt
    = point (grid0.coords t) (hid m c t) (bounds (iblk m c 2 t)) (bounds (iblk m c 2 t)) k0_pay38 := by
  obtain rfl : t = t0_0 := Fin.ext ht
  rfl

theorem tab_first (c : Dev nD) (t : Fin cfg0.N) (ht : t.val = 0) : tab m c = bounds (iblk m c 2 t) := by
  obtain rfl : t = t0_0 := Fin.ext ht
  rfl

theorem chain_later (c : Dev nD) (t : Fin cfg0.N) (ht : t.val ≠ 0) : chain m c t.val t.isLt
    = point (grid0.coords t) (hid m c t) (tab m c) (tab m c) (chain m c (t.val - 1) pred_lt) := by
  obtain ⟨n, hn⟩ := t
  cases n with
  | zero => exact absurd rfl ht
  | succ n => rfl

theorem PhiS_zero (c : Dev nD) (n : ℕ) (h : n = 0) : PhiS m c n = Pipeline.ΦA spec0 c := if_pos h
theorem PhiS_pos (c : Dev nD) (n : ℕ) (h : n ≠ 0) : PhiS m c n
    = iprop(iprop(owns (c : Thread nD τ) scM0_0 fullShare (tab m c) ∗ (∃ d, owns (c : Thread nD τ) scM0_2 fullShare d) ∗ owns (c : Thread nD τ) scM0_1 fullShare (tab m c)) ∗ (∃ r, prngReg c r)) := if_neg h
theorem Phi_start (c : Dev nD) (t : Fin cfg0.N) : (dats m 0 c).Φ t.castSucc = PhiS m c t.val := by
  dsimp only [dats, Fin.val_castSucc]
theorem Phi_end (c : Dev nD) (t : Fin cfg0.N) : (dats m 0 c).Φ t.succ = PhiS m c (t.val + 1) := by
  dsimp only [dats, Fin.val_succ]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8,
    Phi_start, Phi_end, PhiS_pos m c (t.val + 1) (Nat.succ_ne_zero _)]
  by_cases h : t.val = 0
  · rw [PhiS_zero m c t.val h, PhiA0_eq, chain_first m c t h, tab_first m c t h]
    have h0 : first (grid0.coords t) := (first_iff t).mpr h
    iintro ⟨⟨⟨HS0, HS2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_A c (grid0.coords t) _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS2 HS1 Hg]
    · isplitl [HS0 HS2 HS1]
      · isplitl [HS0]
        · iexact HS0
        isplitl [HS2]
        · iexact HS2
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_8 m c t h]
    rw [PhiS_pos m c t.val h, chain_later m c t h]
    have h0 : ¬first (grid0.coords t) := fun hh => h ((first_iff t).mp hh)
    iintro ⟨⟨⟨HS0, HS2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_B c (grid0.coords t) _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (chain m c (t.val - 1) pred_lt) (tab m c) (tab m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS2 HS1 Hg]
    · isplitl [HS0 HS2 HS1]
      · isplitl [HS0]
        · iexact HS0
        isplitl [HS2]
        · iexact HS2
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  rw [show (dats m 0 c).Φ 0 = PhiS m c 0 by dsimp only [dats, Fin.val_zero], PhiS_zero m c 0 rfl]

theorem hout (c : Dev nD) : (dats m 0 c).Φ (Fin.last cfg0.N) ⊢ (Pipeline.ΦA spec0 c : sProp 𝕄) := by
  rw [show (dats m 0 c).Φ (Fin.last cfg0.N) = PhiS m c cfg0.N by dsimp only [dats, Fin.val_last],
    PhiS_pos m c cfg0.N (by rw [show cfg0.N = 4 from N_0]; decide), PhiA0_eq]
  iintro ⟨⟨HS0, HS2, HS1⟩, Hg⟩
  isplitl [HS0 HS2 HS1]
  · isplitl [HS0]
    · iexists _; iexact HS0
    isplitl [HS2]
    · iexact HS2
    iexists _; iexact HS1
  iexact Hg

set_option backward.isDefEq.respectTransparency.types false in
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What the call leaves in its result array. -/
abbrev result (c : Dev nD) : Buf (Elt F) ((c : Thread nD τ).loc main_v5) := chain m c 3 (by rw [show cfg0.N = 4 from N_0]; decide)

theorem flushed_eq (c : Dev nD) (t : Fin cfg0.N) (hf : (cfg0.win 8).flush t = true) :
    (dats m 0 c).flushed 8 t = ((cfg0.win 8).blk t).view.read (Elt F) (result m c) := by
  have hN : cfg0.N = 4 := N_0
  have h3 : t.val = 3 := by have := (flush0_8 t).mp hf; have := t.isLt; omega
  obtain rfl : t = t0_3 := Fin.ext h3
  show (cfg0.win 8).cut (grid0.coords t0_3) ((dats m 0 c).after 8 t0_3) = _
  rw [after0_8]
  have hz' : (fun a => win0_8.index t0_3 a * main_v5.ty.shape.size a) = fun _ => 0 := funext fun a => by fin_cases a <;> decide
  exact (Memref.read_access_unit_zero (Elt F) main_v5 hz' (fun a => by rw [congrFun hz' a]; simp) (result m c)).symm

theorem final_o (c : Dev nD) : (dats m 0 c).arrAt 8 cfg0.N = result m c :=
  (dats m 0 c).arrAt_eq_of_cover 8 (result m c) (flushed_eq m c) fun i =>
    ⟨t0_3, (flush0_8 t0_3).mpr rfl, by
      show i ∈ ((View.whole main_v5).slice (win0_8.rect t0_3)).set
      rw [View.set_slice_whole, Rect.mem_set_unit]
      intro a
      have h0 : (i 0 : Nat) < 16 := (i 0).isLt
      have h1 : (i 1 : Nat) < 128 := (i 1).isLt
      match a with
      | ⟨0, _⟩ => show win0_8.index t0_3 0 * win0_8.size 0 ≤ (i 0 : Nat) ∧ (i 0 : Nat) < win0_8.index t0_3 0 * win0_8.size 0 + win0_8.xsize (grid0.coords t0_3) 0
                  rw [show win0_8.index t0_3 0 * win0_8.size 0 = 0 from by decide +kernel, show win0_8.xsize (grid0.coords t0_3) 0 = 16 from by decide +kernel]; omega
      | ⟨1, _⟩ => show win0_8.index t0_3 1 * win0_8.size 1 ≤ (i 1 : Nat) ∧ (i 1 : Nat) < win0_8.index t0_3 1 * win0_8.size 1 + win0_8.xsize (grid0.coords t0_3) 1
                  rw [show win0_8.index t0_3 1 * win0_8.size 1 = 0 from by decide +kernel, show win0_8.xsize (grid0.coords t0_3) 1 = 128 from by decide +kernel]; omega⟩

/-- The call runs, leaves its arguments and every semaphore as they were, and its result is the running maximum after the
    last point. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v5) = result m c)
      ∧ r.2.sem = fun _ => 0) :=
  (θ_run defs _ _).mono (fun r h => ⟨fun c => ⟨h.1 c, ((h.2.1 c).1 8).trans (final_o m c)⟩, h.2.2⟩)
    (θ_run_and (frame_of m ρ (dats m) (A_eq m) ((θ_run defs _ _).mono (fun _ h => h.1) (run_quiescent m ρ))) (run_quiescent m ρ))

end Cert.PoolIdeal.Body

end
-- ==== Proof.AloneVal.lean ====
module

public import proofs.«01_k».proof.Proof.AloneDat
public import proofs.«01_k».proof.Proof.PoolMax

/-! The pooling call by itself, without the call after it. What the four grid points make of the output, over the extended reals: an entry is below a bound exactly when the
    rows between its segment's two bounds are. -/

@[expose] public section

set_option maxRecDepth 16384

noncomputable section

namespace Cert.PoolIdeal.Max

open Cert.PoolIdeal Cert.PoolIdeal.Gen Cert.PoolIdeal.Body
open Cert.KernelIdeal.Body Cert.KernelIdeal.Max
open Idealize.ShloMosaic

theorem coord_eq : ∀ t : Fin cfg0.N, (grid0.coords t 0).val = t.val :=
  (by decide +kernel : ∀ t : Fin grid0.N, (grid0.coords t 0).val = t.val)

theorem chain_le (m) (c : Dev nD) (s : Fin 16) (n0 n1 : Nat) (h0 : n0 ≤ 16384) (h1 : n1 ≤ 16384)
    (e0 : bword (tab (F := Ideal) m c) 0 s.val = BitVec.ofNat 32 n0) (e1 : bword (tab m c) 1 s.val = BitVec.ofNat 32 n1)
    (d : Fin 128) (z : EReal) : ∀ (n : Nat) (h : n < cfg0.N), chain m c n h (ix2 s d) ≤ z ↔
      ∀ t : Fin cfg0.N, t.val ≤ n → ∀ r : Fin 4096, n0 ≤ 4096 * t.val + r.val → 4096 * t.val + r.val < n1 → hid m c t (ix2 r d) ≤ z
  | 0, h => by
    show point (F := Ideal) (grid0.coords ⟨0, h⟩) (hid m c ⟨0, h⟩) (tab m c) (tab m c) (k0_pay38 (F := Ideal)) (ix2 s d) ≤ z ↔ _
    rw [point_le (grid0.coords ⟨0, h⟩) (hid m c ⟨0, h⟩) (tab m c) (k0_pay38 (F := Ideal)) s n0 n1 h0 h1 e0 e1 d z, coord_eq]
    have hb : (k0_pay38 (F := Ideal)) (ix2 s d) ≤ z := by
      rw [show (k0_pay38 (F := Ideal)) (ix2 s d) = (⊥ : EReal) from bot]
      exact bot_le
    constructor
    · rintro ⟨-, hr⟩ t ht
      obtain rfl : t = ⟨0, h⟩ := Fin.ext (Nat.le_zero.mp ht)
      exact hr
    · exact fun H => ⟨hb, H ⟨0, h⟩ (Nat.le_refl 0)⟩
  | n + 1, h => by
    show point (F := Ideal) (grid0.coords ⟨n + 1, h⟩) (hid m c ⟨n + 1, h⟩) (tab m c) (tab m c) (chain m c n (Nat.lt_of_succ_lt h)) (ix2 s d) ≤ z ↔ _
    rw [point_le (grid0.coords ⟨n + 1, h⟩) (hid m c ⟨n + 1, h⟩) (tab m c) (chain m c n (Nat.lt_of_succ_lt h)) s n0 n1 h0 h1 e0 e1 d z, coord_eq, chain_le m c s n0 n1 h0 h1 e0 e1 d z n]
    constructor
    · rintro ⟨hl, hr⟩ t ht
      by_cases hn : t.val ≤ n
      · exact hl t hn
      · obtain rfl : t = ⟨n + 1, h⟩ := Fin.ext (by show t.val = n + 1; omega)
        exact hr
    · exact fun H => ⟨fun t ht => H t (Nat.le_succ_of_le ht), H ⟨n + 1, h⟩ (Nat.le_refl _)⟩

end Cert.PoolIdeal.Max

end
-- ==== Proof.AloneHid.lean ====
module

public import proofs.«01_k».proof.Proof.AloneDat
public import proofs.«01_k».proof.Proof.PoolRef
public import Idealize.ShloMosaic.Lib.Pipeline.ValueKit
public import Idealize.ShloMosaic.Lib.Pointwise
public import Idealize.ShloMosaic.Lib.ValueIdx
public import Idealize.ShloMosaic.Lib.IdealHost
public import Idealize.ShloMosaic.Lib.Claim

/-! The pooling call by itself, without the call after it. The two layers: a row of a grid point's block behind them is the reference's row of the whole input. -/

@[expose] public section

set_option maxRecDepth 16384

noncomputable section

namespace Cert.PoolIdeal.Hid

open Cert.PoolIdeal Cert.PoolIdeal.Gen Cert.PoolIdeal.Body
open Cert.KernelIdeal.Body
open Cert.ReferenceIdeal.Pool (layers)
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The table of bounds is of the ids. -/
theorem tab_eq (c : Dev nD) : tab m c = bounds (F := Ideal) (shapeCast S128x128 (m ((c : Thread nD τ).loc main_arg2)) shapeCasts_S16384_S128x128) := by
  unfold tab
  congr 1
  funext j
  unfold iblk
  entry_read
  blk_simp [idx t0_0]
  refine congrArg (shapeCast S128x128 (m ((c : Thread nD τ).loc main_arg2)) shapeCasts_S16384_S128x128) (?_ : (win0_2.blk t0_0).view.emb j = j)
  funext a
  apply Fin.ext
  fin_cases a
  · blk_simp [idx t0_0]
  · blk_simp [idx t0_0]

theorem hid_eq (c : Dev nD) (t : Fin cfg0.N) (r : Fin 4096) (d : Fin 128) (n : Fin 16384) (hn : n.val = 4096 * t.val + r.val) :
    hid m c t (ix2 r d) = layers (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)) (ix2 n d) := by
  unfold hid
  pointwise [k0_pay37, layers]
  blk_point [iblk, V, idx t]

end Cert.PoolIdeal.Hid

end
-- ==== Proof.AloneEq.lean ====
module

public import proofs.«01_k».proof.Proof.AloneVal
public import proofs.«01_k».proof.Proof.PoolCount
public import proofs.«01_k».proof.Proof.AloneHid

/-! The pooling call by itself, without the call after it. The pooled output of the call is the reference's, for ids among the sixteen segments and sorted. -/

@[expose] public section

set_option maxRecDepth 16384

noncomputable section

namespace Cert.PoolIdeal.Eq

open Cert.PoolIdeal Cert.PoolIdeal.Gen Cert.PoolIdeal.Body Cert.PoolIdeal.Max Cert.PoolIdeal.Hid
open Cert.KernelIdeal.Body Cert.KernelIdeal.Max Cert.KernelIdeal.Count
open Cert.ReferenceIdeal.Pool (layers pooled pooled_le)
open Idealize.ShloMosaic Idealize.ShloMosaic.TcCoe Idealize.SL.Sem

variable (m : (ℓ : Loc nD τ sig) → Buf (Elt Ideal) ℓ)

theorem points : ∀ t : Fin cfg0.N, t.val ≤ 3 := (by decide +kernel : ∀ t : Fin grid0.N, t.val ≤ 3)

theorem result_eq (c : Dev nD) (B : IVec S16384 32) (hA : B = m ((c : Thread nD τ).loc main_arg2))
    (hB : ∀ n : Fin 16384, (B (ix1 n)).toNat < 16) (hm : Monotone fun n : Fin 16384 => (B (ix1 n)).toNat) :
    result m c = pooled B (layers (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6))) := by
  funext j
  obtain ⟨s, d, rfl⟩ : ∃ (s : Fin 16) (d : Fin 128), j = ix2 s d := ⟨j 0, j 1, funext fun a => by fin_cases a <;> rfl⟩
  refine eq_of_forall_ge_iff (α := EReal) fun z => ?_
  have ht := tab_eq m c
  rw [← hA] at ht
  rw [pooled_le, result, chain_le m c s (lo B s.val) (hi B s.val) (lo_le B _) (hi_le B _) (by rw [ht]; exact bword_lo B hB s _)
    (by rw [ht]; exact bword_hi B hB s _) d z]
  constructor
  · intro H n hn
    have hr := (mem_iff B hB hm s n).mpr ((word_iff s.isLt).mp hn)
    have e : 4096 * (n.val / 4096) + n.val % 4096 = n.val := Nat.div_add_mod _ _
    have hN : n.val / 4096 < cfg0.N := lt_of_lt_of_eq (by have := n.isLt; omega) (by decide +kernel : 4 = grid0.N)
    rw [← hid_eq m c ⟨n.val / 4096, hN⟩ ⟨n.val % 4096, Nat.mod_lt _ (by omega)⟩ d n e.symm]
    exact H ⟨n.val / 4096, hN⟩ (points _) ⟨n.val % 4096, Nat.mod_lt _ (by omega)⟩ (le_of_le_of_eq hr.1 e.symm) (lt_of_eq_of_lt e hr.2)
  · intro H t _ r h0 h1
    have hn : 4096 * t.val + r.val < 16384 := by have := points t; have := r.isLt; omega
    rw [hid_eq m c t r d ⟨_, hn⟩ rfl]
    exact H ⟨_, hn⟩ ((word_iff s.isLt).mpr ((mem_iff B hB hm s ⟨_, hn⟩).mp ⟨h0, h1⟩))

end Cert.PoolIdeal.Eq

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_sorted_ids
public import proofs.«01_k».proof.Proof.Gen.Pool
public import proofs.«01_k».proof.Proof.Gen.PoolIdeal
public import proofs.«01_k».proof.Proof.Gen.PoolReferenceIdeal
public import proofs.«01_k».proof.Proof.Gen.PoolReferenceIdeal.Run
public import proofs.«01_k».proof.Proof.Gen.Pre_sorted_batch
public import proofs.«01_k».proof.Proof.RefRun
public import proofs.«01_k».proof.Proof.Eq
public import proofs.«01_k».proof.Proof.Pre
public import proofs.«01_k».proof.Proof.Same
public import proofs.«01_k».proof.Proof.PoolEq
public import proofs.«01_k».proof.Proof.AloneSame
public import proofs.«01_k».proof.Proof.AloneEq

/-! The certificate: the whole program runs and leaves its arguments and every semaphore as they were, under `in_range`; the
    reference likewise; and under `sorted_ids` their outputs are equal over the extended reals. Of the pooling call by itself
    the same, its frames with no precondition and its value for sorted segment numbers. -/

@[expose] public section

set_option maxRecDepth 16384

noncomputable section

namespace Cert.Proof

open Idealize.ShloMosaic Idealize.SL.Sem
open Cert.KernelIdeal

/-- The ten arguments, read off the run's end. -/
theorem args_kept {F : FTy → Type} [FloatOps F] {m mem : (ℓ : Loc nD τ sig) → Buf (Elt F) ℓ} {d : Dev nD} (h : Sc.got m d mem) :
    mem ((SparseCore.T d).loc main_arg0) = m ((SparseCore.T d).loc main_arg0) ∧ mem ((SparseCore.T d).loc main_arg1) = m ((SparseCore.T d).loc main_arg1)
      ∧ mem ((SparseCore.T d).loc main_arg2) = m ((SparseCore.T d).loc main_arg2) ∧ mem ((SparseCore.T d).loc main_arg3) = m ((SparseCore.T d).loc main_arg3)
      ∧ mem ((SparseCore.T d).loc main_arg4) = m ((SparseCore.T d).loc main_arg4) ∧ mem ((SparseCore.T d).loc main_arg5) = m ((SparseCore.T d).loc main_arg5)
      ∧ mem ((SparseCore.T d).loc main_arg6) = m ((SparseCore.T d).loc main_arg6) ∧ mem ((SparseCore.T d).loc main_arg7) = m ((SparseCore.T d).loc main_arg7)
      ∧ mem ((SparseCore.T d).loc main_arg8) = m ((SparseCore.T d).loc main_arg8) ∧ mem ((SparseCore.T d).loc main_arg9) = m ((SparseCore.T d).loc main_arg9) :=
  ⟨h.1 main_arg0 (by decide), h.1 main_arg1 (by decide), h.1 main_arg2 (by decide), h.1 main_arg3 (by decide), h.1 main_arg4 (by decide),
    h.1 main_arg5 (by decide), h.1 main_arg6 (by decide), h.1 main_arg7 (by decide), h.1 main_arg8 (by decide), h.1 main_arg9 (by decide)⟩

theorem frame_pi : Cert.quiescent_KernelIdeal := fun m ρ h =>
  (θ_run Cert.KernelIdeal.defs _ _).mono (fun _ r => ⟨fun c => args_kept (r.1 c), r.2⟩)
    (Sc.run_main (F := Ideal) m ρ fun d => Pre.in_range_read _ _ _ _ _ _ _ _ _ _ (h d))

theorem frame_pi_sorted : Cert.quiescent_KernelIdeal_pre_sorted_ids := fun m ρ h =>
  (θ_run Cert.KernelIdeal.defs _ _).mono (fun _ r => ⟨fun c => args_kept (r.1 c), r.2⟩)
    (Sc.run_main (F := Ideal) m ρ fun d => (Pre.sorted_ids_read _ _ _ _ _ _ _ _ _ _ (h d)).1)

/-- The idealization's frame at the kernel's own floats. -/
theorem frame_bits (m : (ℓ : Loc nD τ sig) → Buf (Elt Bits) ℓ) (ρ : Dev nD → PrngReg) (h : Cert.Pre_Kernel m) :
    θ_run (Cert.KernelIdeal.defs (F := Bits)) (Cert.KernelIdeal.threads (F := Bits)) ⟨m, fun _ => 0, ρ⟩ (Sc.QC m) :=
  Sc.run_main (F := Bits) m ρ fun d => Pre.in_range_read _ _ _ _ _ _ _ _ _ _ (h d)

theorem frame_p : Cert.quiescent_Kernel := fun m ρ h => by
  rw [same_defs, same_threads]
  exact (θ_run Cert.KernelIdeal.defs _ _).mono (fun _ r => ⟨fun c => args_kept (r.1 c), r.2⟩) (frame_bits m ρ h)

open Cert.ReferenceIdeal in
/-- The reference leaves its ten arguments. -/
theorem ref_kept {m mem : (ℓ : Loc Cert.ReferenceIdeal.nD Cert.ReferenceIdeal.τ Cert.ReferenceIdeal.sig) → Buf (Elt Ideal) ℓ} {c : Dev Cert.ReferenceIdeal.nD}
    (h : ∀ b : Ref Cert.ReferenceIdeal.sig .tc, b ∉ ReferenceIdeal.Value.writesA → b ∉ ReferenceIdeal.Value.writesB →
      mem ((c.tc : Thread Cert.ReferenceIdeal.nD Cert.ReferenceIdeal.τ).loc b) = m ((c.tc : Thread Cert.ReferenceIdeal.nD Cert.ReferenceIdeal.τ).loc b)) :
    mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) :=
  ⟨h _ (by decide) (by decide), h _ (by decide) (by decide), h _ (by decide) (by decide), h _ (by decide) (by decide), h _ (by decide) (by decide),
    h _ (by decide) (by decide), h _ (by decide) (by decide), h _ (by decide) (by decide), h _ (by decide) (by decide), h _ (by decide) (by decide)⟩

theorem frame_ri : Cert.quiescent_ReferenceIdeal := fun m ρ _ =>
  (θ_run Cert.ReferenceIdeal.defs _ _).mono (fun r h => ⟨fun c => ref_kept (h c).2, sem_eq_zero_of_no_sems (by decide) r.2⟩)
    (Cert.ReferenceIdeal.Value.run m ρ)

theorem frame_ri_sorted : Cert.quiescent_ReferenceIdeal_pre_sorted_ids := fun m ρ _ => frame_ri m ρ trivial

theorem refOut_congr {a a' b b' p p' i i'} (ha : a = a') (hb : b = b') (hp : p = p') (hi : i = i') : Value.refOut a b p i = Value.refOut a' b' p' i' := by
  subst ha hb hp hi; rfl

open Cert.ReferenceIdeal.Pool (pooled layers) in
theorem pooled_congr {B B' x x' p p' w1 w1' b1 b1' w2 w2' b2 b2'} (hB : B = B') (hx : x = x') (hp : p = p') (h1 : w1 = w1') (h2 : b1 = b1')
    (h3 : w2 = w2') (h4 : b2 = b2') : pooled B (layers x p w1 b1 w2 b2) = pooled B' (layers x' p' w1' b1' w2' b2') := by
  subst hB hx hp h1 h2 h3 h4; rfl

theorem value : Cert.algebraic_KernelIdeal_ReferenceIdeal_pre_sorted_ids := fun m ρ m' ρ' hpre hag => by
  have hr := fun d => Pre.sorted_ids_read _ _ _ _ _ _ _ _ _ _ (hpre d)
  refine ⟨fun d => Sc.outOf m d, fun d => m (Sc.sLoc d), fun d => m (Sc.bLoc d), ?_, ?_⟩
  · exact (θ_run Cert.KernelIdeal.defs _ _).mono
      (fun _ r c => ⟨(r.1 c).2, (r.1 c).1 main_arg4 (by decide), (r.1 c).1 main_arg5 (by decide), args_kept (r.1 c)⟩)
      (Sc.run_main (F := Ideal) m ρ fun d => (hr d).1)
  · refine (θ_run Cert.ReferenceIdeal.defs _ _).mono (fun _ r c => ?_) (Cert.ReferenceIdeal.Value.run m' ρ')
    have hk := ref_kept (r c).2
    obtain ⟨a0, a1, a2, a3, a4, a5, a6, a7, a8, a9⟩ := hag c
    obtain ⟨hi, hp, hs, hm⟩ := hr c
    exact ⟨(r c).1.trans ((refOut_congr ((pooled_congr a2 a0 a1 a6 a7 a8 a9).trans (Cert.KernelIdeal.Eq.result_eq m c _ rfl hs hm).symm) a3 a4 a5).trans
      (Eq.out_eq m c hp hi).symm), hk.2.2.2.2.1.trans a4, hk.2.2.2.2.2.1.trans a5, hk⟩

/-! ## The pooling call by itself -/

theorem pool_p : Cert.quiescent_Pool := fun m ρ _ => by
  rw [pool_defs]
  exact (θ_run Cert.PoolIdeal.defs _ _).mono (fun _ r => ⟨fun c => (r.1 c).1, r.2⟩) (Cert.PoolIdeal.Body.run (F := Bits) m ρ)

theorem pool_pi : Cert.quiescent_PoolIdeal := fun m ρ _ =>
  (θ_run Cert.PoolIdeal.defs _ _).mono (fun _ r => ⟨fun c => (r.1 c).1, r.2⟩) (Cert.PoolIdeal.Body.run (F := Ideal) m ρ)

theorem pool_pi_sorted : Cert.quiescent_PoolIdeal_pre_sorted_batch := fun m ρ _ => pool_pi m ρ trivial

theorem pool_ri : Cert.quiescent_PoolReferenceIdeal := fun m ρ _ =>
  (θ_run Cert.PoolReferenceIdeal.defs _ _).mono (fun r h => ⟨fun c => (h c).2, sem_eq_zero_of_no_sems (by decide) r.2⟩)
    (Cert.PoolReferenceIdeal.Value.run (F := Ideal) m ρ)

theorem pool_ri_sorted : Cert.quiescent_PoolReferenceIdeal_pre_sorted_batch := fun m ρ _ => pool_ri m ρ trivial

theorem pool_value : Cert.algebraic_PoolIdeal_PoolReferenceIdeal_pre_sorted_batch := fun m ρ m' ρ' hpre hag => by
  have hr := fun d => Pre.sorted_batch_read _ _ _ _ _ _ _ (hpre d)
  refine ⟨fun c => Cert.PoolIdeal.Body.result m c, ?_, ?_⟩
  · exact (θ_run Cert.PoolIdeal.defs _ _).mono (fun _ r c => ⟨(r.1 c).2, (r.1 c).1⟩) (Cert.PoolIdeal.Body.run (F := Ideal) m ρ)
  · refine (θ_run Cert.PoolReferenceIdeal.defs _ _).mono (fun _ r c => ⟨(r c).1.trans ?_, (r c).2⟩)
      (Cert.PoolReferenceIdeal.Value.run (F := Ideal) m' ρ')
    obtain ⟨a0, a1, a2, a3, a4, a5, a6⟩ := hag c
    exact (pooled_congr a2 a0 a1 a3 a4 a5 a6).trans (Cert.PoolIdeal.Eq.result_eq m c _ rfl (hr c).1 (hr c).2).symm

theorem claim : Cert.Claim :=
  ⟨Cert.Kernel.Gen.facts, Cert.KernelIdeal.Gen.facts, Cert.ReferenceIdeal.Gen.facts, Cert.Pool.Gen.facts, Cert.PoolIdeal.Gen.facts,
    Cert.PoolReferenceIdeal.Gen.facts, Cert.Pre_in_range.Gen.facts, Cert.Pre_sorted_ids.Gen.facts, Cert.Pre_sorted_batch.Gen.facts,
    frame_p, frame_pi, frame_pi_sorted, frame_ri, frame_ri_sorted, pool_p, pool_pi, pool_pi_sorted, pool_ri, pool_ri_sorted,
    trivial, value, trivial, pool_value⟩

end Cert.Proof

end
